-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 4096]⟩ ⟨3, ![4, 4096, 4096]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x4096 : Shape := ⟨3, ![1, 4096, 4096]⟩
abbrev S4096x4096 : Shape := ⟨2, ![4096, 4096]⟩
abbrev S4096 : Shape := ⟨1, ![4096]⟩
abbrev S512x4096 : Shape := ⟨2, ![512, 4096]⟩
abbrev S3x128x4096 : Shape := ⟨3, ![3, 128, 4096]⟩
abbrev S128x4096 : Shape := ⟨2, ![128, 4096]⟩
abbrev S32x128x4096 : Shape := ⟨3, ![32, 128, 4096]⟩
abbrev S2x256x4096 : Shape := ⟨3, ![2, 256, 4096]⟩
abbrev S3 : Shape := ⟨1, ![3]⟩
abbrev S4x4 : Shape := ⟨2, ![4, 4]⟩
abbrev S4x3 : Shape := ⟨2, ![4, 3]⟩
abbrev S_ : Shape := ⟨0, ![]⟩
abbrev S2 : Shape := ⟨1, ![2]⟩
abbrev S1 : Shape := ⟨1, ![1]⟩
abbrev S1x512x4096 : Shape := ⟨3, ![1, 512, 4096]⟩
abbrev S1x128x4096 : Shape := ⟨3, ![1, 128, 4096]⟩
abbrev S128 : Shape := ⟨1, ![128]⟩
abbrev S128x1 : Shape := ⟨2, ![128, 1]⟩
abbrev S1x4096 : Shape := ⟨2, ![1, 4096]⟩
abbrev S1x1 : Shape := ⟨2, ![1, 1]⟩
abbrev S2x128x4096 : Shape := ⟨3, ![2, 128, 4096]⟩
abbrev S256x4096 : Shape := ⟨2, ![256, 4096]⟩
abbrev S1x256x4096 : Shape := ⟨3, ![1, 256, 4096]⟩

abbrev nBuf : Space → Nat
  | .hbm => 4
  | .vmem => 8
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096, .f32⟩
  | .hbm, ⟨3, _⟩ => ⟨S4096x4096, .f32⟩
  | .local _ .vmem, ⟨0, _⟩ => ⟨S4096, .f32⟩
  | .local _ .vmem, ⟨1, _⟩ => ⟨S512x4096, .bf16⟩
  | .local _ .vmem, ⟨2, _⟩ => ⟨S3x128x4096, .bf16⟩
  | .local _ .vmem, ⟨3, _⟩ => ⟨S128x4096, .bf16⟩
  | .local _ .vmem, ⟨4, _⟩ => ⟨S32x128x4096, .bf16⟩
  | .local _ .vmem, ⟨5, _⟩ => ⟨S2x256x4096, .f32⟩
  | .local _ .vmem, ⟨6, _⟩ => ⟨S512x4096, .f32⟩
  | .local _ .vmem, ⟨7, _⟩ => ⟨S128x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 2 → Bool
  | ⟨0, _⟩ => false
  | ⟨1, _⟩ => true
  | _ => false

abbrev dmaSemScoped : Fin 74 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | _ => false

abbrev sig : RefSig :=
  (ofTc nBuf bufTy 2 74 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 3 → Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c512_i32 : BitVec 32 := 512#32
  let v107 : BitVec 32 := Scalar.muli v11 c512_i32
  let c0_i32_56 : BitVec 32 := 0#32
  ![0, v107.toNat, 0]
def k0_off2 (d0 : Dev nD) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c512_i32_57 : BitVec 32 := 512#32
  let v112 : BitVec 32 := Scalar.muli v11 c512_i32_57
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_47 : BitVec 32 := 1#32
  let v96 : BitVec 32 := Scalar.addi v5 c1_i32_47
  let c4_i32_48 : BitVec 32 := 4#32
  let c0_i32_49 : BitVec 32 := 0#32
  let v97 : BitVec 1 := Scalar.cmpi .eq c4_i32_48 c0_i32_49
  let c1_i32_50 : BitVec 32 := 1#32
  let v98 : BitVec 32 := Scalar.select v97 c1_i32_50 c4_i32_48
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let c128_i32 : BitVec 32 := 128#32
  let v113 : BitVec 32 := Scalar.muli v106 c128_i32
  let v114 : BitVec 32 := Scalar.addi v112 v113
  let c0_i32_59 : BitVec 32 := 0#32
  ![v114.toNat, 0]
def k0_dev1 (d0 : Dev nD) : Nat :=
  let c0_i32_62 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_61 : BitVec 32 := 16#32
  let v119 : BitVec 32 := Scalar.muli v2 c16_i32_61
  let v120 : BitVec 32 := Scalar.addi c0_i32_62 v119
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_40 : BitVec 32 := 1#32
  let v85 : BitVec 32 := Scalar.subi v5 c1_i32_40
  let c4_i32_41 : BitVec 32 := 4#32
  let c0_i32_42 : BitVec 32 := 0#32
  let v86 : BitVec 1 := Scalar.cmpi .eq c4_i32_41 c0_i32_42
  let c1_i32_43 : BitVec 32 := 1#32
  let v87 : BitVec 32 := Scalar.select v86 c1_i32_43 c4_i32_41
  let v88 : BitVec 32 := Scalar.remsi v85 v87
  let c0_i32_45 : BitVec 32 := 0#32
  let v90 : BitVec 1 := Scalar.cmpi .slt v88 c0_i32_45
  let c0_i32_46 : BitVec 32 := 0#32
  let v91 : BitVec 1 := Scalar.cmpi .slt v87 c0_i32_46
  let v92 : BitVec 1 := Scalar.xori v90 v91
  let c0_i32_44 : BitVec 32 := 0#32
  let v89 : BitVec 1 := Scalar.cmpi .ne v88 c0_i32_44
  let v93 : BitVec 1 := Scalar.andi v92 v89
  let v94 : BitVec 32 := Scalar.addi v88 v87
  let v95 : BitVec 32 := Scalar.select v93 v94 v88
  let c4_i32_63 : BitVec 32 := 4#32
  let v121 : BitVec 32 := Scalar.muli v95 c4_i32_63
  let v122 : BitVec 32 := Scalar.addi v120 v121
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_64 : BitVec 32 := 1#32
  let v123 : BitVec 32 := Scalar.muli v8 c1_i32_64
  let v124 : BitVec 32 := Scalar.addi v122 v123
  v124.toNat
def k0_dev2 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_66 : BitVec 32 := 16#32
  let v125 : BitVec 32 := Scalar.muli v2 c16_i32_66
  let v126 : BitVec 32 := Scalar.addi c0_i32_67 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v74 : BitVec 32 := Scalar.addi v5 c1_i32_33
  let c4_i32_34 : BitVec 32 := 4#32
  let c0_i32_35 : BitVec 32 := 0#32
  let v75 : BitVec 1 := Scalar.cmpi .eq c4_i32_34 c0_i32_35
  let c1_i32_36 : BitVec 32 := 1#32
  let v76 : BitVec 32 := Scalar.select v75 c1_i32_36 c4_i32_34
  let v77 : BitVec 32 := Scalar.remsi v74 v76
  let c0_i32_38 : BitVec 32 := 0#32
  let v79 : BitVec 1 := Scalar.cmpi .slt v77 c0_i32_38
  let c0_i32_39 : BitVec 32 := 0#32
  let v80 : BitVec 1 := Scalar.cmpi .slt v76 c0_i32_39
  let v81 : BitVec 1 := Scalar.xori v79 v80
  let c0_i32_37 : BitVec 32 := 0#32
  let v78 : BitVec 1 := Scalar.cmpi .ne v77 c0_i32_37
  let v82 : BitVec 1 := Scalar.andi v81 v78
  let v83 : BitVec 32 := Scalar.addi v77 v76
  let v84 : BitVec 32 := Scalar.select v82 v83 v77
  let c4_i32_68 : BitVec 32 := 4#32
  let v127 : BitVec 32 := Scalar.muli v84 c4_i32_68
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_69 : BitVec 32 := 1#32
  let v129 : BitVec 32 := Scalar.muli v8 c1_i32_69
  let v130 : BitVec 32 := Scalar.addi v128 v129
  v130.toNat
def k0_dev3 (d0 : Dev nD) : Nat :=
  let c0_i32_72 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_71 : BitVec 32 := 16#32
  let v131 : BitVec 32 := Scalar.muli v39 c16_i32_71
  let v132 : BitVec 32 := Scalar.addi c0_i32_72 v131
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_73 : BitVec 32 := 4#32
  let v133 : BitVec 32 := Scalar.muli v5 c4_i32_73
  let v134 : BitVec 32 := Scalar.addi v132 v133
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_74 : BitVec 32 := 1#32
  let v135 : BitVec 32 := Scalar.muli v42 c1_i32_74
  let v136 : BitVec 32 := Scalar.addi v134 v135
  v136.toNat
def k0_dev4 (d0 : Dev nD) : Nat :=
  let c0_i32_77 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_76 : BitVec 32 := 16#32
  let v137 : BitVec 32 := Scalar.muli v70 c16_i32_76
  let v138 : BitVec 32 := Scalar.addi c0_i32_77 v137
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_78 : BitVec 32 := 4#32
  let v139 : BitVec 32 := Scalar.muli v5 c4_i32_78
  let v140 : BitVec 32 := Scalar.addi v138 v139
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_79 : BitVec 32 := 1#32
  let v141 : BitVec 32 := Scalar.muli v73 c1_i32_79
  let v142 : BitVec 32 := Scalar.addi v140 v141
  v142.toNat
def k0_off3 (d0 : Dev nD) (c0_i32_87 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v152 : BitVec 32 := Scalar.subi v5 c0_i32_87
  let c4_i32_88 : BitVec 32 := 4#32
  let c0_i32_89 : BitVec 32 := 0#32
  let v153 : BitVec 1 := Scalar.cmpi .eq c4_i32_88 c0_i32_89
  let c1_i32_90 : BitVec 32 := 1#32
  let v154 : BitVec 32 := Scalar.select v153 c1_i32_90 c4_i32_88
  let v155 : BitVec 32 := Scalar.remsi v152 v154
  let c0_i32_92 : BitVec 32 := 0#32
  let v157 : BitVec 1 := Scalar.cmpi .slt v155 c0_i32_92
  let c0_i32_93 : BitVec 32 := 0#32
  let v158 : BitVec 1 := Scalar.cmpi .slt v154 c0_i32_93
  let v159 : BitVec 1 := Scalar.xori v157 v158
  let c0_i32_91 : BitVec 32 := 0#32
  let v156 : BitVec 1 := Scalar.cmpi .ne v155 c0_i32_91
  let v160 : BitVec 1 := Scalar.andi v159 v156
  let v161 : BitVec 32 := Scalar.addi v155 v154
  let v162 : BitVec 32 := Scalar.select v160 v161 v155
  let c128_i32_102 : BitVec 32 := 128#32
  let v175 : BitVec 32 := Scalar.muli v162 c128_i32_102
  let c0_i32_112 : BitVec 32 := 0#32
  ![v175.toNat, 0]
def k0_dev5 (d0 : Dev nD) : Nat :=
  let c0_i32_107 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_106 : BitVec 32 := 16#32
  let v176 : BitVec 32 := Scalar.muli v2 c16_i32_106
  let v177 : BitVec 32 := Scalar.addi c0_i32_107 v176
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v74 : BitVec 32 := Scalar.addi v5 c1_i32_33
  let c4_i32_34 : BitVec 32 := 4#32
  let c0_i32_35 : BitVec 32 := 0#32
  let v75 : BitVec 1 := Scalar.cmpi .eq c4_i32_34 c0_i32_35
  let c1_i32_36 : BitVec 32 := 1#32
  let v76 : BitVec 32 := Scalar.select v75 c1_i32_36 c4_i32_34
  let v77 : BitVec 32 := Scalar.remsi v74 v76
  let c0_i32_38 : BitVec 32 := 0#32
  let v79 : BitVec 1 := Scalar.cmpi .slt v77 c0_i32_38
  let c0_i32_39 : BitVec 32 := 0#32
  let v80 : BitVec 1 := Scalar.cmpi .slt v76 c0_i32_39
  let v81 : BitVec 1 := Scalar.xori v79 v80
  let c0_i32_37 : BitVec 32 := 0#32
  let v78 : BitVec 1 := Scalar.cmpi .ne v77 c0_i32_37
  let v82 : BitVec 1 := Scalar.andi v81 v78
  let v83 : BitVec 32 := Scalar.addi v77 v76
  let v84 : BitVec 32 := Scalar.select v82 v83 v77
  let c4_i32_108 : BitVec 32 := 4#32
  let v178 : BitVec 32 := Scalar.muli v84 c4_i32_108
  let v179 : BitVec 32 := Scalar.addi v177 v178
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_109 : BitVec 32 := 1#32
  let v180 : BitVec 32 := Scalar.muli v8 c1_i32_109
  let v181 : BitVec 32 := Scalar.addi v179 v180
  v181.toNat
def k0_off4 (d0 : Dev nD) (c0_i32_94 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v163 : BitVec 32 := Scalar.subi v5 c0_i32_94
  let c1_i32_95 : BitVec 32 := 1#32
  let v164 : BitVec 32 := Scalar.subi v163 c1_i32_95
  let c4_i32_96 : BitVec 32 := 4#32
  let c0_i32_97 : BitVec 32 := 0#32
  let v165 : BitVec 1 := Scalar.cmpi .eq c4_i32_96 c0_i32_97
  let c1_i32_98 : BitVec 32 := 1#32
  let v166 : BitVec 32 := Scalar.select v165 c1_i32_98 c4_i32_96
  let v167 : BitVec 32 := Scalar.remsi v164 v166
  let c0_i32_100 : BitVec 32 := 0#32
  let v169 : BitVec 1 := Scalar.cmpi .slt v167 c0_i32_100
  let c0_i32_101 : BitVec 32 := 0#32
  let v170 : BitVec 1 := Scalar.cmpi .slt v166 c0_i32_101
  let v171 : BitVec 1 := Scalar.xori v169 v170
  let c0_i32_99 : BitVec 32 := 0#32
  let v168 : BitVec 1 := Scalar.cmpi .ne v167 c0_i32_99
  let v172 : BitVec 1 := Scalar.andi v171 v168
  let v173 : BitVec 32 := Scalar.addi v167 v166
  let v174 : BitVec 32 := Scalar.select v172 v173 v167
  let c128_i32_125 : BitVec 32 := 128#32
  let v201 : BitVec 32 := Scalar.muli v174 c128_i32_125
  let v202 : Index := Scalar.indexCast v201
  let c0_126 : Index := 0#32
  ![v202.toNat, 0]
def k0_dev6 (d0 : Dev nD) : Nat :=
  let c0_i32_151 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_150 : BitVec 32 := 16#32
  let v235 : BitVec 32 := Scalar.muli v2 c16_i32_150
  let v236 : BitVec 32 := Scalar.addi c0_i32_151 v235
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v74 : BitVec 32 := Scalar.addi v5 c1_i32_33
  let c4_i32_34 : BitVec 32 := 4#32
  let c0_i32_35 : BitVec 32 := 0#32
  let v75 : BitVec 1 := Scalar.cmpi .eq c4_i32_34 c0_i32_35
  let c1_i32_36 : BitVec 32 := 1#32
  let v76 : BitVec 32 := Scalar.select v75 c1_i32_36 c4_i32_34
  let v77 : BitVec 32 := Scalar.remsi v74 v76
  let c0_i32_38 : BitVec 32 := 0#32
  let v79 : BitVec 1 := Scalar.cmpi .slt v77 c0_i32_38
  let c0_i32_39 : BitVec 32 := 0#32
  let v80 : BitVec 1 := Scalar.cmpi .slt v76 c0_i32_39
  let v81 : BitVec 1 := Scalar.xori v79 v80
  let c0_i32_37 : BitVec 32 := 0#32
  let v78 : BitVec 1 := Scalar.cmpi .ne v77 c0_i32_37
  let v82 : BitVec 1 := Scalar.andi v81 v78
  let v83 : BitVec 32 := Scalar.addi v77 v76
  let v84 : BitVec 32 := Scalar.select v82 v83 v77
  let c4_i32_152 : BitVec 32 := 4#32
  let v237 : BitVec 32 := Scalar.muli v84 c4_i32_152
  let v238 : BitVec 32 := Scalar.addi v236 v237
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_153 : BitVec 32 := 1#32
  let v239 : BitVec 32 := Scalar.muli v8 c1_i32_153
  let v240 : BitVec 32 := Scalar.addi v238 v239
  v240.toNat
def k0_dev7 (d0 : Dev nD) : Nat :=
  let c0_i32_194 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_193 : BitVec 32 := 16#32
  let v294 : BitVec 32 := Scalar.muli v2 c16_i32_193
  let v295 : BitVec 32 := Scalar.addi c0_i32_194 v294
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v74 : BitVec 32 := Scalar.addi v5 c1_i32_33
  let c4_i32_34 : BitVec 32 := 4#32
  let c0_i32_35 : BitVec 32 := 0#32
  let v75 : BitVec 1 := Scalar.cmpi .eq c4_i32_34 c0_i32_35
  let c1_i32_36 : BitVec 32 := 1#32
  let v76 : BitVec 32 := Scalar.select v75 c1_i32_36 c4_i32_34
  let v77 : BitVec 32 := Scalar.remsi v74 v76
  let c0_i32_38 : BitVec 32 := 0#32
  let v79 : BitVec 1 := Scalar.cmpi .slt v77 c0_i32_38
  let c0_i32_39 : BitVec 32 := 0#32
  let v80 : BitVec 1 := Scalar.cmpi .slt v76 c0_i32_39
  let v81 : BitVec 1 := Scalar.xori v79 v80
  let c0_i32_37 : BitVec 32 := 0#32
  let v78 : BitVec 1 := Scalar.cmpi .ne v77 c0_i32_37
  let v82 : BitVec 1 := Scalar.andi v81 v78
  let v83 : BitVec 32 := Scalar.addi v77 v76
  let v84 : BitVec 32 := Scalar.select v82 v83 v77
  let c4_i32_195 : BitVec 32 := 4#32
  let v296 : BitVec 32 := Scalar.muli v84 c4_i32_195
  let v297 : BitVec 32 := Scalar.addi v295 v296
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_196 : BitVec 32 := 1#32
  let v298 : BitVec 32 := Scalar.muli v8 c1_i32_196
  let v299 : BitVec 32 := Scalar.addi v297 v298
  v299.toNat
def k0_off5 (d0 : Dev nD) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_47 : BitVec 32 := 1#32
  let v96 : BitVec 32 := Scalar.addi v5 c1_i32_47
  let c4_i32_48 : BitVec 32 := 4#32
  let c0_i32_49 : BitVec 32 := 0#32
  let v97 : BitVec 1 := Scalar.cmpi .eq c4_i32_48 c0_i32_49
  let c1_i32_50 : BitVec 32 := 1#32
  let v98 : BitVec 32 := Scalar.select v97 c1_i32_50 c4_i32_48
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let c128_i32_219 : BitVec 32 := 128#32
  let v332 : BitVec 32 := Scalar.muli v106 c128_i32_219
  let v333 : Index := Scalar.indexCast v332
  let c0_220 : Index := 0#32
  ![v333.toNat, 0]
def k0_off6 (d0 : Dev nD) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_228 : BitVec 32 := 4#32
  let v357 : BitVec 32 := Scalar.muli v11 c4_i32_228
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_47 : BitVec 32 := 1#32
  let v96 : BitVec 32 := Scalar.addi v5 c1_i32_47
  let c4_i32_48 : BitVec 32 := 4#32
  let c0_i32_49 : BitVec 32 := 0#32
  let v97 : BitVec 1 := Scalar.cmpi .eq c4_i32_48 c0_i32_49
  let c1_i32_50 : BitVec 32 := 1#32
  let v98 : BitVec 32 := Scalar.select v97 c1_i32_50 c4_i32_48
  let v99 : BitVec 32 := Scalar.remsi v96 v98
  let c0_i32_52 : BitVec 32 := 0#32
  let v101 : BitVec 1 := Scalar.cmpi .slt v99 c0_i32_52
  let c0_i32_53 : BitVec 32 := 0#32
  let v102 : BitVec 1 := Scalar.cmpi .slt v98 c0_i32_53
  let v103 : BitVec 1 := Scalar.xori v101 v102
  let c0_i32_51 : BitVec 32 := 0#32
  let v100 : BitVec 1 := Scalar.cmpi .ne v99 c0_i32_51
  let v104 : BitVec 1 := Scalar.andi v103 v100
  let v105 : BitVec 32 := Scalar.addi v99 v98
  let v106 : BitVec 32 := Scalar.select v104 v105 v99
  let v358 : BitVec 32 := Scalar.addi v357 v106
  let c0_i32_229 : BitVec 32 := 0#32
  let c0_i32_230 : BitVec 32 := 0#32
  ![v358.toNat, 0, 0]
def k0_dev8 (d0 : Dev nD) : Nat :=
  let c0_i32_237 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_236 : BitVec 32 := 16#32
  let v365 : BitVec 32 := Scalar.muli v2 c16_i32_236
  let v366 : BitVec 32 := Scalar.addi c0_i32_237 v365
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v74 : BitVec 32 := Scalar.addi v5 c1_i32_33
  let c4_i32_34 : BitVec 32 := 4#32
  let c0_i32_35 : BitVec 32 := 0#32
  let v75 : BitVec 1 := Scalar.cmpi .eq c4_i32_34 c0_i32_35
  let c1_i32_36 : BitVec 32 := 1#32
  let v76 : BitVec 32 := Scalar.select v75 c1_i32_36 c4_i32_34
  let v77 : BitVec 32 := Scalar.remsi v74 v76
  let c0_i32_38 : BitVec 32 := 0#32
  let v79 : BitVec 1 := Scalar.cmpi .slt v77 c0_i32_38
  let c0_i32_39 : BitVec 32 := 0#32
  let v80 : BitVec 1 := Scalar.cmpi .slt v76 c0_i32_39
  let v81 : BitVec 1 := Scalar.xori v79 v80
  let c0_i32_37 : BitVec 32 := 0#32
  let v78 : BitVec 1 := Scalar.cmpi .ne v77 c0_i32_37
  let v82 : BitVec 1 := Scalar.andi v81 v78
  let v83 : BitVec 32 := Scalar.addi v77 v76
  let v84 : BitVec 32 := Scalar.select v82 v83 v77
  let c4_i32_238 : BitVec 32 := 4#32
  let v367 : BitVec 32 := Scalar.muli v84 c4_i32_238
  let v368 : BitVec 32 := Scalar.addi v366 v367
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_239 : BitVec 32 := 1#32
  let v369 : BitVec 32 := Scalar.muli v8 c1_i32_239
  let v370 : BitVec 32 := Scalar.addi v368 v369
  v370.toNat
def k0_off7 (d0 : Dev nD) (c0_i32_246 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_244 : BitVec 32 := 4#32
  let v379 : BitVec 32 := Scalar.muli v11 c4_i32_244
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_245 : BitVec 32 := 1#32
  let v380 : BitVec 32 := Scalar.addi v5 c1_i32_245
  let v381 : BitVec 32 := Scalar.subi v380 c0_i32_246
  let c4_i32_247 : BitVec 32 := 4#32
  let c0_i32_248 : BitVec 32 := 0#32
  let v382 : BitVec 1 := Scalar.cmpi .eq c4_i32_247 c0_i32_248
  let c1_i32_249 : BitVec 32 := 1#32
  let v383 : BitVec 32 := Scalar.select v382 c1_i32_249 c4_i32_247
  let v384 : BitVec 32 := Scalar.remsi v381 v383
  let c0_i32_251 : BitVec 32 := 0#32
  let v386 : BitVec 1 := Scalar.cmpi .slt v384 c0_i32_251
  let c0_i32_252 : BitVec 32 := 0#32
  let v387 : BitVec 1 := Scalar.cmpi .slt v383 c0_i32_252
  let v388 : BitVec 1 := Scalar.xori v386 v387
  let c0_i32_250 : BitVec 32 := 0#32
  let v385 : BitVec 1 := Scalar.cmpi .ne v384 c0_i32_250
  let v389 : BitVec 1 := Scalar.andi v388 v385
  let v390 : BitVec 32 := Scalar.addi v384 v383
  let v391 : BitVec 32 := Scalar.select v389 v390 v384
  let v392 : BitVec 32 := Scalar.addi v379 v391
  let c0_i32_261 : BitVec 32 := 0#32
  let c0_i32_262 : BitVec 32 := 0#32
  ![v392.toNat, 0, 0]
def k0_dev9 (d0 : Dev nD) : Nat :=
  let c0_i32_258 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_257 : BitVec 32 := 16#32
  let v393 : BitVec 32 := Scalar.muli v39 c16_i32_257
  let v394 : BitVec 32 := Scalar.addi c0_i32_258 v393
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_259 : BitVec 32 := 4#32
  let v395 : BitVec 32 := Scalar.muli v5 c4_i32_259
  let v396 : BitVec 32 := Scalar.addi v394 v395
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_260 : BitVec 32 := 1#32
  let v397 : BitVec 32 := Scalar.muli v42 c1_i32_260
  let v398 : BitVec 32 := Scalar.addi v396 v397
  v398.toNat
def k0_dev10 (d0 : Dev nD) : Nat :=
  let c0_i32_270 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_269 : BitVec 32 := 16#32
  let v407 : BitVec 32 := Scalar.muli v70 c16_i32_269
  let v408 : BitVec 32 := Scalar.addi c0_i32_270 v407
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_271 : BitVec 32 := 4#32
  let v409 : BitVec 32 := Scalar.muli v5 c4_i32_271
  let v410 : BitVec 32 := Scalar.addi v408 v409
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_272 : BitVec 32 := 1#32
  let v411 : BitVec 32 := Scalar.muli v73 c1_i32_272
  let v412 : BitVec 32 := Scalar.addi v410 v411
  v412.toNat
def k0_dev11 (d0 : Dev nD) : Nat :=
  let c0_i32_299 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_298 : BitVec 32 := 16#32
  let v447 : BitVec 32 := Scalar.muli v2 c16_i32_298
  let v448 : BitVec 32 := Scalar.addi c0_i32_299 v447
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v74 : BitVec 32 := Scalar.addi v5 c1_i32_33
  let c4_i32_34 : BitVec 32 := 4#32
  let c0_i32_35 : BitVec 32 := 0#32
  let v75 : BitVec 1 := Scalar.cmpi .eq c4_i32_34 c0_i32_35
  let c1_i32_36 : BitVec 32 := 1#32
  let v76 : BitVec 32 := Scalar.select v75 c1_i32_36 c4_i32_34
  let v77 : BitVec 32 := Scalar.remsi v74 v76
  let c0_i32_38 : BitVec 32 := 0#32
  let v79 : BitVec 1 := Scalar.cmpi .slt v77 c0_i32_38
  let c0_i32_39 : BitVec 32 := 0#32
  let v80 : BitVec 1 := Scalar.cmpi .slt v76 c0_i32_39
  let v81 : BitVec 1 := Scalar.xori v79 v80
  let c0_i32_37 : BitVec 32 := 0#32
  let v78 : BitVec 1 := Scalar.cmpi .ne v77 c0_i32_37
  let v82 : BitVec 1 := Scalar.andi v81 v78
  let v83 : BitVec 32 := Scalar.addi v77 v76
  let v84 : BitVec 32 := Scalar.select v82 v83 v77
  let c4_i32_300 : BitVec 32 := 4#32
  let v449 : BitVec 32 := Scalar.muli v84 c4_i32_300
  let v450 : BitVec 32 := Scalar.addi v448 v449
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_301 : BitVec 32 := 1#32
  let v451 : BitVec 32 := Scalar.muli v8 c1_i32_301
  let v452 : BitVec 32 := Scalar.addi v450 v451
  v452.toNat
def k0_dev12 (d0 : Dev nD) : Nat :=
  let c0_i32_320 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_319 : BitVec 32 := 16#32
  let v475 : BitVec 32 := Scalar.muli v70 c16_i32_319
  let v476 : BitVec 32 := Scalar.addi c0_i32_320 v475
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_321 : BitVec 32 := 4#32
  let v477 : BitVec 32 := Scalar.muli v5 c4_i32_321
  let v478 : BitVec 32 := Scalar.addi v476 v477
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_322 : BitVec 32 := 1#32
  let v479 : BitVec 32 := Scalar.muli v73 c1_i32_322
  let v480 : BitVec 32 := Scalar.addi v478 v479
  v480.toNat
def k0_dev13 (d0 : Dev nD) : Nat :=
  let c0_i32_332 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_331 : BitVec 32 := 16#32
  let v489 : BitVec 32 := Scalar.muli v39 c16_i32_331
  let v490 : BitVec 32 := Scalar.addi c0_i32_332 v489
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_333 : BitVec 32 := 4#32
  let v491 : BitVec 32 := Scalar.muli v5 c4_i32_333
  let v492 : BitVec 32 := Scalar.addi v490 v491
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_334 : BitVec 32 := 1#32
  let v493 : BitVec 32 := Scalar.muli v42 c1_i32_334
  let v494 : BitVec 32 := Scalar.addi v492 v493
  v494.toNat
def k0_off8 (d0 : Dev nD) (c1_i32_339 : BitVec 32) (c0_i32_348 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v503 : BitVec 32 := Scalar.subi v11 c1_i32_339
  let c8_i32_340 : BitVec 32 := 8#32
  let c0_i32_341 : BitVec 32 := 0#32
  let v504 : BitVec 1 := Scalar.cmpi .eq c8_i32_340 c0_i32_341
  let c1_i32_342 : BitVec 32 := 1#32
  let v505 : BitVec 32 := Scalar.select v504 c1_i32_342 c8_i32_340
  let v506 : BitVec 32 := Scalar.remsi v503 v505
  let c0_i32_344 : BitVec 32 := 0#32
  let v508 : BitVec 1 := Scalar.cmpi .slt v506 c0_i32_344
  let c0_i32_345 : BitVec 32 := 0#32
  let v509 : BitVec 1 := Scalar.cmpi .slt v505 c0_i32_345
  let v510 : BitVec 1 := Scalar.xori v508 v509
  let c0_i32_343 : BitVec 32 := 0#32
  let v507 : BitVec 1 := Scalar.cmpi .ne v506 c0_i32_343
  let v511 : BitVec 1 := Scalar.andi v510 v507
  let v512 : BitVec 32 := Scalar.addi v506 v505
  let v513 : BitVec 32 := Scalar.select v511 v512 v506
  let c4_i32_346 : BitVec 32 := 4#32
  let v514 : BitVec 32 := Scalar.muli v513 c4_i32_346
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_347 : BitVec 32 := 1#32
  let v515 : BitVec 32 := Scalar.addi v5 c1_i32_347
  let v516 : BitVec 32 := Scalar.subi v515 c0_i32_348
  let c4_i32_349 : BitVec 32 := 4#32
  let c0_i32_350 : BitVec 32 := 0#32
  let v517 : BitVec 1 := Scalar.cmpi .eq c4_i32_349 c0_i32_350
  let c1_i32_351 : BitVec 32 := 1#32
  let v518 : BitVec 32 := Scalar.select v517 c1_i32_351 c4_i32_349
  let v519 : BitVec 32 := Scalar.remsi v516 v518
  let c0_i32_353 : BitVec 32 := 0#32
  let v521 : BitVec 1 := Scalar.cmpi .slt v519 c0_i32_353
  let c0_i32_354 : BitVec 32 := 0#32
  let v522 : BitVec 1 := Scalar.cmpi .slt v518 c0_i32_354
  let v523 : BitVec 1 := Scalar.xori v521 v522
  let c0_i32_352 : BitVec 32 := 0#32
  let v520 : BitVec 1 := Scalar.cmpi .ne v519 c0_i32_352
  let v524 : BitVec 1 := Scalar.andi v523 v520
  let v525 : BitVec 32 := Scalar.addi v519 v518
  let v526 : BitVec 32 := Scalar.select v524 v525 v519
  let v527 : BitVec 32 := Scalar.addi v514 v526
  let c0_i32_363 : BitVec 32 := 0#32
  let c0_i32_364 : BitVec 32 := 0#32
  ![v527.toNat, 0, 0]
def k0_off8_at (r : Fin 14) : BitVec 32 × BitVec 32 :=
  if r.val < 7 then
    if r.val < 3 then
      if r.val < 1 then
        (1#32, 0#32)
      else
        if r.val < 2 then
          (2#32, 0#32)
        else
          (1#32, 1#32)
    else
      if r.val < 5 then
        if r.val < 4 then
          (3#32, 0#32)
        else
          (2#32, 1#32)
      else
        if r.val < 6 then
          (1#32, 2#32)
        else
          (4#32, 0#32)
  else
    if r.val < 10 then
      if r.val < 8 then
        (3#32, 1#32)
      else
        if r.val < 9 then
          (2#32, 2#32)
        else
          (1#32, 3#32)
    else
      if r.val < 12 then
        if r.val < 11 then
          (3#32, 2#32)
        else
          (2#32, 3#32)
      else
        if r.val < 13 then
          (4#32, 2#32)
        else
          (3#32, 3#32)
def k0_dev14 (d0 : Dev nD) : Nat :=
  let c0_i32_372 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_371 : BitVec 32 := 16#32
  let v540 : BitVec 32 := Scalar.muli v39 c16_i32_371
  let v541 : BitVec 32 := Scalar.addi c0_i32_372 v540
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_373 : BitVec 32 := 4#32
  let v542 : BitVec 32 := Scalar.muli v5 c4_i32_373
  let v543 : BitVec 32 := Scalar.addi v541 v542
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_374 : BitVec 32 := 1#32
  let v544 : BitVec 32 := Scalar.muli v42 c1_i32_374
  let v545 : BitVec 32 := Scalar.addi v543 v544
  v545.toNat
def k0_off9 (d0 : Dev nD) (c1_i32_379 : BitVec 32) (c0_i32_388 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v554 : BitVec 32 := Scalar.addi v11 c1_i32_379
  let c8_i32_380 : BitVec 32 := 8#32
  let c0_i32_381 : BitVec 32 := 0#32
  let v555 : BitVec 1 := Scalar.cmpi .eq c8_i32_380 c0_i32_381
  let c1_i32_382 : BitVec 32 := 1#32
  let v556 : BitVec 32 := Scalar.select v555 c1_i32_382 c8_i32_380
  let v557 : BitVec 32 := Scalar.remsi v554 v556
  let c0_i32_384 : BitVec 32 := 0#32
  let v559 : BitVec 1 := Scalar.cmpi .slt v557 c0_i32_384
  let c0_i32_385 : BitVec 32 := 0#32
  let v560 : BitVec 1 := Scalar.cmpi .slt v556 c0_i32_385
  let v561 : BitVec 1 := Scalar.xori v559 v560
  let c0_i32_383 : BitVec 32 := 0#32
  let v558 : BitVec 1 := Scalar.cmpi .ne v557 c0_i32_383
  let v562 : BitVec 1 := Scalar.andi v561 v558
  let v563 : BitVec 32 := Scalar.addi v557 v556
  let v564 : BitVec 32 := Scalar.select v562 v563 v557
  let c4_i32_386 : BitVec 32 := 4#32
  let v565 : BitVec 32 := Scalar.muli v564 c4_i32_386
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_387 : BitVec 32 := 1#32
  let v566 : BitVec 32 := Scalar.addi v5 c1_i32_387
  let v567 : BitVec 32 := Scalar.subi v566 c0_i32_388
  let c4_i32_389 : BitVec 32 := 4#32
  let c0_i32_390 : BitVec 32 := 0#32
  let v568 : BitVec 1 := Scalar.cmpi .eq c4_i32_389 c0_i32_390
  let c1_i32_391 : BitVec 32 := 1#32
  let v569 : BitVec 32 := Scalar.select v568 c1_i32_391 c4_i32_389
  let v570 : BitVec 32 := Scalar.remsi v567 v569
  let c0_i32_393 : BitVec 32 := 0#32
  let v572 : BitVec 1 := Scalar.cmpi .slt v570 c0_i32_393
  let c0_i32_394 : BitVec 32 := 0#32
  let v573 : BitVec 1 := Scalar.cmpi .slt v569 c0_i32_394
  let v574 : BitVec 1 := Scalar.xori v572 v573
  let c0_i32_392 : BitVec 32 := 0#32
  let v571 : BitVec 1 := Scalar.cmpi .ne v570 c0_i32_392
  let v575 : BitVec 1 := Scalar.andi v574 v571
  let v576 : BitVec 32 := Scalar.addi v570 v569
  let v577 : BitVec 32 := Scalar.select v575 v576 v570
  let v578 : BitVec 32 := Scalar.addi v565 v577
  let c0_i32_403 : BitVec 32 := 0#32
  let c0_i32_404 : BitVec 32 := 0#32
  ![v578.toNat, 0, 0]
def k0_off9_at (r : Fin 14) : BitVec 32 × BitVec 32 :=
  if r.val < 7 then
    if r.val < 3 then
      if r.val < 1 then
        (1#32, 0#32)
      else
        if r.val < 2 then
          (2#32, 0#32)
        else
          (1#32, 1#32)
    else
      if r.val < 5 then
        if r.val < 4 then
          (3#32, 0#32)
        else
          (2#32, 1#32)
      else
        if r.val < 6 then
          (1#32, 2#32)
        else
          (3#32, 1#32)
  else
    if r.val < 10 then
      if r.val < 8 then
        (2#32, 2#32)
      else
        if r.val < 9 then
          (1#32, 3#32)
        else
          (4#32, 1#32)
    else
      if r.val < 12 then
        if r.val < 11 then
          (3#32, 2#32)
        else
          (2#32, 3#32)
      else
        if r.val < 13 then
          (3#32, 3#32)
        else
          (4#32, 3#32)
def k0_dev15 (d0 : Dev nD) : Nat :=
  let c0_i32_412 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_411 : BitVec 32 := 16#32
  let v591 : BitVec 32 := Scalar.muli v70 c16_i32_411
  let v592 : BitVec 32 := Scalar.addi c0_i32_412 v591
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_413 : BitVec 32 := 4#32
  let v593 : BitVec 32 := Scalar.muli v5 c4_i32_413
  let v594 : BitVec 32 := Scalar.addi v592 v593
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_414 : BitVec 32 := 1#32
  let v595 : BitVec 32 := Scalar.muli v73 c1_i32_414
  let v596 : BitVec 32 := Scalar.addi v594 v595
  v596.toNat
def k0_dev16 (d0 : Dev nD) : Nat :=
  let c0_i32_441 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_440 : BitVec 32 := 16#32
  let v631 : BitVec 32 := Scalar.muli v2 c16_i32_440
  let v632 : BitVec 32 := Scalar.addi c0_i32_441 v631
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v74 : BitVec 32 := Scalar.addi v5 c1_i32_33
  let c4_i32_34 : BitVec 32 := 4#32
  let c0_i32_35 : BitVec 32 := 0#32
  let v75 : BitVec 1 := Scalar.cmpi .eq c4_i32_34 c0_i32_35
  let c1_i32_36 : BitVec 32 := 1#32
  let v76 : BitVec 32 := Scalar.select v75 c1_i32_36 c4_i32_34
  let v77 : BitVec 32 := Scalar.remsi v74 v76
  let c0_i32_38 : BitVec 32 := 0#32
  let v79 : BitVec 1 := Scalar.cmpi .slt v77 c0_i32_38
  let c0_i32_39 : BitVec 32 := 0#32
  let v80 : BitVec 1 := Scalar.cmpi .slt v76 c0_i32_39
  let v81 : BitVec 1 := Scalar.xori v79 v80
  let c0_i32_37 : BitVec 32 := 0#32
  let v78 : BitVec 1 := Scalar.cmpi .ne v77 c0_i32_37
  let v82 : BitVec 1 := Scalar.andi v81 v78
  let v83 : BitVec 32 := Scalar.addi v77 v76
  let v84 : BitVec 32 := Scalar.select v82 v83 v77
  let c4_i32_442 : BitVec 32 := 4#32
  let v633 : BitVec 32 := Scalar.muli v84 c4_i32_442
  let v634 : BitVec 32 := Scalar.addi v632 v633
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_443 : BitVec 32 := 1#32
  let v635 : BitVec 32 := Scalar.muli v8 c1_i32_443
  let v636 : BitVec 32 := Scalar.addi v634 v635
  v636.toNat
def k0_dev17 (d0 : Dev nD) : Nat :=
  let c0_i32_462 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_461 : BitVec 32 := 16#32
  let v659 : BitVec 32 := Scalar.muli v39 c16_i32_461
  let v660 : BitVec 32 := Scalar.addi c0_i32_462 v659
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_463 : BitVec 32 := 4#32
  let v661 : BitVec 32 := Scalar.muli v5 c4_i32_463
  let v662 : BitVec 32 := Scalar.addi v660 v661
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_464 : BitVec 32 := 1#32
  let v663 : BitVec 32 := Scalar.muli v42 c1_i32_464
  let v664 : BitVec 32 := Scalar.addi v662 v663
  v664.toNat
def k0_dev18 (d0 : Dev nD) : Nat :=
  let c0_i32_474 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_473 : BitVec 32 := 16#32
  let v673 : BitVec 32 := Scalar.muli v70 c16_i32_473
  let v674 : BitVec 32 := Scalar.addi c0_i32_474 v673
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_475 : BitVec 32 := 4#32
  let v675 : BitVec 32 := Scalar.muli v5 c4_i32_475
  let v676 : BitVec 32 := Scalar.addi v674 v675
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_476 : BitVec 32 := 1#32
  let v677 : BitVec 32 := Scalar.muli v73 c1_i32_476
  let v678 : BitVec 32 := Scalar.addi v676 v677
  v678.toNat
def k0_dev19 (d0 : Dev nD) : Nat :=
  let c0_i32_514 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_513 : BitVec 32 := 16#32
  let v724 : BitVec 32 := Scalar.muli v39 c16_i32_513
  let v725 : BitVec 32 := Scalar.addi c0_i32_514 v724
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_515 : BitVec 32 := 4#32
  let v726 : BitVec 32 := Scalar.muli v5 c4_i32_515
  let v727 : BitVec 32 := Scalar.addi v725 v726
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_516 : BitVec 32 := 1#32
  let v728 : BitVec 32 := Scalar.muli v42 c1_i32_516
  let v729 : BitVec 32 := Scalar.addi v727 v728
  v729.toNat
def k0_dev20 (d0 : Dev nD) : Nat :=
  let c0_i32_554 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_553 : BitVec 32 := 16#32
  let v775 : BitVec 32 := Scalar.muli v70 c16_i32_553
  let v776 : BitVec 32 := Scalar.addi c0_i32_554 v775
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_555 : BitVec 32 := 4#32
  let v777 : BitVec 32 := Scalar.muli v5 c4_i32_555
  let v778 : BitVec 32 := Scalar.addi v776 v777
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_556 : BitVec 32 := 1#32
  let v779 : BitVec 32 := Scalar.muli v73 c1_i32_556
  let v780 : BitVec 32 := Scalar.addi v778 v779
  v780.toNat
def k0_dev21 (d0 : Dev nD) : Nat :=
  let c0_i32_594 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_593 : BitVec 32 := 16#32
  let v826 : BitVec 32 := Scalar.muli v70 c16_i32_593
  let v827 : BitVec 32 := Scalar.addi c0_i32_594 v826
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_595 : BitVec 32 := 4#32
  let v828 : BitVec 32 := Scalar.muli v5 c4_i32_595
  let v829 : BitVec 32 := Scalar.addi v827 v828
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_596 : BitVec 32 := 1#32
  let v830 : BitVec 32 := Scalar.muli v73 c1_i32_596
  let v831 : BitVec 32 := Scalar.addi v829 v830
  v831.toNat
def k0_dev22 (d0 : Dev nD) : Nat :=
  let c0_i32_634 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_633 : BitVec 32 := 16#32
  let v877 : BitVec 32 := Scalar.muli v39 c16_i32_633
  let v878 : BitVec 32 := Scalar.addi c0_i32_634 v877
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_635 : BitVec 32 := 4#32
  let v879 : BitVec 32 := Scalar.muli v5 c4_i32_635
  let v880 : BitVec 32 := Scalar.addi v878 v879
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_636 : BitVec 32 := 1#32
  let v881 : BitVec 32 := Scalar.muli v42 c1_i32_636
  let v882 : BitVec 32 := Scalar.addi v880 v881
  v882.toNat
def k0_dev23 (d0 : Dev nD) : Nat :=
  let c0_i32_673 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_672 : BitVec 32 := 16#32
  let v931 : BitVec 32 := Scalar.muli v70 c16_i32_672
  let v932 : BitVec 32 := Scalar.addi c0_i32_673 v931
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_674 : BitVec 32 := 4#32
  let v933 : BitVec 32 := Scalar.muli v5 c4_i32_674
  let v934 : BitVec 32 := Scalar.addi v932 v933
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_675 : BitVec 32 := 1#32
  let v935 : BitVec 32 := Scalar.muli v73 c1_i32_675
  let v936 : BitVec 32 := Scalar.addi v934 v935
  v936.toNat
def k0_dev24 (d0 : Dev nD) : Nat :=
  let c0_i32_685 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_684 : BitVec 32 := 16#32
  let v945 : BitVec 32 := Scalar.muli v39 c16_i32_684
  let v946 : BitVec 32 := Scalar.addi c0_i32_685 v945
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_686 : BitVec 32 := 4#32
  let v947 : BitVec 32 := Scalar.muli v5 c4_i32_686
  let v948 : BitVec 32 := Scalar.addi v946 v947
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_687 : BitVec 32 := 1#32
  let v949 : BitVec 32 := Scalar.muli v42 c1_i32_687
  let v950 : BitVec 32 := Scalar.addi v948 v949
  v950.toNat
def k0_dev25 (d0 : Dev nD) : Nat :=
  let c0_i32_725 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_724 : BitVec 32 := 16#32
  let v996 : BitVec 32 := Scalar.muli v39 c16_i32_724
  let v997 : BitVec 32 := Scalar.addi c0_i32_725 v996
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_726 : BitVec 32 := 4#32
  let v998 : BitVec 32 := Scalar.muli v5 c4_i32_726
  let v999 : BitVec 32 := Scalar.addi v997 v998
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_727 : BitVec 32 := 1#32
  let v1000 : BitVec 32 := Scalar.muli v42 c1_i32_727
  let v1001 : BitVec 32 := Scalar.addi v999 v1000
  v1001.toNat
def k0_dev26 (d0 : Dev nD) : Nat :=
  let c0_i32_793 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_792 : BitVec 32 := 16#32
  let v1084 : BitVec 32 := Scalar.muli v70 c16_i32_792
  let v1085 : BitVec 32 := Scalar.addi c0_i32_793 v1084
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_794 : BitVec 32 := 4#32
  let v1086 : BitVec 32 := Scalar.muli v5 c4_i32_794
  let v1087 : BitVec 32 := Scalar.addi v1085 v1086
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_795 : BitVec 32 := 1#32
  let v1088 : BitVec 32 := Scalar.muli v73 c1_i32_795
  let v1089 : BitVec 32 := Scalar.addi v1087 v1088
  v1089.toNat
def k0_dev27 (d0 : Dev nD) : Nat :=
  let c0_i32_833 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_832 : BitVec 32 := 16#32
  let v1135 : BitVec 32 := Scalar.muli v39 c16_i32_832
  let v1136 : BitVec 32 := Scalar.addi c0_i32_833 v1135
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_834 : BitVec 32 := 4#32
  let v1137 : BitVec 32 := Scalar.muli v5 c4_i32_834
  let v1138 : BitVec 32 := Scalar.addi v1136 v1137
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_835 : BitVec 32 := 1#32
  let v1139 : BitVec 32 := Scalar.muli v42 c1_i32_835
  let v1140 : BitVec 32 := Scalar.addi v1138 v1139
  v1140.toNat
def k0_dev28 (d0 : Dev nD) : Nat :=
  let c0_i32_873 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_872 : BitVec 32 := 16#32
  let v1186 : BitVec 32 := Scalar.muli v39 c16_i32_872
  let v1187 : BitVec 32 := Scalar.addi c0_i32_873 v1186
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_874 : BitVec 32 := 4#32
  let v1188 : BitVec 32 := Scalar.muli v5 c4_i32_874
  let v1189 : BitVec 32 := Scalar.addi v1187 v1188
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_875 : BitVec 32 := 1#32
  let v1190 : BitVec 32 := Scalar.muli v42 c1_i32_875
  let v1191 : BitVec 32 := Scalar.addi v1189 v1190
  v1191.toNat
def k0_dev29 (d0 : Dev nD) : Nat :=
  let c0_i32_913 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_912 : BitVec 32 := 16#32
  let v1237 : BitVec 32 := Scalar.muli v70 c16_i32_912
  let v1238 : BitVec 32 := Scalar.addi c0_i32_913 v1237
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_914 : BitVec 32 := 4#32
  let v1239 : BitVec 32 := Scalar.muli v5 c4_i32_914
  let v1240 : BitVec 32 := Scalar.addi v1238 v1239
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_915 : BitVec 32 := 1#32
  let v1241 : BitVec 32 := Scalar.muli v73 c1_i32_915
  let v1242 : BitVec 32 := Scalar.addi v1240 v1241
  v1242.toNat
def k0_off10 (d0 : Dev nD) (c0_i32_923 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c4_i32_922 : BitVec 32 := 4#32
  let v1253 : BitVec 32 := Scalar.muli v11 c4_i32_922
  let v1254 : BitVec 32 := Scalar.addi v1253 c0_i32_923
  let v1255 : Index := Scalar.indexCast v1254
  let c0_924 : Index := 0#32
  let c0_925 : Index := 0#32
  ![v1255.toNat, 0, 0]
def k0_off11 (d0 : Dev nD) (c0_i32_921 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c512_i32_920 : BitVec 32 := 512#32
  let v1251 : BitVec 32 := Scalar.muli v11 c512_i32_920
  let v1252 : BitVec 32 := Scalar.addi v1251 c0_i32_921
  let c0_i32_931 : BitVec 32 := 0#32
  ![v1252.toNat, 0]
def k0_dev30 (d0 : Dev nD) : Nat :=
  let c0_i32_1008 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_1007 : BitVec 32 := 16#32
  let v1357 : BitVec 32 := Scalar.muli v70 c16_i32_1007
  let v1358 : BitVec 32 := Scalar.addi c0_i32_1008 v1357
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1009 : BitVec 32 := 4#32
  let v1359 : BitVec 32 := Scalar.muli v5 c4_i32_1009
  let v1360 : BitVec 32 := Scalar.addi v1358 v1359
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_1010 : BitVec 32 := 1#32
  let v1361 : BitVec 32 := Scalar.muli v73 c1_i32_1010
  let v1362 : BitVec 32 := Scalar.addi v1360 v1361
  v1362.toNat
def k0_dev31 (d0 : Dev nD) : Nat :=
  let c0_i32_1076 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_1075 : BitVec 32 := 16#32
  let v1445 : BitVec 32 := Scalar.muli v39 c16_i32_1075
  let v1446 : BitVec 32 := Scalar.addi c0_i32_1076 v1445
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1077 : BitVec 32 := 4#32
  let v1447 : BitVec 32 := Scalar.muli v5 c4_i32_1077
  let v1448 : BitVec 32 := Scalar.addi v1446 v1447
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_1078 : BitVec 32 := 1#32
  let v1449 : BitVec 32 := Scalar.muli v42 c1_i32_1078
  let v1450 : BitVec 32 := Scalar.addi v1448 v1449
  v1450.toNat
def k0_dev32 (d0 : Dev nD) : Nat :=
  let c0_i32_1116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_1115 : BitVec 32 := 16#32
  let v1496 : BitVec 32 := Scalar.muli v70 c16_i32_1115
  let v1497 : BitVec 32 := Scalar.addi c0_i32_1116 v1496
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1117 : BitVec 32 := 4#32
  let v1498 : BitVec 32 := Scalar.muli v5 c4_i32_1117
  let v1499 : BitVec 32 := Scalar.addi v1497 v1498
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_1118 : BitVec 32 := 1#32
  let v1500 : BitVec 32 := Scalar.muli v73 c1_i32_1118
  let v1501 : BitVec 32 := Scalar.addi v1499 v1500
  v1501.toNat
def k0_dev33 (d0 : Dev nD) : Nat :=
  let c0_i32_1156 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_1155 : BitVec 32 := 16#32
  let v1547 : BitVec 32 := Scalar.muli v70 c16_i32_1155
  let v1548 : BitVec 32 := Scalar.addi c0_i32_1156 v1547
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1157 : BitVec 32 := 4#32
  let v1549 : BitVec 32 := Scalar.muli v5 c4_i32_1157
  let v1550 : BitVec 32 := Scalar.addi v1548 v1549
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_1158 : BitVec 32 := 1#32
  let v1551 : BitVec 32 := Scalar.muli v73 c1_i32_1158
  let v1552 : BitVec 32 := Scalar.addi v1550 v1551
  v1552.toNat
def k0_dev34 (d0 : Dev nD) : Nat :=
  let c0_i32_1196 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_1195 : BitVec 32 := 16#32
  let v1598 : BitVec 32 := Scalar.muli v39 c16_i32_1195
  let v1599 : BitVec 32 := Scalar.addi c0_i32_1196 v1598
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1197 : BitVec 32 := 4#32
  let v1600 : BitVec 32 := Scalar.muli v5 c4_i32_1197
  let v1601 : BitVec 32 := Scalar.addi v1599 v1600
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_1198 : BitVec 32 := 1#32
  let v1602 : BitVec 32 := Scalar.muli v42 c1_i32_1198
  let v1603 : BitVec 32 := Scalar.addi v1601 v1602
  v1603.toNat
def k0_off12 (d0 : Dev nD) (c1_i32_1203 : BitVec 32) (c0_i32_1218 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v1612 : BitVec 32 := Scalar.subi v11 c1_i32_1203
  let c8_i32_1204 : BitVec 32 := 8#32
  let c0_i32_1205 : BitVec 32 := 0#32
  let v1613 : BitVec 1 := Scalar.cmpi .eq c8_i32_1204 c0_i32_1205
  let c1_i32_1206 : BitVec 32 := 1#32
  let v1614 : BitVec 32 := Scalar.select v1613 c1_i32_1206 c8_i32_1204
  let v1615 : BitVec 32 := Scalar.remsi v1612 v1614
  let c0_i32_1208 : BitVec 32 := 0#32
  let v1617 : BitVec 1 := Scalar.cmpi .slt v1615 c0_i32_1208
  let c0_i32_1209 : BitVec 32 := 0#32
  let v1618 : BitVec 1 := Scalar.cmpi .slt v1614 c0_i32_1209
  let v1619 : BitVec 1 := Scalar.xori v1617 v1618
  let c0_i32_1207 : BitVec 32 := 0#32
  let v1616 : BitVec 1 := Scalar.cmpi .ne v1615 c0_i32_1207
  let v1620 : BitVec 1 := Scalar.andi v1619 v1616
  let v1621 : BitVec 32 := Scalar.addi v1615 v1614
  let v1622 : BitVec 32 := Scalar.select v1620 v1621 v1615
  let c4_i32_1217 : BitVec 32 := 4#32
  let v1630 : BitVec 32 := Scalar.muli v1622 c4_i32_1217
  let v1631 : BitVec 32 := Scalar.addi v1630 c0_i32_1218
  let v1632 : Index := Scalar.indexCast v1631
  let c0_1219 : Index := 0#32
  let c0_1220 : Index := 0#32
  ![v1632.toNat, 0, 0]
def k0_off13 (d0 : Dev nD) (c1_i32_1203 : BitVec 32) (c0_i32_1216 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v1612 : BitVec 32 := Scalar.subi v11 c1_i32_1203
  let c8_i32_1204 : BitVec 32 := 8#32
  let c0_i32_1205 : BitVec 32 := 0#32
  let v1613 : BitVec 1 := Scalar.cmpi .eq c8_i32_1204 c0_i32_1205
  let c1_i32_1206 : BitVec 32 := 1#32
  let v1614 : BitVec 32 := Scalar.select v1613 c1_i32_1206 c8_i32_1204
  let v1615 : BitVec 32 := Scalar.remsi v1612 v1614
  let c0_i32_1208 : BitVec 32 := 0#32
  let v1617 : BitVec 1 := Scalar.cmpi .slt v1615 c0_i32_1208
  let c0_i32_1209 : BitVec 32 := 0#32
  let v1618 : BitVec 1 := Scalar.cmpi .slt v1614 c0_i32_1209
  let v1619 : BitVec 1 := Scalar.xori v1617 v1618
  let c0_i32_1207 : BitVec 32 := 0#32
  let v1616 : BitVec 1 := Scalar.cmpi .ne v1615 c0_i32_1207
  let v1620 : BitVec 1 := Scalar.andi v1619 v1616
  let v1621 : BitVec 32 := Scalar.addi v1615 v1614
  let v1622 : BitVec 32 := Scalar.select v1620 v1621 v1615
  let c512_i32_1215 : BitVec 32 := 512#32
  let v1628 : BitVec 32 := Scalar.muli v1622 c512_i32_1215
  let v1629 : BitVec 32 := Scalar.addi v1628 c0_i32_1216
  let c0_i32_1226 : BitVec 32 := 0#32
  ![v1629.toNat, 0]
def k0_off14 (d0 : Dev nD) (c1_i32_1248 : BitVec 32) (c0_i32_1263 : BitVec 32) : Fin 3 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v1665 : BitVec 32 := Scalar.addi v11 c1_i32_1248
  let c8_i32_1249 : BitVec 32 := 8#32
  let c0_i32_1250 : BitVec 32 := 0#32
  let v1666 : BitVec 1 := Scalar.cmpi .eq c8_i32_1249 c0_i32_1250
  let c1_i32_1251 : BitVec 32 := 1#32
  let v1667 : BitVec 32 := Scalar.select v1666 c1_i32_1251 c8_i32_1249
  let v1668 : BitVec 32 := Scalar.remsi v1665 v1667
  let c0_i32_1253 : BitVec 32 := 0#32
  let v1670 : BitVec 1 := Scalar.cmpi .slt v1668 c0_i32_1253
  let c0_i32_1254 : BitVec 32 := 0#32
  let v1671 : BitVec 1 := Scalar.cmpi .slt v1667 c0_i32_1254
  let v1672 : BitVec 1 := Scalar.xori v1670 v1671
  let c0_i32_1252 : BitVec 32 := 0#32
  let v1669 : BitVec 1 := Scalar.cmpi .ne v1668 c0_i32_1252
  let v1673 : BitVec 1 := Scalar.andi v1672 v1669
  let v1674 : BitVec 32 := Scalar.addi v1668 v1667
  let v1675 : BitVec 32 := Scalar.select v1673 v1674 v1668
  let c4_i32_1262 : BitVec 32 := 4#32
  let v1683 : BitVec 32 := Scalar.muli v1675 c4_i32_1262
  let v1684 : BitVec 32 := Scalar.addi v1683 c0_i32_1263
  let v1685 : Index := Scalar.indexCast v1684
  let c0_1264 : Index := 0#32
  let c0_1265 : Index := 0#32
  ![v1685.toNat, 0, 0]
def k0_off15 (d0 : Dev nD) (c1_i32_1248 : BitVec 32) (c0_i32_1261 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v1665 : BitVec 32 := Scalar.addi v11 c1_i32_1248
  let c8_i32_1249 : BitVec 32 := 8#32
  let c0_i32_1250 : BitVec 32 := 0#32
  let v1666 : BitVec 1 := Scalar.cmpi .eq c8_i32_1249 c0_i32_1250
  let c1_i32_1251 : BitVec 32 := 1#32
  let v1667 : BitVec 32 := Scalar.select v1666 c1_i32_1251 c8_i32_1249
  let v1668 : BitVec 32 := Scalar.remsi v1665 v1667
  let c0_i32_1253 : BitVec 32 := 0#32
  let v1670 : BitVec 1 := Scalar.cmpi .slt v1668 c0_i32_1253
  let c0_i32_1254 : BitVec 32 := 0#32
  let v1671 : BitVec 1 := Scalar.cmpi .slt v1667 c0_i32_1254
  let v1672 : BitVec 1 := Scalar.xori v1670 v1671
  let c0_i32_1252 : BitVec 32 := 0#32
  let v1669 : BitVec 1 := Scalar.cmpi .ne v1668 c0_i32_1252
  let v1673 : BitVec 1 := Scalar.andi v1672 v1669
  let v1674 : BitVec 32 := Scalar.addi v1668 v1667
  let v1675 : BitVec 32 := Scalar.select v1673 v1674 v1668
  let c512_i32_1260 : BitVec 32 := 512#32
  let v1681 : BitVec 32 := Scalar.muli v1675 c512_i32_1260
  let v1682 : BitVec 32 := Scalar.addi v1681 c0_i32_1261
  let c0_i32_1271 : BitVec 32 := 0#32
  ![v1682.toNat, 0]
def k0_dev35 (d0 : Dev nD) : Nat :=
  let c0_i32_1354 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_1353 : BitVec 32 := 16#32
  let v1792 : BitVec 32 := Scalar.muli v39 c16_i32_1353
  let v1793 : BitVec 32 := Scalar.addi c0_i32_1354 v1792
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1355 : BitVec 32 := 4#32
  let v1794 : BitVec 32 := Scalar.muli v5 c4_i32_1355
  let v1795 : BitVec 32 := Scalar.addi v1793 v1794
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_1356 : BitVec 32 := 1#32
  let v1796 : BitVec 32 := Scalar.muli v42 c1_i32_1356
  let v1797 : BitVec 32 := Scalar.addi v1795 v1796
  v1797.toNat
def k0_dev36 (d0 : Dev nD) : Nat :=
  let c0_i32_1422 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_1421 : BitVec 32 := 16#32
  let v1880 : BitVec 32 := Scalar.muli v70 c16_i32_1421
  let v1881 : BitVec 32 := Scalar.addi c0_i32_1422 v1880
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1423 : BitVec 32 := 4#32
  let v1882 : BitVec 32 := Scalar.muli v5 c4_i32_1423
  let v1883 : BitVec 32 := Scalar.addi v1881 v1882
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_1424 : BitVec 32 := 1#32
  let v1884 : BitVec 32 := Scalar.muli v73 c1_i32_1424
  let v1885 : BitVec 32 := Scalar.addi v1883 v1884
  v1885.toNat
def k0_dev37 (d0 : Dev nD) : Nat :=
  let c0_i32_1462 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_1461 : BitVec 32 := 16#32
  let v1931 : BitVec 32 := Scalar.muli v39 c16_i32_1461
  let v1932 : BitVec 32 := Scalar.addi c0_i32_1462 v1931
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1463 : BitVec 32 := 4#32
  let v1933 : BitVec 32 := Scalar.muli v5 c4_i32_1463
  let v1934 : BitVec 32 := Scalar.addi v1932 v1933
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_1464 : BitVec 32 := 1#32
  let v1935 : BitVec 32 := Scalar.muli v42 c1_i32_1464
  let v1936 : BitVec 32 := Scalar.addi v1934 v1935
  v1936.toNat
def k0_dev38 (d0 : Dev nD) : Nat :=
  let c0_i32_1620 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_1619 : BitVec 32 := 16#32
  let v2125 : BitVec 32 := Scalar.muli v70 c16_i32_1619
  let v2126 : BitVec 32 := Scalar.addi c0_i32_1620 v2125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1621 : BitVec 32 := 4#32
  let v2127 : BitVec 32 := Scalar.muli v5 c4_i32_1621
  let v2128 : BitVec 32 := Scalar.addi v2126 v2127
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_1622 : BitVec 32 := 1#32
  let v2129 : BitVec 32 := Scalar.muli v73 c1_i32_1622
  let v2130 : BitVec 32 := Scalar.addi v2128 v2129
  v2130.toNat
def k0_dev39 (d0 : Dev nD) : Nat :=
  let c0_i32_2124_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2123_r0 : BitVec 32 := 16#32
  let v2584_r0 : BitVec 32 := Scalar.muli v2 c16_i32_2123_r0
  let v2585_r0 : BitVec 32 := Scalar.addi c0_i32_2124_r0 v2584_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_40 : BitVec 32 := 1#32
  let v85 : BitVec 32 := Scalar.subi v5 c1_i32_40
  let c4_i32_41 : BitVec 32 := 4#32
  let c0_i32_42 : BitVec 32 := 0#32
  let v86 : BitVec 1 := Scalar.cmpi .eq c4_i32_41 c0_i32_42
  let c1_i32_43 : BitVec 32 := 1#32
  let v87 : BitVec 32 := Scalar.select v86 c1_i32_43 c4_i32_41
  let v88 : BitVec 32 := Scalar.remsi v85 v87
  let c0_i32_45 : BitVec 32 := 0#32
  let v90 : BitVec 1 := Scalar.cmpi .slt v88 c0_i32_45
  let c0_i32_46 : BitVec 32 := 0#32
  let v91 : BitVec 1 := Scalar.cmpi .slt v87 c0_i32_46
  let v92 : BitVec 1 := Scalar.xori v90 v91
  let c0_i32_44 : BitVec 32 := 0#32
  let v89 : BitVec 1 := Scalar.cmpi .ne v88 c0_i32_44
  let v93 : BitVec 1 := Scalar.andi v92 v89
  let v94 : BitVec 32 := Scalar.addi v88 v87
  let v95 : BitVec 32 := Scalar.select v93 v94 v88
  let c4_i32_2125_r0 : BitVec 32 := 4#32
  let v2586_r0 : BitVec 32 := Scalar.muli v95 c4_i32_2125_r0
  let v2587_r0 : BitVec 32 := Scalar.addi v2585_r0 v2586_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2126_r0 : BitVec 32 := 1#32
  let v2588_r0 : BitVec 32 := Scalar.muli v8 c1_i32_2126_r0
  let v2589_r0 : BitVec 32 := Scalar.addi v2587_r0 v2588_r0
  v2589_r0.toNat
def k0_dev40 (d0 : Dev nD) : Nat :=
  let c0_i32_2129_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_2128_r0 : BitVec 32 := 16#32
  let v2590_r0 : BitVec 32 := Scalar.muli v2 c16_i32_2128_r0
  let v2591_r0 : BitVec 32 := Scalar.addi c0_i32_2129_r0 v2590_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_33 : BitVec 32 := 1#32
  let v74 : BitVec 32 := Scalar.addi v5 c1_i32_33
  let c4_i32_34 : BitVec 32 := 4#32
  let c0_i32_35 : BitVec 32 := 0#32
  let v75 : BitVec 1 := Scalar.cmpi .eq c4_i32_34 c0_i32_35
  let c1_i32_36 : BitVec 32 := 1#32
  let v76 : BitVec 32 := Scalar.select v75 c1_i32_36 c4_i32_34
  let v77 : BitVec 32 := Scalar.remsi v74 v76
  let c0_i32_38 : BitVec 32 := 0#32
  let v79 : BitVec 1 := Scalar.cmpi .slt v77 c0_i32_38
  let c0_i32_39 : BitVec 32 := 0#32
  let v80 : BitVec 1 := Scalar.cmpi .slt v76 c0_i32_39
  let v81 : BitVec 1 := Scalar.xori v79 v80
  let c0_i32_37 : BitVec 32 := 0#32
  let v78 : BitVec 1 := Scalar.cmpi .ne v77 c0_i32_37
  let v82 : BitVec 1 := Scalar.andi v81 v78
  let v83 : BitVec 32 := Scalar.addi v77 v76
  let v84 : BitVec 32 := Scalar.select v82 v83 v77
  let c4_i32_2130_r0 : BitVec 32 := 4#32
  let v2592_r0 : BitVec 32 := Scalar.muli v84 c4_i32_2130_r0
  let v2593_r0 : BitVec 32 := Scalar.addi v2591_r0 v2592_r0
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2131_r0 : BitVec 32 := 1#32
  let v2594_r0 : BitVec 32 := Scalar.muli v8 c1_i32_2131_r0
  let v2595_r0 : BitVec 32 := Scalar.addi v2593_r0 v2594_r0
  v2595_r0.toNat
def k0_dev41 (d0 : Dev nD) : Nat :=
  let c0_i32_2134_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_2133_r0 : BitVec 32 := 16#32
  let v2596_r0 : BitVec 32 := Scalar.muli v39 c16_i32_2133_r0
  let v2597_r0 : BitVec 32 := Scalar.addi c0_i32_2134_r0 v2596_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2135_r0 : BitVec 32 := 4#32
  let v2598_r0 : BitVec 32 := Scalar.muli v5 c4_i32_2135_r0
  let v2599_r0 : BitVec 32 := Scalar.addi v2597_r0 v2598_r0
  let c0_i32_15 : BitVec 32 := 0#32
  let v40 : BitVec 1 := Scalar.cmpi .eq v39 c0_i32_15
  let c7_i32_16 : BitVec 32 := 7#32
  let v41 : BitVec 32 := Scalar.subi c7_i32_16 v22
  let v42 : BitVec 32 := Scalar.select v40 v22 v41
  let c1_i32_2136_r0 : BitVec 32 := 1#32
  let v2600_r0 : BitVec 32 := Scalar.muli v42 c1_i32_2136_r0
  let v2601_r0 : BitVec 32 := Scalar.addi v2599_r0 v2600_r0
  v2601_r0.toNat
def k0_dev42 (d0 : Dev nD) : Nat :=
  let c0_i32_2139_r0 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_17 : BitVec 32 := 1#32
  let v43 : BitVec 32 := Scalar.subi v11 c1_i32_17
  let c8_i32_18 : BitVec 32 := 8#32
  let c0_i32_19 : BitVec 32 := 0#32
  let v44 : BitVec 1 := Scalar.cmpi .eq c8_i32_18 c0_i32_19
  let c1_i32_20 : BitVec 32 := 1#32
  let v45 : BitVec 32 := Scalar.select v44 c1_i32_20 c8_i32_18
  let v46 : BitVec 32 := Scalar.remsi v43 v45
  let c0_i32_22 : BitVec 32 := 0#32
  let v48 : BitVec 1 := Scalar.cmpi .slt v46 c0_i32_22
  let c0_i32_23 : BitVec 32 := 0#32
  let v49 : BitVec 1 := Scalar.cmpi .slt v45 c0_i32_23
  let v50 : BitVec 1 := Scalar.xori v48 v49
  let c0_i32_21 : BitVec 32 := 0#32
  let v47 : BitVec 1 := Scalar.cmpi .ne v46 c0_i32_21
  let v51 : BitVec 1 := Scalar.andi v50 v47
  let v52 : BitVec 32 := Scalar.addi v46 v45
  let v53 : BitVec 32 := Scalar.select v51 v52 v46
  let c0_i32_25 : BitVec 32 := 0#32
  let v55 : BitVec 1 := Scalar.cmpi .sgt v53 c0_i32_25
  let v56 : BitVec 32 := Scalar.extui v55
  let c0_i32_26 : BitVec 32 := 0#32
  let v57 : BitVec 1 := Scalar.cmpi .slt v53 c0_i32_26
  let v58 : BitVec 32 := Scalar.extui v57
  let v59 : BitVec 32 := Scalar.subi v56 v58
  let c4_i32_24 : BitVec 32 := 4#32
  let c0_i32_27 : BitVec 32 := 0#32
  let v60 : BitVec 1 := Scalar.cmpi .sgt c4_i32_24 c0_i32_27
  let v61 : BitVec 32 := Scalar.extui v60
  let c0_i32_28 : BitVec 32 := 0#32
  let v62 : BitVec 1 := Scalar.cmpi .slt c4_i32_24 c0_i32_28
  let v63 : BitVec 32 := Scalar.extui v62
  let v64 : BitVec 32 := Scalar.subi v61 v63
  let v65 : BitVec 1 := Scalar.cmpi .ne v59 v64
  let v66 : BitVec 32 := Scalar.remsi v53 c4_i32_24
  let c0_i32_29 : BitVec 32 := 0#32
  let v67 : BitVec 1 := Scalar.cmpi .ne v66 c0_i32_29
  let v68 : BitVec 1 := Scalar.andi v65 v67
  let v54 : BitVec 32 := Scalar.divsi v53 c4_i32_24
  let c1_i32_30 : BitVec 32 := 1#32
  let v69 : BitVec 32 := Scalar.subi v54 c1_i32_30
  let v70 : BitVec 32 := Scalar.select v68 v69 v54
  let c16_i32_2138_r0 : BitVec 32 := 16#32
  let v2602_r0 : BitVec 32 := Scalar.muli v70 c16_i32_2138_r0
  let v2603_r0 : BitVec 32 := Scalar.addi c0_i32_2139_r0 v2602_r0
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_2140_r0 : BitVec 32 := 4#32
  let v2604_r0 : BitVec 32 := Scalar.muli v5 c4_i32_2140_r0
  let v2605_r0 : BitVec 32 := Scalar.addi v2603_r0 v2604_r0
  let c0_i32_31 : BitVec 32 := 0#32
  let v71 : BitVec 1 := Scalar.cmpi .eq v70 c0_i32_31
  let c7_i32_32 : BitVec 32 := 7#32
  let v72 : BitVec 32 := Scalar.subi c7_i32_32 v53
  let v73 : BitVec 32 := Scalar.select v71 v53 v72
  let c1_i32_2141_r0 : BitVec 32 := 1#32
  let v2606_r0 : BitVec 32 := Scalar.muli v73 c1_i32_2141_r0
  let v2607_r0 : BitVec 32 := Scalar.addi v2605_r0 v2606_r0
  v2607_r0.toNat
abbrev stage0_0 : Fin 1 → Memref sig .tc .vmem S4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4x4096x4096 : Shape := ⟨3, ![4, 4096, 4096]⟩
abbrev S4096x4096 : Shape := ⟨2, ![4096, 4096]⟩
abbrev S4096 : Shape := ⟨1, ![4096]⟩
abbrev S_ : Shape := ⟨0, ![]⟩
abbrev S4096x1 : Shape := ⟨2, ![4096, 1]⟩
abbrev S1x4096 : Shape := ⟨2, ![1, 4096]⟩

abbrev nBuf : Space → Nat
  | .hbm => 22
  | .vmem => 0
  | .smem => 0
  | _ => 0

abbrev bufTy : (tb : Table) → Fin (tcTables nBuf tb) → BufTy
  | .hbm, ⟨0, _⟩ => ⟨S4x4096x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x4096, .f32⟩
  | .hbm, ⟨18, _⟩ => ⟨S4096x4096, .f32⟩
  | .hbm, ⟨19, _⟩ => ⟨S1x4096, .f32⟩
  | .hbm, ⟨20, _⟩ => ⟨S4096x4096, .f32⟩
  | .hbm, ⟨21, _⟩ => ⟨S4096x4096, .f32⟩
  | _, _ => ⟨S4x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]
-- ==== Proof.IdealRun.Geom.lean ====
/-
The mesh, the copies and the order of the run.

The 32 devices form a torus `x = 2, y = 4, z = 4`.  The kernel runs a ring of eight positions over `(x, z)` (position `z`
where `x = 0`, `7 - z` where `x = 1`) and a ring of four over `y`.  Every device issues the same 34 remote copies:
copies 0-2 carry partial sums around the `y` ring, 3-5 carry finished chunks around the `y` ring, and 6-33 forward
chunks around the ring of eight, in both directions.  A chunk of a device's gather buffer is named relative to the
device: `4 * j + k` is the chunk made at ring position `p - j` by the device `k` places back in the `y` ring.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.IdealRun

open Cert.KernelIdeal Cert.KernelIdeal.Gen
open Idealize.ShloMosaic Idealize.ShloMosaic.TcCoe
open Idealize.SL Idealize.SL.Sem

/-! ## The mesh -/

/-- A device's position on the ring of eight and on the ring of four. -/
def posOf (c : Dev nD) : ℕ := if c.val / 16 % 2 = 0 then c.val % 4 else 7 - c.val % 4
def rowOf (c : Dev nD) : ℕ := c.val / 4 % 4

theorem devAt_lt (q y : ℕ) : (if q % 8 < 4 then q % 8 else 23 - q % 8) + y % 4 * 4 < nD := by
  have : nD = 32 := rfl
  split <;> omega
/-- The device at ring position `q` and row `y`. -/
def devAt (q y : ℕ) : Dev nD := ⟨(if q % 8 < 4 then q % 8 else 23 - q % 8) + y % 4 * 4, devAt_lt q y⟩

/-- The neighbours: on the ring of four (up, down), on the ring of eight (right, left). -/
def up (c : Dev nD) : Dev nD := devAt (posOf c) (rowOf c + 1)
def dn (c : Dev nD) : Dev nD := devAt (posOf c) (rowOf c + 3)
def rt (c : Dev nD) : Dev nD := devAt (posOf c + 1) (rowOf c)
def lf (c : Dev nD) : Dev nD := devAt (posOf c + 7) (rowOf c)

theorem dn_up (c : Dev nD) : dn (up c) = c := by revert c; decide
theorem up_dn (c : Dev nD) : up (dn c) = c := by revert c; decide
theorem lf_rt (c : Dev nD) : lf (rt c) = c := by revert c; decide
theorem rt_lf (c : Dev nD) : rt (lf c) = c := by revert c; decide

/-- The four neighbours in the order the barrier signals them, and the neighbour whose signal `i` reaches a device. -/
def nb (i : Fin 4) (c : Dev nD) : Dev nD := match i with | 0 => dn c | 1 => up c | 2 => rt c | 3 => lf c
def bn (i : Fin 4) (c : Dev nD) : Dev nD := match i with | 0 => up c | 1 => dn c | 2 => lf c | 3 => rt c

theorem bn_nb (i : Fin 4) (c : Dev nD) : bn i (nb i c) = c := by revert i c; decide
theorem nb_bn (i : Fin 4) (c : Dev nD) : nb i (bn i c) = c := by revert i c; decide

/-! ## The copies -/

/-- The direction of a copy: 0 up the ring of four, 1 right, 2 left on the ring of eight. -/
def dirOf (e : Fin 34) : Fin 3 :=
  if e.val < 6 then 0
  else if e.val < 22 then (if (e.val - 6) / 4 % 2 = 0 then 1 else 2)
  else (if (e.val - 22) / 3 % 2 = 0 then 2 else 1)

def peer (d : Fin 3) (c : Dev nD) : Dev nD := match d with | 0 => up c | 1 => rt c | 2 => lf c
def back (d : Fin 3) (c : Dev nD) : Dev nD := match d with | 0 => dn c | 1 => lf c | 2 => rt c

theorem back_peer (d : Fin 3) (c : Dev nD) : back d (peer d c) = c := by revert d c; decide
theorem peer_back (d : Fin 3) (c : Dev nD) : peer d (back d c) = c := by revert d c; decide

/-- Where copy `e` of device `c` goes, and the device whose copy `e` reaches `c`. -/
def tgt (e : Fin 34) (c : Dev nD) : Dev nD := peer (dirOf e) c
def from' (e : Fin 34) (c : Dev nD) : Dev nD := back (dirOf e) c

theorem from_tgt (e : Fin 34) (c : Dev nD) : from' e (tgt e c) = c := back_peer _ _
theorem tgt_from (e : Fin 34) (c : Dev nD) : tgt e (from' e c) = c := peer_back _ _

/-- A copy's chunk row (`k`) and hop (`h`). -/
def rowNo (e : Fin 34) : ℕ := if e.val < 6 then e.val % 3 else if e.val < 22 then (e.val - 6) / 4 else (e.val - 22) / 3
def hop (e : Fin 34) : ℕ := if e.val < 6 then 0 else if e.val < 22 then (e.val - 6) % 4 else (e.val - 22) % 3

/-- The gather-buffer chunk a copy reads, named at its sender, and the chunk it fills, named at its receiver. -/
def srcNo (e : Fin 34) : ℕ :=
  (if dirOf e = 0 then 0 else if dirOf e = 1 then hop e else (8 - hop e) % 8) * 4 + rowNo e
def dstNo (e : Fin 34) : ℕ :=
  (if dirOf e = 0 then 1 else if dirOf e = 1 then (hop e + 1) * 4 else (7 - hop e) * 4) + rowNo e
theorem srcNo_lt (e : Fin 34) : srcNo e < 32 := by revert e; decide
theorem dstNo_lt (e : Fin 34) : dstNo e < 32 := by revert e; decide
def srcCh (e : Fin 34) : Fin 32 := ⟨srcNo e, srcNo_lt e⟩
def dstCh (e : Fin 34) : Fin 32 := ⟨dstNo e, dstNo_lt e⟩

/-- Which of the three lent shares of its source chunk a copy reads at. -/
def lane (e : Fin 34) : Fin 3 := if e.val < 6 then 0 else if e.val < 22 then 1 else 2

/-- The place in the gather buffer of chunk `x` of device `c`, and the chunk of `c` at place `t`. -/
def place (c : Dev nD) (x : Fin 32) : Fin 32 :=
  ⟨(posOf c + 8 - x.val / 4) % 8 * 4 + (rowOf c + 5 - x.val % 4) % 4, by omega⟩
def chunkAt (c : Dev nD) (t : Fin 32) : Fin 32 :=
  ⟨(posOf c + 8 - t.val / 4) % 8 * 4 + (rowOf c + 5 - t.val % 4) % 4, by omega⟩

theorem chunkAt_place (c : Dev nD) (x : Fin 32) : chunkAt c (place c x) = x := by
  have h1 : posOf c < 8 := by unfold posOf; split <;> omega
  have h2 : rowOf c < 4 := by unfold rowOf; omega
  apply Fin.ext
  simp only [chunkAt, place]
  omega
theorem place_chunkAt (c : Dev nD) (t : Fin 32) : place c (chunkAt c t) = t := chunkAt_place c t

/-- A copy fills, at its receiver, the very place it reads at its sender. -/
theorem place_tgt (e : Fin 34) (h : 3 ≤ e.val) (c : Dev nD) : place (tgt e c) (dstCh e) = place c (srcCh e) := by
  revert h; revert e c; decide +kernel

/-- The device that makes the chunk at place `t`. -/
def maker (t : Fin 32) : Dev nD := devAt (t.val / 4) (t.val % 4 + 3)

theorem maker_own (c : Dev nD) : maker (place c 0) = c := by revert c; decide

/-! ## The semaphores -/

def sendNo (e : Fin 34) : ℕ :=
  if e.val < 3 then 1 + e.val else if e.val < 6 then 4 + e.val else if e.val < 22 then 7 + e.val else 23 + e.val
def recvNo (e : Fin 34) : ℕ :=
  if e.val < 3 then 4 + e.val else if e.val < 6 then 7 + e.val else if e.val < 22 then 23 + e.val else 35 + e.val
theorem sendNo_lt (e : Fin 34) : sendNo e < 74 := by revert e; decide
theorem recvNo_lt (e : Fin 34) : recvNo e < 74 := by revert e; decide
def sendS (e : Fin 34) : DmaSem sig := ⟨sendNo e, sendNo_lt e⟩
def recvS (e : Fin 34) : DmaSem sig := ⟨recvNo e, recvNo_lt e⟩

end Cert.IdealRun

end
-- ==== Proof.IdealRun.Common.lean ====
/-
The run's vocabulary: the order of the operations, the cells, what every buffer holds and who owes what.

The kernel body is 219 memory operations in a fixed order, the same on every device; operations are named by their
position in it.  What a device holds between two operations depends on the position only, so each family of resources
below is indexed by a set of copies, chunks or tiles that is a decidable function of the position.
-/
module

public import proofs.«01_k».proof.Proof.IdealRun.Geom
public import Idealize.ShloMosaic.Lib.ValueLayout
public import Idealize.ShloMosaic.Lib.Pointwise.Index

@[expose] public section

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The order of the operations -/

/-- Where a device sends copy `e`, waits for its own copy `e` to arrive, and waits for copy `e` to have left. -/
def sendAt (e : Fin 34) : ℕ := ![12,18,24,38,42,50,39,46,54,65,43,58,68,85,51,72,88,117,62,92,120,145,40,48,56,44,60,70,52,74,90,63,94,122] e
def recvAt (e : Fin 34) : ℕ := ![13,19,25,41,49,61,45,53,64,83,57,67,84,115,71,87,116,143,91,119,144,167,47,55,66,59,69,86,73,89,118,93,121,146] e
def doneAt (e : Fin 34) : ℕ := ![180,181,182,183,186,191,184,189,194,200,187,196,201,205,192,203,206,210,198,208,211,213,185,190,195,188,197,202,193,204,207,199,209,212] e
/-- Where output tile `t` is stored to its staging slot, sent to the output, and waited for. -/
def storeAt (t : Fin 16) : ℕ := ![77,81,98,103,108,113,126,131,136,141,150,155,160,165,171,176] t
def outAt (t : Fin 16) : ℕ := ![78,82,99,104,109,114,127,132,137,142,151,156,161,166,172,177] t
def backAt (t : Fin 16) : ℕ := ![95,100,105,110,123,128,133,138,147,152,157,162,168,173,178,179] t
/-- Where barrier signal `i` is given, at the entry and at the end. -/
def sigAt (i : Fin 4) : ℕ := 3 + i.val
def endAt (i : Fin 4) : ℕ := 214 + i.val

/-- What happens at a position: 1 a send, 2 an arrival, 3 a departure, 4 to 6 a tile stored, sent and back, 7 and 8 a signal. -/
def kind (n : ℕ) : ℕ := ([0,0,0,7,7,7,7,0,0,0,0,0,1,2,0,0,0,0,1,2,0,0,0,0,1,2,0,0,0,0,0,0,0,0,0,0,0,0,1,1,1,2,1,1,1,2,1,2,1,2,1,1,1,2,1,2,1,2,1,2,1,2,1,1,2,1,2,2,1,2,1,2,1,2,1,0,0,4,5,0,0,4,5,2,2,1,2,2,1,2,1,2,1,2,1,6,0,0,4,5,6,0,0,4,5,6,0,0,4,5,6,0,0,4,5,2,2,1,2,2,1,2,1,6,0,0,4,5,6,0,0,4,5,6,0,0,4,5,6,0,0,4,5,2,2,1,2,6,0,0,4,5,6,0,0,4,5,6,0,0,4,5,6,0,0,4,5,2,6,0,0,4,5,6,0,0,4,5,6,6,3,3,3,3,3,3,3,3,3,3,3,3,3,3,3,3,3,3,3,3,3,3,3,3,3,3,3,3,3,3,3,3,3,3,8,8,8,8,0] : List ℕ).getD n 0

def unsent (n : ℕ) : Finset (Fin 34) := Finset.univ.filter fun e => n ≤ sendAt e
def flying (n : ℕ) : Finset (Fin 34) := Finset.univ.filter fun e => sendAt e < n ∧ n ≤ doneAt e
def undone (n : ℕ) : Finset (Fin 34) := Finset.univ.filter fun e => n ≤ doneAt e
def left (n : ℕ) : Finset (Fin 34) := Finset.univ.filter fun e => doneAt e < n
def awaited (n : ℕ) : Finset (Fin 34) := Finset.univ.filter fun e => n ≤ recvAt e
def arrived (n : ℕ) : Finset (Fin 34) := Finset.univ.filter fun e => recvAt e < n
def landing (n : ℕ) : Finset (Fin 34) := Finset.univ.filter fun e => 3 ≤ e.val ∧ n ≤ sendAt e
/-- The copy that brings a chunk, and the copy a lent share of a chunk serves. -/
def bringer (x : Fin 32) : Option (Fin 34) := (List.finRange 34).find? fun e => decide (3 ≤ e.val ∧ dstCh e = x)
def user (p : Fin 32 × Fin 4) : Option (Fin 34) :=
  (List.finRange 34).find? fun e => decide (3 ≤ e.val ∧ srcCh e = p.1 ∧ (lane e).castSucc = p.2)
def here (n : ℕ) (x : Fin 32) : Bool := match bringer x with | none => true | some e => decide (recvAt e < n)
def lent (n : ℕ) (p : Fin 32 × Fin 4) : Bool := match user p with | none => false | some e => decide (sendAt e < n ∧ n ≤ doneAt e)
/-- The shares of gather-buffer chunks in hand: of an arrived chunk, the kept share and the lent shares not in use. -/
def held (n : ℕ) : Finset (Fin 32 × Fin 4) := Finset.univ.filter fun p => here n p.1 = true ∧ lent n p = false
/-- The chunks of the accumulator in hand. -/
def accE (s : Fin 4) : Fin 34 := ⟨s.val, by omega⟩
def accs (n : ℕ) : Finset (Fin 4) := Finset.univ.filter fun s => s = 3 ∨ doneAt (accE s) < n
def slotOf (t : Fin 16) : Fin 2 := ⟨t.val % 2, by omega⟩
def idle (n : ℕ) : Finset (Fin 2) := Finset.univ.filter fun s => ∀ t : Fin 16, slotOf t = s → ¬ (storeAt t < n ∧ n ≤ backAt t)
def stored (n : ℕ) : Finset (Fin 16) := Finset.univ.filter fun t => storeAt t < n ∧ n ≤ outAt t
def aloft (n : ℕ) : Finset (Fin 16) := Finset.univ.filter fun t => outAt t < n ∧ n ≤ backAt t
def todo (n : ℕ) : Finset (Fin 16) := Finset.univ.filter fun t => n ≤ outAt t
def made (n : ℕ) : Finset (Fin 16) := Finset.univ.filter fun t => backAt t < n
def unsig (n : ℕ) : Finset (Fin 4) := Finset.univ.filter fun i => n ≤ sigAt i
def unend (n : ℕ) : Finset (Fin 4) := Finset.univ.filter fun i => n ≤ endAt i

/-! ## The resource algebra -/

abbrev UB : Type := URounds (GSem nD τ sig) (Fin 4)
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) :=
  ((Emb.inl : Emb UB (UB × Counters)).trans (Emb.inr : Emb (UB × Counters) UU)).trans
    (uEmb (nD := nD) (τ := τ) (sig := sig) (Ix := Unit) (Val := Elt F) (Name := ℕ) (U := UU) (Lvl := ℕ)).toEmb
def EC : UEmb Counters (MT nD τ sig Unit (Elt F) ℕ UU ℕ) :=
  ((UEmb.inr : UEmb Counters (UB × Counters)).trans (UEmb.inr : UEmb (UB × Counters) UU)).trans
    (uEmb (nD := nD) (τ := τ) (sig := sig) (Ix := Unit) (Val := Elt F) (Name := ℕ) (U := UU) (Lvl := ℕ))

instance ER_landsIn : (ER : Emb UB 𝕄).LandsIn (upEmb : UEmb _ 𝕄) := by unfold ER; infer_instance
instance EC_landsIn : (EC : UEmb Counters 𝕄).LandsIn (upEmb : UEmb _ 𝕄) := by unfold EC; infer_instance

variable (m : (ℓ : Loc nD τ sig) → Buf (Elt F) ℓ)

/-! ## Cells -/

abbrev barS : Sem sig := (SemArray.scalar (sig.barrier 0 rfl) : Sems sig S_).sem
abbrev endS : Sem sig := cc0_scoped0.sem
abbrev bCell (c : Dev nD) : GSem nD τ sig := ((c : Thread nD τ), .reg barS)
abbrev zCell (c : Dev nD) : GSem nD τ sig := ((c : Thread nD τ), .reg endS)
abbrev sCell (c : Dev nD) (e : Fin 34) : GSem nD τ sig := ((c : Thread nD τ), .dma (sendS e))
abbrev rCell (c : Dev nD) (e : Fin 34) : GSem nD τ sig := ((c : Thread nD τ), .dma (recvS e))

/-- The credit of one chunk. -/
def N : ℕ := (cc0_scratch3 : Ref sig .tc).dmaCredit S128x4096 .bf16
theorem N_pos : 0 < N := by decide

def sendOf (s : DmaSem sig) : Option (Fin 34) := (List.finRange 34).find? fun e => decide (sendS e = s)
def recvOf (s : DmaSem sig) : Option (Fin 34) := (List.finRange 34).find? fun e => decide (recvS e = s)
theorem sendOf_send (e : Fin 34) : sendOf (sendS e) = some e := by revert e; decide
theorem recvOf_recv (e : Fin 34) : recvOf (recvS e) = some e := by revert e; decide
theorem sendOf_recv (e : Fin 34) : sendOf (recvS e) = none := by revert e; decide
theorem recvOf_send (e : Fin 34) : recvOf (sendS e) = none := by revert e; decide

/-! ## Places -/

abbrev bufL (c : Dev nD) : Loc nD τ sig := (c : Thread nD τ).loc cc0_scratch3
abbrev accL (c : Dev nD) : Loc nD τ sig := (c : Thread nD τ).loc cc0_scratch0
abbrev rsL (c : Dev nD) : Loc nD τ sig := (c : Thread nD τ).loc cc0_scratch1
abbrev convL (c : Dev nD) : Loc nD τ sig := (c : Thread nD τ).loc cc0_scratch4
abbrev outL (c : Dev nD) : Loc nD τ sig := (c : Thread nD τ).loc main_v1

def bufSet (t : Fin 32) : Finset S32x128x4096.Idx := Finset.univ.filter fun i => (i 0).val = t.val
def accRow (c : Dev nD) (s : Fin 4) : ℕ := (rowOf c + 4 - s.val) % 4
def accSet (c : Dev nD) (s : Fin 4) : Finset S512x4096.Idx := Finset.univ.filter fun i => (i 0).val / 128 = accRow c s
def rsSet (s : Fin 3) : Finset S3x128x4096.Idx := Finset.univ.filter fun i => (i 0).val = s.val
def convSet (s : Fin 2) : Finset S2x256x4096.Idx := Finset.univ.filter fun i => (i 0).val = s.val
/-- Tile `t` of the output is 256 rows: half `t % 2` of the group made at ring position `p - grp t`. -/
def grp (t : Fin 16) : ℕ := ![0, 1, 7, 2, 6, 3, 5, 4] ⟨t.val / 2, by omega⟩
def tile (c : Dev nD) (t : Fin 16) : ℕ := (posOf c + 8 - grp t) % 8 * 2 + t.val % 2
def outSet (c : Dev nD) (t : Fin 16) : Finset S4096x4096.Idx := Finset.univ.filter fun i => (i 0).val / 256 = tile c t

theorem accRow_lt (c : Dev nD) (s : Fin 4) : accRow c s < 4 := Nat.mod_lt _ (by decide)
theorem posOf_lt (c : Dev nD) : posOf c < 8 := by unfold posOf; split <;> omega
theorem tile_lt (c : Dev nD) (t : Fin 16) : tile c t < 16 := by unfold tile; omega

/-! ## What the buffers hold -/

abbrev xSrc (c : Dev nD) : Memref sig .tc .hbm S512x4096 .f32 :=
  ((Memref.whole main_arg0 : Memref sig .tc .hbm S1x4096x4096 .f32).slice
    (Rect.unit (s := S1x4096x4096) (k0_off1 c) S1x512x4096.size (k0_off1_inb c)) (fun _ => rfl)).squeeze S512x4096 squeezes_S1x512x4096_S512x4096
abbrev rSrc (c : Dev nD) : Memref sig .tc .hbm S128x4096 .f32 :=
  (Memref.whole main_arg1 : Memref sig .tc .hbm S4096x4096 .f32).slice
    (Rect.unit (s := S4096x4096) (k0_off2 c) S128x4096.size (k0_off2_inb c)) (fun _ => rfl)

/-- The rows of the partial sums and of the residual a device reads, and the weights. -/
def X (c : Dev nD) : (cc0_scratch5 : Ref sig .tc).ty.Contents (Elt F) := (xSrc c).view.read (Elt F) (m ((c : Thread nD τ).loc main_arg0))
def Rr (c : Dev nD) : (cc0_scratch6 : Ref sig .tc).ty.Contents (Elt F) := (rSrc c).view.read (Elt F) (m ((c : Thread nD τ).loc main_arg1))
def Gm (c : Dev nD) : (cc0_stg0_0 : Ref sig .tc).ty.Contents (Elt F) :=
  (win0_0.blk (0 : Fin 1)).view.read (Elt F) (m ((c : Thread nD τ).loc main_arg2))

/-- Chunk `s` of a 512-row block, as device `c` counts them. -/
def cut {α : Type} (c : Dev nD) (s : Fin 4) (f : S512x4096.Idx → α) : S128x4096.Idx → α := fun i =>
  f (ix2 (n0 := 512) (n1 := 4096) ⟨accRow c s * 128 + (i 0).val, by have := accRow_lt c s; have : (i 0).val < 128 := (i 0).isLt; omega⟩ (i 1))
def lift {α : Type} (f : S128x4096.Idx → α) : S1x128x4096.Idx → α := fun i => f (ix2 (n0 := 128) (n1 := 4096) (i 1) (i 2))

def acc0 (c : Dev nD) : (cc0_scratch0 : Ref sig .tc).ty.Contents (Elt F) := k0_pay1 (X m c)
/-- The partial sum of chunk `s` when it leaves device `c`. -/
def V : ℕ → Dev nD → S128x4096.Idx → Elt F .bf16
  | 0, c => cut c 0 (acc0 m c)
  | s + 1, c => k0_pay4 (cut c ⟨(s + 1) % 4, Nat.mod_lt _ (by decide)⟩ (acc0 m c)) (lift (V s (dn c)))
/-- The normalised chunk a device makes. -/
def O (c : Dev nD) : (cc0_scratch2 : Ref sig .tc).ty.Contents (Elt F) :=
  k0_pay9 (k0_pay6 (V m 3 c) (Rr m c)) (k0_pay7 (V m 3 c) (Rr m c)) k0_pay8 (Gm m c)
def RSB (c : Dev nD) : (cc0_scratch1 : Ref sig .tc).ty.Contents (Elt F) := fun i =>
  V m (i 0).val (dn c) (ix2 (n0 := 128) (n1 := 4096) (i 1) (i 2))
def accF (c : Dev nD) : (cc0_scratch0 : Ref sig .tc).ty.Contents (Elt F) := fun i =>
  V m ((rowOf c + 4 - (i 0).val / 128) % 4) c (ix2 (n0 := 128) (n1 := 4096) ⟨(i 0).val % 128, Nat.mod_lt _ (by decide)⟩ (i 1))
def BUF : (cc0_scratch3 : Ref sig .tc).ty.Contents (Elt F) := fun i =>
  O m (maker ⟨(i 0).val, (i 0).isLt⟩) (ix2 (n0 := 128) (n1 := 4096) (i 1) (i 2))
def OUT : (main_v1 : Ref sig .tc).ty.Contents (Elt F) :=
  extf .f32 (fun i : S4096x4096.Idx => BUF m (ix3 (n0 := 32) (n1 := 128) (n2 := 4096)
    ⟨(i 0).val / 128, by have : (i 0).val < 4096 := (i 0).isLt; omega⟩ ⟨(i 0).val % 128, Nat.mod_lt _ (by decide)⟩ (i 1)) : FVec F S4096x4096 .bf16) bitsLt_bf16_f32
/-- The two chunks of tile `t` as loaded, and as stored. -/
def PV (c : Dev nD) (t : Fin 16) : Vec F S2x128x4096 .bf16 := fun i =>
  BUF m (ix3 (n0 := 32) (n1 := 128) (n2 := 4096) ⟨tile c t * 2 + (i 0).val, by have := tile_lt c t; have : (i 0).val < 2 := (i 0).isLt; omega⟩ (i 1) (i 2))
def CV (c : Dev nD) (t : Fin 16) : FVec F S1x256x4096 .f32 := k0_pay10 (PV m c t)
def CVF (c : Dev nD) (t : Fin 16) : (cc0_scratch4 : Ref sig .tc).ty.Contents (Elt F) := fun i =>
  CV m c t (ix3 (n0 := 1) (n1 := 256) (n2 := 4096) 0 (i 1) (i 2))

/-! ## Pieces of buffers -/

/-- The four shares of an arrived chunk: three lent to copies, one kept for reading. -/
def sh (i : Fin 4) : PosShare TreeShare :=
  match i with
  | 0 => fullShare.left.left | 1 => fullShare.left.right | 2 => fullShare.right.left | 3 => fullShare.right.right

def bufP (c : Dev nD) (t : Fin 32) (q : PosShare TreeShare) (f : Buf (Elt F) (bufL c)) : sProp 𝕄 := (bufL c ↦[bufSet t]{q} f)
def accP (c : Dev nD) (s : Fin 4) (f : Buf (Elt F) (accL c)) : sProp 𝕄 := (accL c ↦[accSet c s]{fullShare} f)
def rsP (c : Dev nD) (s : Fin 3) (f : Buf (Elt F) (rsL c)) : sProp 𝕄 := (rsL c ↦[rsSet s]{fullShare} f)
def convP (c : Dev nD) (s : Fin 2) (f : Buf (Elt F) (convL c)) : sProp 𝕄 := (convL c ↦[convSet s]{fullShare} f)
def outP (c : Dev nD) (t : Fin 16) (f : Buf (Elt F) (outL c)) : sProp 𝕄 := (outL c ↦[outSet c t]{fullShare} f)

instance bufP_storable (c t q f) : BI.Storable (upEmb : UEmb _ 𝕄) (bufP (F := F) c t q f) := by unfold bufP; infer_instance
instance accP_storable (c s f) : BI.Storable (upEmb : UEmb _ 𝕄) (accP (F := F) c s f) := by unfold accP; infer_instance
instance rsP_storable (c s f) : BI.Storable (upEmb : UEmb _ 𝕄) (rsP (F := F) c s f) := by unfold rsP; infer_instance

/-! ## What the signals and copies carry -/

def acc3 (e : Fin 34) : Fin 4 := ⟨e.val % 4, by omega⟩
def rs3 (e : Fin 34) : Fin 3 := ⟨e.val % 3, by omega⟩

/-- A copy that has left gives its source back; one that has arrived gives its destination, filled. -/
def sendPay (c : Dev nD) (e : Fin 34) : sProp 𝕄 :=
  if e.val < 3 then iprop(∃ f, accP c (acc3 e) f) else bufP c (place c (srcCh e)) (sh (lane e).castSucc) (BUF m)
def recvPay (c : Dev nD) (e : Fin 34) : sProp 𝕄 :=
  if e.val < 3 then rsP c (rs3 e) (RSB m c) else bufP c (place c (dstCh e)) fullShare (BUF m)

/-- The landing chunks a device gives the neighbour that fills them: of copies in direction `d`. -/
def dirSet (d : Fin 3) : Finset (Fin 34) := Finset.univ.filter fun e => 3 ≤ e.val ∧ dirOf e = d
def landPay (c : Dev nD) (d : Fin 3) : sProp 𝕄 :=
  bigSep (dirSet d) fun e => iprop(∃ f, bufP (F := F) c (place c (dstCh e)) fullShare f)
def barPay (c : Dev nD) (i : Fin 4) : sProp 𝕄 :=
  match i with
  | 0 => iprop((bigSep Finset.univ fun s : Fin 3 => iprop(∃ f, rsP (F := F) (bn 0 c) s f)) ∗ landPay (bn 0 c) 0)
  | 1 => iprop(emp)
  | 2 => landPay (bn 2 c) 2
  | 3 => landPay (bn 3 c) 1

omit [FloatOps F] in
instance landPay_storable (c d) : BI.Storable (upEmb : UEmb _ 𝕄) (landPay (F := F) c d) := by unfold landPay; infer_instance
omit [FloatOps F] in
instance barPay_storable (c i) : BI.Storable (upEmb : UEmb _ 𝕄) (barPay (F := F) c i) := by
  unfold barPay; split <;> infer_instance
instance sendPay_storable (c e) : BI.Storable (upEmb : UEmb _ 𝕄) (sendPay m c e) := by
  unfold sendPay; split <;> infer_instance
instance recvPay_storable (c e) : BI.Storable (upEmb : UEmb _ 𝕄) (recvPay m c e) := by
  unfold recvPay; split <;> infer_instance

/-- One round per cell: a barrier's four signals of one unit, a copy's credit. -/
def Rd : Rounds.Schedule (GSem nD τ sig) (Fin 4) 𝕄 where
  duties g r := if r = 0 ∧ g.1.2 = .tc then (match g.2 with | .reg _ => Finset.univ | .dma _ => {0}) else ∅
  unitless _ := False
  amount g _ _ := match g.2 with | .reg _ => 1 | .dma _ => N
  payload g _ d := match g.2 with
    | .reg s => if s = barS then barPay g.1.1 d else iprop(emp)
    | .dma s => match sendOf s with
      | some e => sendPay m g.1.1 e
      | none => match recvOf s with
        | some e => recvPay m g.1.1 e
        | none => iprop(emp)
  amount_pos g _ _ _ := by
    cases g.2
    · exact Nat.one_pos
    · exact N_pos

instance Rd_storable (g : GSem nD τ sig) (r : ℕ) (d : Fin 4) : BI.Storable (upEmb : UEmb _ 𝕄) ((Rd m).payload g r d) := by
  show BI.Storable upEmb (match g.2 with
    | .reg s => if s = barS then barPay g.1.1 d else iprop(emp)
    | .dma s => match sendOf s with
      | some e => sendPay m g.1.1 e
      | none => match recvOf s with
        | some e => recvPay m g.1.1 e
        | none => iprop(emp))
  (repeat' split) <;> infer_instance

section Sched
variable (c : Dev nD) (e : Fin 34) (i : Fin 4)

theorem duties_b : (Rd m).duties (bCell c) 0 = Finset.univ := rfl
theorem duties_z : (Rd m).duties (zCell c) 0 = Finset.univ := rfl
theorem duties_s : (Rd m).duties (sCell c e) 0 = {0} := rfl
theorem duties_r : (Rd m).duties (rCell c e) 0 = {0} := rfl
theorem duties_later (g : GSem nD τ sig) : ∀ r, 1 ≤ r → (Rd m).duties g r = ∅ :=
  fun r hr => by dsimp only [Rd]; rw [if_neg fun h => by omega]
theorem expect_b : (Rd m).expect (bCell c) 0 = 4 := rfl
theorem expect_z : (Rd m).expect (zCell c) 0 = 4 := rfl
theorem expect_s : (Rd m).expect (sCell c e) 0 = N := by
  unfold Schedule.expect Schedule.amountOf; rw [duties_s, Finset.sum_singleton]; rfl
theorem expect_r : (Rd m).expect (rCell c e) 0 = N := by
  unfold Schedule.expect Schedule.amountOf; rw [duties_r, Finset.sum_singleton]; rfl
theorem pay_b : (Rd m).payload (bCell c) 0 i = barPay c i := by dsimp only [Rd]; rw [if_pos rfl]
theorem pay_z : (Rd m).payload (zCell c) 0 i = iprop(emp) := by dsimp only [Rd]; rw [if_neg (by decide)]
theorem pay_s : (Rd m).payload (sCell c e) 0 i = sendPay m c e := by dsimp only [Rd]; rw [sendOf_send]
theorem pay_r : (Rd m).payload (rCell c e) 0 i = recvPay m c e := by dsimp only [Rd]; rw [sendOf_recv, recvOf_recv]
theorem rest_b : bigSep ((Rd m).duties (bCell c) 0 \ ∅) (fun d => (Rd m).payload (bCell c) 0 d)
    = bigSep Finset.univ (fun i => barPay (F := F) c i) := by
  rw [Finset.sdiff_empty, duties_b]; exact bigSep_congr fun i _ => pay_b m c i
theorem rest_s : bigSep ((Rd m).duties (sCell c e) 0 \ ∅) (fun d => (Rd m).payload (sCell c e) 0 d) = sendPay m c e := by
  rw [Finset.sdiff_empty, duties_s, bigSep_singleton, pay_s]
theorem rest_r : bigSep ((Rd m).duties (rCell c e) 0 \ ∅) (fun d => (Rd m).payload (rCell c e) 0 d) = recvPay m c e := by
  rw [Finset.sdiff_empty, duties_r, bigSep_singleton, pay_r]

end Sched

/-! ## What a device owes; the levels -/

/-- The units device `c` has yet to pay at position `n`. -/
def dues (n : ℕ) (c : Dev nD) : CellTallies nD τ sig Unit :=
  ∑ e ∈ unsent n, tallyAt (rCell (tgt e c) e) () N + ∑ i ∈ unend n, tallyAt (zCell (nb i c)) () 1
    + ∑ i ∈ unsig n, tallyAt (bCell (nb i c)) () 1

def L (g : GSem nD τ sig) : Finset Unit := if g.1.2 = .tc then {()} else ∅
/-- An arrival waits below every copy sent after it was. -/
def lv (g : GSem nD τ sig) (_ : Unit) : ℕ := match g.2 with
  | .reg s => if s = barS then 1 else 1000
  | .dma s => match recvOf s with | some e => 2 + sendAt e | none => 0

theorem L_of_ne (g : GSem nD τ sig) (h : g.1.2 ≠ .tc) : L g = ∅ := if_neg h
theorem L_tc (c : Dev nD) (sm : SemLoc sig) : L ((c : Thread nD τ), sm) = {()} := if_pos rfl
theorem lv_b (c : Dev nD) : lv (bCell c) () = 1 := by dsimp only [lv]; rw [if_pos rfl]
theorem lv_z (c : Dev nD) : lv (zCell c) () = 1000 := by dsimp only [lv]; rw [if_neg (by decide)]
theorem lv_r (c : Dev nD) (e : Fin 34) : lv (rCell c e) () = 2 + sendAt e := by dsimp only [lv]; rw [recvOf_recv]
theorem lv_s (c : Dev nD) (e : Fin 34) : lv (sCell c e) () = 0 := by dsimp only [lv]; rw [recvOf_send]

theorem dues_pos {n : ℕ} {c : Dev nD} {g : GSem nD τ sig} {u : Unit} (h : 0 < dues n c g u) :
    (∃ e ∈ unsent n, g = rCell (tgt e c) e) ∨ (∃ i ∈ unend n, g = zCell (nb i c)) ∨ (∃ i ∈ unsig n, g = bCell (nb i c)) := by
  by_contra hn
  simp only [not_or, not_exists, not_and] at hn
  obtain ⟨h1, h2, h3⟩ := hn
  unfold dues at h
  simp only [Pi.add_apply, Finsupp.add_apply, Finset.sum_apply, Finsupp.finsetSum_apply] at h
  rw [Finset.sum_eq_zero fun e he => by rw [tallyAt_apply, if_neg fun h' => h1 e he h'.1],
    Finset.sum_eq_zero fun i hi => by rw [tallyAt_apply, if_neg fun h' => h2 i hi h'.1],
    Finset.sum_eq_zero fun i hi => by rw [tallyAt_apply, if_neg fun h' => h3 i hi h'.1]] at h
  exact Nat.lt_irrefl 0 h

omit [FloatOps F] in
/-- A wait at level `l` below everything still owed. -/
theorem mayWait (c : Dev nD) (sm : SemLoc sig) (n l : ℕ) (hc : lv ((c : Thread nD τ), sm) () ≤ l) (hz : l < 1000)
    (he : ∀ e ∈ unsent n, l < 2 + sendAt e) (hb : unsig n = ∅ ∨ l = 0) :
    (levAts L lv : sProp 𝕄) ⊢ MayWait (c : Thread nD τ) sm () (dues n c) :=
  MayOwe.of_cut (L := L) (lev := lv) l (fun p hp => by rw [Finset.mem_singleton.mp hp, L_tc]; exact Finset.mem_singleton_self _)
    (fun g u hg => by rcases dues_pos hg with ⟨_, _, rfl⟩ | ⟨_, _, rfl⟩ | ⟨_, _, rfl⟩ <;> exact Finset.mem_singleton_self _)
    (fun p hp => by rw [Finset.mem_singleton.mp hp]; exact hc)
    (fun g u hg => by
      rcases dues_pos hg with ⟨e, h, rfl⟩ | ⟨i, h, rfl⟩ | ⟨i, h, rfl⟩
      · rw [lv_r]; exact he e h
      · rw [lv_z]; exact hz
      · rw [lv_b]
        rcases hb with hb | hb
        · rw [hb] at h; exact absurd h (Finset.notMem_empty _)
        · omega)

end Cert.IdealRun

end
-- ==== Proof.IdealRun.Order.lean ====
/-
How the sets of copies, chunks and tiles change from one position of the run to the next.
-/
module

public import proofs.«01_k».proof.Proof.IdealRun.Common

@[expose] public section

noncomputable section

namespace Cert.IdealRun

open Cert.KernelIdeal Cert.KernelIdeal.Gen
open Idealize.ShloMosaic

theorem kind_send (e : Fin 34) : kind (sendAt e) = 1 := by revert e; decide +kernel
theorem kind_recv (e : Fin 34) : kind (recvAt e) = 2 := by revert e; decide +kernel
theorem kind_done (e : Fin 34) : kind (doneAt e) = 3 := by revert e; decide +kernel
theorem kind_store (t : Fin 16) : kind (storeAt t) = 4 := by revert t; decide +kernel
theorem kind_out (t : Fin 16) : kind (outAt t) = 5 := by revert t; decide +kernel
theorem kind_back (t : Fin 16) : kind (backAt t) = 6 := by revert t; decide +kernel
theorem kind_sig (i : Fin 4) : kind (sigAt i) = 7 := by revert i; decide +kernel
theorem kind_end (i : Fin 4) : kind (endAt i) = 8 := by revert i; decide +kernel

theorem send_inj (e e' : Fin 34) : sendAt e' = sendAt e → e' = e := by revert e e'; decide +kernel
theorem recv_inj (e e' : Fin 34) : recvAt e' = recvAt e → e' = e := by revert e e'; decide +kernel
theorem done_inj (e e' : Fin 34) : doneAt e' = doneAt e → e' = e := by revert e e'; decide +kernel
theorem store_inj (e e' : Fin 16) : storeAt e' = storeAt e → e' = e := by revert e e'; decide +kernel
theorem out_inj (e e' : Fin 16) : outAt e' = outAt e → e' = e := by revert e e'; decide +kernel
theorem back_inj (e e' : Fin 16) : backAt e' = backAt e → e' = e := by revert e e'; decide +kernel

theorem send_lt_done (e : Fin 34) : sendAt e < doneAt e := by revert e; decide +kernel
theorem send_lt_recv (e : Fin 34) : sendAt e < recvAt e := by revert e; decide +kernel
theorem store_lt_out (t : Fin 16) : storeAt t < outAt t := by revert t; decide +kernel
theorem out_lt_back (t : Fin 16) : outAt t < backAt t := by revert t; decide +kernel

/-! ## Chunks of the gather buffer -/

theorem bringer_dst (e : Fin 34) (h : 3 ≤ e.val) : bringer (dstCh e) = some e := by revert h; revert e; decide +kernel
theorem user_src (e : Fin 34) (h : 3 ≤ e.val) : user (srcCh e, (lane e).castSucc) = some e := by revert h; revert e; decide +kernel
theorem bringer_some {x : Fin 32} {e : Fin 34} (h : bringer x = some e) : x = dstCh e := by
  have := List.find?_some h; simp only [decide_eq_true_eq] at this; exact this.2.symm
theorem user_some {p : Fin 32 × Fin 4} {e : Fin 34} (h : user p = some e) : 3 ≤ e.val ∧ p = (srcCh e, (lane e).castSucc) := by
  have := List.find?_some h; simp only [decide_eq_true_eq] at this
  exact ⟨this.1, Prod.ext this.2.1.symm this.2.2.symm⟩
theorem user_kept (x : Fin 32) : user (x, 3) = none := by revert x; decide +kernel
/-- A copy leaves after its source chunk has arrived. -/
theorem here_src (e : Fin 34) (h : 3 ≤ e.val) : here (sendAt e) (srcCh e) = true := by revert h; revert e; decide +kernel
/-- A tile is loaded after its chunks have arrived. -/
theorem here_tile (t : Fin 16) (k : Fin 4) : here (storeAt t - 2) ⟨(grp t * 4 + k.val) % 32, Nat.mod_lt _ (by decide)⟩ = true := by
  revert t k; decide +kernel

theorem here_iff (n : ℕ) (x : Fin 32) : here n x = true ↔ ∀ e, bringer x = some e → recvAt e < n := by
  unfold here; cases bringer x <;> simp
theorem lent_iff (n : ℕ) (p : Fin 32 × Fin 4) : lent n p = false ↔ ∀ e, user p = some e → ¬ (sendAt e < n ∧ n ≤ doneAt e) := by
  unfold lent; cases user p <;> simp
theorem mem_held (n : ℕ) (p : Fin 32 × Fin 4) : p ∈ held n ↔
    (∀ e, bringer p.1 = some e → recvAt e < n) ∧ ∀ e, user p = some e → ¬ (sendAt e < n ∧ n ≤ doneAt e) := by
  unfold held; rw [Finset.mem_filter, here_iff, lent_iff]; simp only [Finset.mem_univ, true_and]

/-! ## Positions that leave a set alone -/

section Stable
variable {n : ℕ}

theorem unsent_stable (h : kind n ≠ 1) : unsent (n + 1) = unsent n := by
  ext e; have h1 := kind_send e
  simp only [unsent, Finset.mem_filter, Finset.mem_univ, true_and]
  have : sendAt e ≠ n := fun h' => h (h' ▸ h1)
  omega
theorem landing_stable (h : kind n ≠ 1) : landing (n + 1) = landing n := by
  ext e; have h1 := kind_send e
  simp only [landing, Finset.mem_filter, Finset.mem_univ, true_and]
  have : sendAt e ≠ n := fun h' => h (h' ▸ h1)
  omega
theorem flying_stable (h : kind n ≠ 1) (h' : kind n ≠ 3) : flying (n + 1) = flying n := by
  ext e; have h1 := kind_send e; have h2 := kind_done e
  simp only [flying, Finset.mem_filter, Finset.mem_univ, true_and]
  have : sendAt e ≠ n := fun h'' => h (h'' ▸ h1)
  have : doneAt e ≠ n := fun h'' => h' (h'' ▸ h2)
  omega
theorem undone_stable (h' : kind n ≠ 3) : undone (n + 1) = undone n := by
  ext e; have h2 := kind_done e
  simp only [undone, Finset.mem_filter, Finset.mem_univ, true_and]
  have : doneAt e ≠ n := fun h'' => h' (h'' ▸ h2)
  omega
theorem left_stable (h' : kind n ≠ 3) : left (n + 1) = left n := by
  ext e; have h2 := kind_done e
  simp only [left, Finset.mem_filter, Finset.mem_univ, true_and]
  have : doneAt e ≠ n := fun h'' => h' (h'' ▸ h2)
  omega
theorem awaited_stable (h' : kind n ≠ 2) : awaited (n + 1) = awaited n := by
  ext e; have h2 := kind_recv e
  simp only [awaited, Finset.mem_filter, Finset.mem_univ, true_and]
  have : recvAt e ≠ n := fun h'' => h' (h'' ▸ h2)
  omega
theorem arrived_stable (h' : kind n ≠ 2) : arrived (n + 1) = arrived n := by
  ext e; have h2 := kind_recv e
  simp only [arrived, Finset.mem_filter, Finset.mem_univ, true_and]
  have : recvAt e ≠ n := fun h'' => h' (h'' ▸ h2)
  omega
theorem accs_stable (h' : kind n ≠ 3) : accs (n + 1) = accs n := by
  ext s; have h2 := kind_done (accE s)
  simp only [accs, Finset.mem_filter, Finset.mem_univ, true_and]
  have : doneAt (accE s) ≠ n := fun h'' => h' (h'' ▸ h2)
  exact or_congr Iff.rfl (by omega)
theorem held_stable (h1 : kind n ≠ 1) (h2 : kind n ≠ 2) (h3 : kind n ≠ 3) : held (n + 1) = held n := by
  ext p
  rw [mem_held, mem_held]
  refine and_congr (forall_congr' fun e => imp_congr_right fun _ => ?_) (forall_congr' fun e => imp_congr_right fun _ => not_congr ?_)
  · have : recvAt e ≠ n := fun h' => h2 (h' ▸ kind_recv e)
    omega
  · have : sendAt e ≠ n := fun h' => h1 (h' ▸ kind_send e)
    have : doneAt e ≠ n := fun h' => h3 (h' ▸ kind_done e)
    omega
theorem idle_stable (h1 : kind n ≠ 4) (h2 : kind n ≠ 6) : idle (n + 1) = idle n := by
  ext s
  simp only [idle, Finset.mem_filter, Finset.mem_univ, true_and]
  refine forall_congr' fun t => imp_congr_right fun _ => not_congr ?_
  have : storeAt t ≠ n := fun h' => h1 (h' ▸ kind_store t)
  have : backAt t ≠ n := fun h' => h2 (h' ▸ kind_back t)
  omega
theorem stored_stable (h1 : kind n ≠ 4) (h2 : kind n ≠ 5) : stored (n + 1) = stored n := by
  ext t
  simp only [stored, Finset.mem_filter, Finset.mem_univ, true_and]
  have : storeAt t ≠ n := fun h' => h1 (h' ▸ kind_store t)
  have : outAt t ≠ n := fun h' => h2 (h' ▸ kind_out t)
  omega
theorem aloft_stable (h1 : kind n ≠ 5) (h2 : kind n ≠ 6) : aloft (n + 1) = aloft n := by
  ext t
  simp only [aloft, Finset.mem_filter, Finset.mem_univ, true_and]
  have : outAt t ≠ n := fun h' => h1 (h' ▸ kind_out t)
  have : backAt t ≠ n := fun h' => h2 (h' ▸ kind_back t)
  omega
theorem todo_stable (h1 : kind n ≠ 5) : todo (n + 1) = todo n := by
  ext t
  simp only [todo, Finset.mem_filter, Finset.mem_univ, true_and]
  have : outAt t ≠ n := fun h' => h1 (h' ▸ kind_out t)
  omega
theorem made_stable (h1 : kind n ≠ 6) : made (n + 1) = made n := by
  ext t
  simp only [made, Finset.mem_filter, Finset.mem_univ, true_and]
  have : backAt t ≠ n := fun h' => h1 (h' ▸ kind_back t)
  omega
theorem unsig_stable (h1 : kind n ≠ 7) : unsig (n + 1) = unsig n := by
  ext i
  simp only [unsig, Finset.mem_filter, Finset.mem_univ, true_and]
  have : sigAt i ≠ n := fun h' => h1 (h' ▸ kind_sig i)
  omega
theorem unend_stable (h1 : kind n ≠ 8) : unend (n + 1) = unend n := by
  ext i
  simp only [unend, Finset.mem_filter, Finset.mem_univ, true_and]
  have : endAt i ≠ n := fun h' => h1 (h' ▸ kind_end i)
  omega

end Stable

/-! ## Positions that change a set -/

theorem unsent_send (e : Fin 34) : e ∉ unsent (sendAt e + 1) ∧ unsent (sendAt e) = insert e (unsent (sendAt e + 1)) := by
  refine ⟨by simp [unsent], ?_⟩
  ext e'; have := send_inj e e'
  simp only [unsent, Finset.mem_filter, Finset.mem_univ, true_and, Finset.mem_insert]
  constructor
  · intro h; by_cases h' : sendAt e' = sendAt e
    · exact .inl (this h')
    · exact .inr (by omega)
  · rintro (rfl | h) <;> omega
theorem landing_send (e : Fin 34) (h3 : 3 ≤ e.val) : e ∉ landing (sendAt e + 1) ∧ landing (sendAt e) = insert e (landing (sendAt e + 1)) := by
  refine ⟨by simp [landing], ?_⟩
  ext e'; have := send_inj e e'
  simp only [landing, Finset.mem_filter, Finset.mem_univ, true_and, Finset.mem_insert]
  constructor
  · rintro ⟨h0, h⟩; by_cases h' : sendAt e' = sendAt e
    · exact .inl (this h')
    · exact .inr (by omega)
  · rintro (rfl | h) <;> omega
theorem flying_send (e : Fin 34) : e ∉ flying (sendAt e) ∧ flying (sendAt e + 1) = insert e (flying (sendAt e)) := by
  refine ⟨by simp [flying], ?_⟩
  ext e'; have := send_inj e e'; have h1 := send_lt_done e
  have h2 : doneAt e' ≠ sendAt e := fun h => by have := kind_done e'; rw [h, kind_send] at this; omega
  simp only [flying, Finset.mem_filter, Finset.mem_univ, true_and, Finset.mem_insert]
  constructor
  · intro h; by_cases h' : sendAt e' = sendAt e
    · exact .inl (this h')
    · exact .inr (by omega)
  · rintro (rfl | h) <;> omega
theorem flying_done (e : Fin 34) : e ∉ flying (doneAt e + 1) ∧ flying (doneAt e) = insert e (flying (doneAt e + 1)) := by
  refine ⟨by simp [flying], ?_⟩
  ext e'; have := done_inj e e'; have h1 := send_lt_done e
  have h2 : sendAt e' ≠ doneAt e := fun h => by have := kind_send e'; rw [h, kind_done] at this; omega
  simp only [flying, Finset.mem_filter, Finset.mem_univ, true_and, Finset.mem_insert]
  constructor
  · intro h; by_cases h' : doneAt e' = doneAt e
    · exact .inl (this h')
    · exact .inr (by omega)
  · rintro (rfl | h) <;> omega
theorem undone_done (e : Fin 34) : e ∉ undone (doneAt e + 1) ∧ undone (doneAt e) = insert e (undone (doneAt e + 1)) := by
  refine ⟨by simp [undone], ?_⟩
  ext e'; have := done_inj e e'
  simp only [undone, Finset.mem_filter, Finset.mem_univ, true_and, Finset.mem_insert]
  constructor
  · intro h; by_cases h' : doneAt e' = doneAt e
    · exact .inl (this h')
    · exact .inr (by omega)
  · rintro (rfl | h) <;> omega
theorem left_done (e : Fin 34) : e ∉ left (doneAt e) ∧ left (doneAt e + 1) = insert e (left (doneAt e)) := by
  refine ⟨by simp [left], ?_⟩
  ext e'; have := done_inj e e'
  simp only [left, Finset.mem_filter, Finset.mem_univ, true_and, Finset.mem_insert]
  constructor
  · intro h; by_cases h' : doneAt e' = doneAt e
    · exact .inl (this h')
    · exact .inr (by omega)
  · rintro (rfl | h) <;> omega
theorem awaited_recv (e : Fin 34) : e ∉ awaited (recvAt e + 1) ∧ awaited (recvAt e) = insert e (awaited (recvAt e + 1)) := by
  refine ⟨by simp [awaited], ?_⟩
  ext e'; have := recv_inj e e'
  simp only [awaited, Finset.mem_filter, Finset.mem_univ, true_and, Finset.mem_insert]
  constructor
  · intro h; by_cases h' : recvAt e' = recvAt e
    · exact .inl (this h')
    · exact .inr (by omega)
  · rintro (rfl | h) <;> omega
theorem arrived_recv (e : Fin 34) : e ∉ arrived (recvAt e) ∧ arrived (recvAt e + 1) = insert e (arrived (recvAt e)) := by
  refine ⟨by simp [arrived], ?_⟩
  ext e'; have := recv_inj e e'
  simp only [arrived, Finset.mem_filter, Finset.mem_univ, true_and, Finset.mem_insert]
  constructor
  · intro h; by_cases h' : recvAt e' = recvAt e
    · exact .inl (this h')
    · exact .inr (by omega)
  · rintro (rfl | h) <;> omega
theorem accs_done (e : Fin 34) (h3 : e.val < 3) :
    (⟨e.val, by omega⟩ : Fin 4) ∉ accs (doneAt e) ∧ accs (doneAt e + 1) = insert ⟨e.val, by omega⟩ (accs (doneAt e)) := by
  revert h3; revert e; decide +kernel
theorem accs_done_ge (e : Fin 34) (h3 : 3 ≤ e.val) : accs (doneAt e + 1) = accs (doneAt e) := by
  revert h3; revert e; decide +kernel
theorem idle_store (t : Fin 16) : slotOf t ∉ idle (storeAt t + 1) ∧ idle (storeAt t) = insert (slotOf t) (idle (storeAt t + 1)) := by
  revert t; decide +kernel
theorem idle_back (t : Fin 16) : slotOf t ∉ idle (backAt t) ∧ idle (backAt t + 1) = insert (slotOf t) (idle (backAt t)) := by
  revert t; decide +kernel
theorem stored_store (t : Fin 16) : t ∉ stored (storeAt t) ∧ stored (storeAt t + 1) = insert t (stored (storeAt t)) := by
  revert t; decide +kernel
theorem stored_out (t : Fin 16) : t ∉ stored (outAt t + 1) ∧ stored (outAt t) = insert t (stored (outAt t + 1)) := by
  revert t; decide +kernel
theorem aloft_out (t : Fin 16) : t ∉ aloft (outAt t) ∧ aloft (outAt t + 1) = insert t (aloft (outAt t)) := by
  revert t; decide +kernel
theorem aloft_back (t : Fin 16) : t ∉ aloft (backAt t + 1) ∧ aloft (backAt t) = insert t (aloft (backAt t + 1)) := by
  revert t; decide +kernel
theorem todo_out (t : Fin 16) : t ∉ todo (outAt t + 1) ∧ todo (outAt t) = insert t (todo (outAt t + 1)) := by
  revert t; decide +kernel
theorem made_back (t : Fin 16) : t ∉ made (backAt t) ∧ made (backAt t + 1) = insert t (made (backAt t)) := by
  revert t; decide +kernel
theorem unsig_sig (i : Fin 4) : i ∉ unsig (sigAt i + 1) ∧ unsig (sigAt i) = insert i (unsig (sigAt i + 1)) := by
  revert i; decide +kernel
theorem unend_end (i : Fin 4) : i ∉ unend (endAt i + 1) ∧ unend (endAt i) = insert i (unend (endAt i + 1)) := by
  revert i; decide +kernel

theorem held_send (e : Fin 34) (h3 : 3 ≤ e.val) : (srcCh e, (lane e).castSucc) ∉ held (sendAt e + 1)
    ∧ held (sendAt e) = insert (srcCh e, (lane e).castSucc) (held (sendAt e + 1)) := by
  have hu := user_src e h3; have hd := send_lt_done e
  refine ⟨fun h => ((mem_held _ _).mp h).2 e hu ⟨by omega, by omega⟩, ?_⟩
  ext p
  rw [Finset.mem_insert, mem_held, mem_held]
  have hr : ∀ e', recvAt e' ≠ sendAt e := fun e' h => by have := kind_recv e'; rw [h, kind_send] at this; omega
  have hd' : ∀ e', doneAt e' ≠ sendAt e := fun e' h => by have := kind_done e'; rw [h, kind_send] at this; omega
  constructor
  · rintro ⟨h1, h2⟩
    by_cases hp : p = (srcCh e, (lane e).castSucc)
    · exact .inl hp
    · refine .inr ⟨fun e' h => by have := h1 e' h; omega, fun e' h => ?_⟩
      have := h2 e' h
      have : sendAt e' ≠ sendAt e := fun h' => hp (send_inj e e' h' ▸ (user_some h).2)
      have := hd' e'
      omega
  · rintro (rfl | ⟨h1, h2⟩)
    · refine ⟨(here_iff _ _).mp (here_src e h3), fun e' h => ?_⟩
      rw [hu] at h; cases h; omega
    · refine ⟨fun e' h => by have := h1 e' h; have := hr e'; omega, fun e' h => ?_⟩
      have := h2 e' h; have := hd' e'; omega
theorem held_done (e : Fin 34) (h3 : 3 ≤ e.val) : (srcCh e, (lane e).castSucc) ∉ held (doneAt e)
    ∧ held (doneAt e + 1) = insert (srcCh e, (lane e).castSucc) (held (doneAt e)) := by
  have hu := user_src e h3; have hd := send_lt_done e
  refine ⟨fun h => ((mem_held _ _).mp h).2 e hu ⟨by omega, by omega⟩, ?_⟩
  ext p
  rw [Finset.mem_insert, mem_held, mem_held]
  have hr : ∀ e', recvAt e' ≠ doneAt e := fun e' h => by have := kind_recv e'; rw [h, kind_done] at this; omega
  have hs : ∀ e', sendAt e' ≠ doneAt e := fun e' h => by have := kind_send e'; rw [h, kind_done] at this; omega
  constructor
  · rintro ⟨h1, h2⟩
    by_cases hp : p = (srcCh e, (lane e).castSucc)
    · exact .inl hp
    · refine .inr ⟨fun e' h => by have := h1 e' h; have := hr e'; omega, fun e' h => ?_⟩
      have := h2 e' h
      have : doneAt e' ≠ doneAt e := fun h' => hp (done_inj e e' h' ▸ (user_some h).2)
      omega
  · rintro (rfl | ⟨h1, h2⟩)
    · refine ⟨fun e' h => ?_, fun e' h => ?_⟩
      · have := (here_iff _ _).mp (here_src e h3) e' h; omega
      · rw [hu] at h; cases h; omega
    · refine ⟨fun e' h => by have := h1 e' h; omega, fun e' h => ?_⟩
      have := h2 e' h; have := hs e'; omega
theorem held_done_lt (e : Fin 34) (h3 : e.val < 3) : held (doneAt e + 1) = held (doneAt e) := by
  ext p
  rw [mem_held, mem_held]
  refine and_congr (forall_congr' fun e' => imp_congr_right fun _ => ?_) (forall_congr' fun e' => imp_congr_right fun hu => not_congr ?_)
  · have : recvAt e' ≠ doneAt e := fun h' => by have := kind_recv e'; rw [h', kind_done] at this; omega
    omega
  · have : sendAt e' ≠ doneAt e := fun h' => by have := kind_send e'; rw [h', kind_done] at this; omega
    have : doneAt e' ≠ doneAt e := fun h' => by have := done_inj e e' h'; have := (user_some hu).1; subst e'; omega
    omega
/-- An arrival adds all four shares of its chunk. -/
theorem held_recv (e : Fin 34) (h3 : 3 ≤ e.val) : (∀ i, (dstCh e, i) ∉ held (recvAt e))
    ∧ held (recvAt e + 1) = insert (dstCh e, 0) (insert (dstCh e, 1) (insert (dstCh e, 2) (insert (dstCh e, 3) (held (recvAt e))))) := by
  have hb := bringer_dst e h3
  refine ⟨fun i h => by have := ((mem_held _ _).mp h).1 e hb; omega, ?_⟩
  have hall : (insert (dstCh e, 0) (insert (dstCh e, 1) (insert (dstCh e, 2) (insert (dstCh e, 3) (held (recvAt e)))))) =
      (Finset.univ.filter fun p : Fin 32 × Fin 4 => p.1 = dstCh e) ∪ held (recvAt e) := by
    ext ⟨x, i⟩
    simp only [Finset.mem_insert, Finset.mem_union, Finset.mem_filter, Finset.mem_univ, true_and, Prod.mk.injEq]
    fin_cases i <;> simp
  rw [hall]
  ext p
  rw [Finset.mem_union, Finset.mem_filter, mem_held, mem_held]
  simp only [Finset.mem_univ, true_and]
  have hs : ∀ e', sendAt e' ≠ recvAt e := fun e' h => by have := kind_send e'; rw [h, kind_recv] at this; omega
  have hd : ∀ e', doneAt e' ≠ recvAt e := fun e' h => by have := kind_done e'; rw [h, kind_recv] at this; omega
  constructor
  · rintro ⟨h1, h2⟩
    by_cases hp : p.1 = dstCh e
    · exact .inl hp
    · refine .inr ⟨fun e' h => ?_, fun e' h => ?_⟩
      · have := h1 e' h
        have : recvAt e' ≠ recvAt e := fun h' => hp (recv_inj e e' h' ▸ bringer_some h)
        omega
      · have := h2 e' h; have := hs e'; have := hd e'; omega
  · rintro (hp | ⟨h1, h2⟩)
    · refine ⟨fun e' h => ?_, fun e' h => ?_⟩
      · rw [hp, hb] at h; cases h; omega
      · obtain ⟨h4, h5⟩ := user_some h
        have h6 := here_src e' h4
        rw [h5] at hp
        have h7 := (here_iff _ _).mp h6 e (by rw [show srcCh e' = dstCh e from hp]; exact hb)
        omega
    · refine ⟨fun e' h => by have := h1 e' h; omega, fun e' h => ?_⟩
      have := h2 e' h; have := hs e'; omega

/-- Where the two chunks of a tile lie among the device's chunks. -/
def chunkNo (c : Dev nD) (t : Fin 16) (b : Fin 2) : Fin 32 :=
  chunkAt c ⟨tile c t * 2 + b.val, by have := tile_lt c t; omega⟩
theorem grp_lt (t : Fin 16) : grp t < 8 := by revert t; decide
theorem place_chunkNo (c : Dev nD) (t : Fin 16) (b : Fin 2) : (place c (chunkNo c t b)).val = tile c t * 2 + b.val := by
  unfold chunkNo; rw [place_chunkAt]
theorem chunkNo_held (c : Dev nD) (t : Fin 16) (b : Fin 2) : (chunkNo c t b, (3 : Fin 4)) ∈ held (storeAt t - 2) := by
  rw [mem_held]
  refine ⟨(here_iff _ _).mp ?_, fun e h => by rw [user_kept] at h; cases h⟩
  have h := here_tile t ⟨(rowOf c + 5 - (t.val % 2 * 2 + b.val)) % 4, Nat.mod_lt _ (by decide)⟩
  have hp := posOf_lt c; have hg := grp_lt t
  convert h using 2
  apply Fin.ext
  simp only [chunkNo, chunkAt, tile]
  omega
theorem chunkNo_ne (c : Dev nD) (t : Fin 16) : (chunkNo c t 0, (3 : Fin 4)) ≠ (chunkNo c t 1, 3) := by
  intro h
  have h0 := place_chunkNo c t 0; have h1 := place_chunkNo c t 1
  rw [(Prod.mk.injEq _ _ _ _).mp h |>.1] at h0
  rw [h0] at h1
  simp at h1

end Cert.IdealRun

end
-- ==== Proof.IdealRun.State.lean ====
/-
What a device holds between two operations of the gathering phase.
-/
module

public import proofs.«01_k».proof.Proof.IdealRun.Order
public import Idealize.ShloMosaic.Lib.Transfers

@[expose] public section

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ)

abbrev 𝒱₀ : Variants := Variants.none

/-- The weakest precondition of a program of device `c`. -/
abbrev wpc (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The cells under the protocol -/

/-- A device's cells: copies leaving, copies arriving, the entry barrier and the end barrier. -/
abbrev CI : Type := (Fin 34 ⊕ Fin 34) ⊕ Fin 2
def csem : CI → SemLoc sig
  | .inl (.inl e) => .dma (sendS e)
  | .inl (.inr e) => .dma (recvS e)
  | .inr 0 => .reg barS
  | .inr 1 => .reg endS
def kcell (k : Dev nD × CI) : GSem nD τ sig := ((k.1 : Thread nD τ), csem k.2)

variable (K : Dev nD × CI → ℕ)

/-- What never changes: every cell's invariant, its first round reached, and the levels. -/
def Pers : sProp 𝕄 :=
  iprop((bigSep Finset.univ fun k : Dev nD × CI => cellInv ER (Rd m) (K k) (kcell k))
    ∗ (bigSep Finset.univ fun k : Dev nD × CI => reached (D := Fin 4) ER (kcell k) 0) ∗ levAts L lv)

theorem levs_persistent : BI.Persistent (levAts L lv : sProp 𝕄) := by infer_instance
theorem reached_persistent : BI.Persistent (bigSep Finset.univ fun k : Dev nD × CI => reached (D := Fin 4) (ER : Emb UB 𝕄) (kcell k) 0) := by infer_instance
theorem invs_persistent : BI.Persistent (bigSep Finset.univ fun k : Dev nD × CI => cellInv ER (Rd m) (K k) (kcell k)) := by infer_instance
instance Pers_persistent : BI.Persistent (Pers (F := F) m K) := by
  haveI := levs_persistent (F := F); haveI := reached_persistent (F := F); haveI := invs_persistent m K
  unfold Pers; infer_instance

theorem inv_at (k : Dev nD × CI) : Pers (F := F) m K ⊢ cellInv ER (Rd m) (K k) (kcell k) := by
  unfold Pers; exact sep_elim_left.trans (bigSep_elim (Finset.mem_univ k))
theorem reached_at (k : Dev nD × CI) : Pers (F := F) m K ⊢ reached (D := Fin 4) ER (kcell k) 0 := by
  unfold Pers; exact (sep_elim_right.trans sep_elim_left).trans (bigSep_elim (Finset.mem_univ k))
theorem of_levs {P : sProp 𝕄} (h : (levAts L lv : sProp 𝕄) ⊢ P) : Pers (F := F) m K ⊢ P := by
  unfold Pers; iintro ⟨-, -, H⟩; iapply h; iexact H

/-! ## The families -/

/-- The semaphores of the two staging slots, of the local chunk copy and of the two loads. -/
def convS (s : Fin 2) : DmaSem sig := ⟨70 + s.val, (by omega : 70 + s.val < 74)⟩
def locS : DmaSem sig := ⟨69, by decide⟩
def inS (s : Fin 2) : DmaSem sig := ⟨72 + s.val, (by omega : 72 + s.val < 74)⟩
abbrev cS (c : Dev nD) (s : Fin 2) : GSem nD τ sig := ((c : Thread nD τ), .dma (convS s))
/-- The credit of one tile. -/
def NC : ℕ := (main_v1 : Ref sig .tc).dmaCredit S256x4096 .f32
theorem NC_pos : 0 < NC := by decide

/-- The sending side of the copies. -/
def Fs (n : ℕ) (c : Dev nD) : sProp 𝕄 :=
  iprop((bigSep (unsent n) fun e => iprop(dutyTok ER (sCell c e) 0 (0 : Fin 4) ∗ dutyTok ER (rCell (tgt e c) e) 0 (0 : Fin 4)))
    ∗ (bigSep (flying n) fun e => cred (tallyAt (sCell c e) () N))
    ∗ (bigSep (undone n) fun e => atPos (D := Fin 4) ER (sCell c e) 0 ∅ 0)
    ∗ (bigSep (left n) fun e => atPos (D := Fin 4) ER (sCell c e) 1 ∅ 0))
/-- The arriving side. -/
def Fr (n : ℕ) (c : Dev nD) : sProp 𝕄 :=
  iprop((bigSep (awaited n) fun e => iprop(cred (tallyAt (rCell c e) () N) ∗ atPos (D := Fin 4) ER (rCell c e) 0 ∅ 0))
    ∗ (bigSep (arrived n) fun e => atPos (D := Fin 4) ER (rCell c e) 1 ∅ 0))
/-- What is owed. -/
def Fo (n : ℕ) (c : Dev nD) : sProp 𝕄 := iprop(∃ W, owes (c : Thread nD τ) (dues n c) W)
/-- The gather buffer, the accumulator and the chunks to be filled at the neighbours. -/
def Fh (n : ℕ) (c : Dev nD) : sProp 𝕄 := bigSep (held n) fun p => bufP c (place c p.1) (sh p.2) (BUF m)
def Fa (n : ℕ) (c : Dev nD) : sProp 𝕄 := bigSep (accs n) fun s => iprop(∃ f, accP (F := F) c s f)
def Fl (n : ℕ) (c : Dev nD) : sProp 𝕄 :=
  bigSep (landing n) fun e => iprop(∃ f, bufP (F := F) (tgt e c) (place (tgt e c) (dstCh e)) fullShare f)
/-- The staging slots and the output. -/
def Fc (n : ℕ) (c : Dev nD) : sProp 𝕄 :=
  iprop((bigSep (idle n) fun s => iprop((∃ f, convP (F := F) c s f) ∗ semVal (cS c s) 0))
    ∗ (bigSep (stored n) fun t => iprop(convP c (slotOf t) (CVF m c t) ∗ semVal (cS c (slotOf t)) 0))
    ∗ (bigSep (aloft n) fun t => Flight EC (c : Thread nD τ) (.dma (convS (slotOf t))) () NC
        iprop(outP c t (OUT m) ∗ convP c (slotOf t) (CVF m c t))))
def Ft (n : ℕ) (c : Dev nD) : sProp 𝕄 :=
  iprop((bigSep (todo n) fun t => iprop(∃ f, outP (F := F) c t f)) ∗ (bigSep (made n) fun t => outP c t (OUT m)))

/-- What a device holds before operation `n` of the gathering phase. -/
def St (n : ℕ) (c : Dev nD) : sProp 𝕄 :=
  iprop(Pers m K ∗ Fs n c ∗ Fr n c ∗ Fo n c ∗ Fh m n c ∗ Fa n c ∗ Fl n c ∗ Fc m n c ∗ Ft m n c)

/-! ## Views and the sets they cover -/

abbrev bufV (off : Fin 3 → ℕ) (inb : ∀ a, off a + S1x128x4096.size a ≤ S32x128x4096.size a) : Memref sig .tc .vmem S128x4096 .bf16 :=
  ((Memref.whole cc0_scratch3 : Memref sig .tc .vmem S32x128x4096 .bf16).slice (Rect.unit (s := S32x128x4096) off S1x128x4096.size inb)
    (fun _ => rfl)).squeeze S128x4096 squeezes_S1x128x4096_S128x4096
abbrev accV (off : Fin 2 → ℕ) (inb : ∀ a, off a + S128x4096.size a ≤ S512x4096.size a) : Memref sig .tc .vmem S128x4096 .bf16 :=
  (Memref.whole cc0_scratch0 : Memref sig .tc .vmem S512x4096 .bf16).slice (Rect.unit (s := S512x4096) off S128x4096.size inb) (fun _ => rfl)
abbrev rsV (off : Fin 3 → ℕ) (inb : ∀ a, off a + S1x128x4096.size a ≤ S3x128x4096.size a) : Memref sig .tc .vmem S128x4096 .bf16 :=
  ((Memref.whole cc0_scratch1 : Memref sig .tc .vmem S3x128x4096 .bf16).slice (Rect.unit (s := S3x128x4096) off S1x128x4096.size inb)
    (fun _ => rfl)).squeeze S128x4096 squeezes_S1x128x4096_S128x4096
abbrev convV (off : Fin 3 → ℕ) (inb : ∀ a, off a + S1x256x4096.size a ≤ S2x256x4096.size a) : Memref sig .tc .vmem S256x4096 .f32 :=
  ((Memref.whole cc0_scratch4 : Memref sig .tc .vmem S2x256x4096 .f32).slice (Rect.unit (s := S2x256x4096) off S1x256x4096.size inb)
    (fun _ => rfl)).squeeze S256x4096 squeezes_S1x256x4096_S256x4096
abbrev outV (off : Fin 2 → ℕ) (inb : ∀ a, off a + S256x4096.size a ≤ S4096x4096.size a) : Memref sig .tc .hbm S256x4096 .f32 :=
  (Memref.whole main_v1 : Memref sig .tc .hbm S4096x4096 .f32).slice (Rect.unit (s := S4096x4096) off S256x4096.size inb) (fun _ => rfl)

theorem set_bufV {off : Fin 3 → ℕ} {inb} (t : Fin 32) (h : off = ![t.val, 0, 0]) : (bufV off inb).view.set = bufSet t := by
  subst h
  show ((View.whole cc0_scratch3).slice _ |>.reshape _ _).set = _
  rw [View.set_reshape, View.set_slice_whole]
  ext i
  rw [Rect.mem_set_unit, bufSet, Finset.mem_filter]
  have h1 : (i 1).val < 128 := (i 1).isLt
  have h2 : (i 2).val < 4096 := (i 2).isLt
  constructor
  · intro h; refine ⟨Finset.mem_univ _, ?_⟩
    have := h 0; simp [S1x128x4096] at this; omega
  · rintro ⟨-, h⟩ a
    fin_cases a
    · show t.val ≤ (i 0).val ∧ (i 0).val < t.val + 1; omega
    · show 0 ≤ (i 1).val ∧ (i 1).val < 0 + 128; omega
    · show 0 ≤ (i 2).val ∧ (i 2).val < 0 + 4096; omega
theorem set_rsV {off : Fin 3 → ℕ} {inb} (t : Fin 3) (h : off = ![t.val, 0, 0]) : (rsV off inb).view.set = rsSet t := by
  subst h
  show ((View.whole cc0_scratch1).slice _ |>.reshape _ _).set = _
  rw [View.set_reshape, View.set_slice_whole]
  ext i
  rw [Rect.mem_set_unit, rsSet, Finset.mem_filter]
  have h1 : (i 1).val < 128 := (i 1).isLt
  have h2 : (i 2).val < 4096 := (i 2).isLt
  constructor
  · intro h; refine ⟨Finset.mem_univ _, ?_⟩
    have := h 0; simp [S1x128x4096] at this; omega
  · rintro ⟨-, h⟩ a
    fin_cases a
    · show t.val ≤ (i 0).val ∧ (i 0).val < t.val + 1; omega
    · show 0 ≤ (i 1).val ∧ (i 1).val < 0 + 128; omega
    · show 0 ≤ (i 2).val ∧ (i 2).val < 0 + 4096; omega
theorem set_convV {off : Fin 3 → ℕ} {inb} (t : Fin 2) (h : off = ![t.val, 0, 0]) : (convV off inb).view.set = convSet t := by
  subst h
  show ((View.whole cc0_scratch4).slice _ |>.reshape _ _).set = _
  rw [View.set_reshape, View.set_slice_whole]
  ext i
  rw [Rect.mem_set_unit, convSet, Finset.mem_filter]
  have h1 : (i 1).val < 256 := (i 1).isLt
  have h2 : (i 2).val < 4096 := (i 2).isLt
  constructor
  · intro h; refine ⟨Finset.mem_univ _, ?_⟩
    have := h 0; simp [S1x256x4096] at this; omega
  · rintro ⟨-, h⟩ a
    fin_cases a
    · show t.val ≤ (i 0).val ∧ (i 0).val < t.val + 1; omega
    · show 0 ≤ (i 1).val ∧ (i 1).val < 0 + 256; omega
    · show 0 ≤ (i 2).val ∧ (i 2).val < 0 + 4096; omega
theorem set_accV {off : Fin 2 → ℕ} {inb} (c : Dev nD) (s : Fin 4) (h : off = ![accRow c s * 128, 0]) : (accV off inb).view.set = accSet c s := by
  subst h
  show ((View.whole cc0_scratch0).slice _).set = _
  rw [View.set_slice_whole]
  ext i
  rw [Rect.mem_set_unit, accSet, Finset.mem_filter]
  have h2 : (i 1).val < 4096 := (i 1).isLt
  constructor
  · intro h; refine ⟨Finset.mem_univ _, ?_⟩
    have := h 0; simp [S128x4096] at this; omega
  · rintro ⟨-, h⟩ a
    fin_cases a
    · show accRow c s * 128 ≤ (i 0).val ∧ (i 0).val < accRow c s * 128 + 128; omega
    · show 0 ≤ (i 1).val ∧ (i 1).val < 0 + 4096; omega
theorem set_outV {off : Fin 2 → ℕ} {inb} (c : Dev nD) (t : Fin 16) (h : off = ![tile c t * 256, 0]) : (outV off inb).view.set = outSet c t := by
  subst h
  show ((View.whole main_v1).slice _).set = _
  rw [View.set_slice_whole]
  ext i
  rw [Rect.mem_set_unit, outSet, Finset.mem_filter]
  have h2 : (i 1).val < 4096 := (i 1).isLt
  constructor
  · intro h; refine ⟨Finset.mem_univ _, ?_⟩
    have := h 0; simp [S256x4096] at this; omega
  · rintro ⟨-, h⟩ a
    fin_cases a
    · show tile c t * 256 ≤ (i 0).val ∧ (i 0).val < tile c t * 256 + 256; omega
    · show 0 ≤ (i 1).val ∧ (i 1).val < 0 + 4096; omega

/-- Copying a piece of a buffer onto the same piece. -/
theorem copy_same {off : Fin 3 → ℕ} {inb inb'} (f g : (cc0_scratch3 : Ref sig .tc).ty.Contents (Elt F)) (i) (hi : i ∈ (bufV off inb).view.set) :
    (bufV off inb).view.write (Elt F) f ((bufV off inb').view.read (Elt F) g) Finset.univ i = g i := by
  have := View.write_read_eq_piecewise (v := (bufV off inb).view) f g Finset.univ
  rw [this]
  exact Finset.piecewise_eq_of_mem _ _ _ (by simpa [View.setOn_univ] using hi)

end Cert.IdealRun

end
-- ==== Proof.IdealRun.Steps.lean ====
/-
One rule per kind of operation: what an operation does to what a device holds.
-/
module

public import proofs.«01_k».proof.Proof.IdealRun.State

@[expose] public section

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)
variable {c : Dev nD} {α : Type}

theorem grow {I : Type} [DecidableEq I] {s t : Finset I} {a : I} (Φ : I → sProp 𝕄) (h : a ∉ t ∧ s = insert a t) :
    bigSep s Φ = iprop(Φ a ∗ bigSep t Φ) := by rw [h.2, bigSep_insert h.1]; rfl

theorem ins {I : Type} [DecidableEq I] {t : Finset I} {a : I} (Φ : I → sProp 𝕄) (h : a ∉ t) :
    bigSep (insert a t) Φ = iprop(Φ a ∗ bigSep t Φ) := grow Φ ⟨h, rfl⟩

theorem dues_stable {n : ℕ} (h1 : kind n ≠ 1) (h7 : kind n ≠ 7) (h8 : kind n ≠ 8) : dues n c = dues (n + 1) c := by
  unfold dues; rw [unsent_stable h1, unsig_stable h7, unend_stable h8]
theorem dues_send (e : Fin 34) : dues (sendAt e) c = dues (sendAt e + 1) c + tallyAt (rCell (tgt e c) e) () N := by
  have h := unsent_send e
  have hk := kind_send e
  unfold dues
  rw [h.2, Finset.sum_insert h.1, unsig_stable (n := sendAt e) (by omega), unend_stable (n := sendAt e) (by omega)]
  ac_rfl

/-! ## Positions that leave a family alone -/

section Stable
variable {n : ℕ}
theorem Fs_stable (h1 : kind n ≠ 1) (h3 : kind n ≠ 3) : Fs (F := F) (n + 1) c = Fs n c := by
  unfold Fs; rw [unsent_stable h1, flying_stable h1 h3, undone_stable h3, left_stable h3]
theorem Fr_stable (h : kind n ≠ 2) : Fr (F := F) (n + 1) c = Fr n c := by
  unfold Fr; rw [awaited_stable h, arrived_stable h]
theorem Fh_stable (h1 : kind n ≠ 1) (h2 : kind n ≠ 2) (h3 : kind n ≠ 3) : Fh m (n + 1) c = Fh m n c := by
  unfold Fh; rw [held_stable h1 h2 h3]
theorem Fa_stable (h : kind n ≠ 3) : Fa (F := F) (n + 1) c = Fa n c := by unfold Fa; rw [accs_stable h]
theorem Fl_stable (h : kind n ≠ 1) : Fl (F := F) (n + 1) c = Fl n c := by unfold Fl; rw [landing_stable h]
theorem Fc_stable (h4 : kind n ≠ 4) (h5 : kind n ≠ 5) (h6 : kind n ≠ 6) : Fc m (n + 1) c = Fc m n c := by
  unfold Fc; rw [idle_stable h4 h6, stored_stable h4 h5, aloft_stable h5 h6]
theorem Ft_stable (h5 : kind n ≠ 5) (h6 : kind n ≠ 6) : Ft m (n + 1) c = Ft m n c := by
  unfold Ft; rw [todo_stable h5, made_stable h6]
theorem Fo_stable (h1 : kind n ≠ 1) (h7 : kind n ≠ 7) (h8 : kind n ≠ 8) : Fo (F := F) (n + 1) c = Fo n c := by
  unfold Fo; rw [dues_stable (c := c) h1 h7 h8]
/-- An operation that leaves every family alone. -/
theorem St_stable (h : kind n = 0) : St m K (n + 1) c = St m K n c := by
  unfold St
  rw [Fs_stable (by omega) (by omega), Fr_stable (by omega), Fo_stable (by omega) (by omega) (by omega), Fh_stable m (by omega) (by omega) (by omega),
    Fa_stable (by omega), Fl_stable (by omega), Fc_stable m (by omega) (by omega) (by omega), Ft_stable m (by omega) (by omega)]
end Stable

/-! ## Sending a chunk on -/

theorem amount_s (e : Fin 34) : (Rd m).amount (sCell c e) 0 0 = N := rfl
theorem amount_r (e : Fin 34) : (Rd m).amount (rCell c e) 0 0 = N := rfl
theorem amount_bufV {off : Fin 3 → ℕ} {inb} (s : DmaSem sig) : (bufV off inb).view.amount (.dma s) = N := rfl

theorem send_op (e : Fin 34) (h3 : 3 ≤ e.val) (f : Buf (Elt F) (bufL (tgt e c))) {off : Fin 3 → ℕ} {inb inb'}
    (hoff : off = ![(place c (srcCh e)).val, 0, 0]) {dv : Dev nD} (hdv : dv = tgt e c) {s1 s2 : DmaSem sig} (hs1 : s1 = sendS e) (hs2 : s2 = recvS e)
    {hsc : (bufV off inb').view.ref.isScScratch = false}
    {hsrc : (bufV off inb).view.WordExact} {hdst : (bufV off inb').view.WordExact}
    {hsem : DmaTarget.Typed .vmem (.dma s2) (.remote (Dev.tc dv : Thread nD τ) (bufV off inb') (.dma s1) hsc)}
    {Q : α → sProp 𝕄} {k : PUnit → Prog (TpuEff nD τ sig (Elt F) Λ₀ .tc) α} (O : CellTallies nD τ sig Unit) (W : Waits sig Unit) :
    iprop(cellInv ER (Rd m) (K (c, .inl (.inl e))) (sCell c e) ∗ cellInv ER (Rd m) (K (tgt e c, .inl (.inr e))) (rCell (tgt e c) e)
        ∗ bufP c (place c (srcCh e)) (sh (lane e).castSucc) (BUF m) ∗ bufP (tgt e c) (place (tgt e c) (dstCh e)) fullShare f
        ∗ owes (c : Thread nD τ) (O + tallyAt (rCell (tgt e c) e) () N) W
        ∗ dutyTok ER (sCell c e) 0 (0 : Fin 4) ∗ reached (D := Fin 4) ER (sCell c e) 0
        ∗ dutyTok ER (rCell (tgt e c) e) 0 (0 : Fin 4) ∗ reached (D := Fin 4) ER (rCell (tgt e c) e) 0)
      ⊢ iprop(((cred (tallyAt (sCell c e) () N) ∗ owes (c : Thread nD τ) O W) -∗ wpc c (k ⟨⟩) Q)
          -∗ wpc c (.op (.enqueueDma (bufV off inb) (.remote (Dev.tc dv : Thread nD τ) (bufV off inb') (.dma s1) hsc) (.dma s2) hsrc hdst hsem) k) Q) := by
  subst hdv hs1 hs2
  have hp : place (tgt e c) (dstCh e) = place c (srcCh e) := place_tgt e h3 c
  have hset := set_bufV (inb := inb) (place c (srcCh e)) hoff
  have hset' := set_bufV (inb := inb') (place c (srcCh e)) hoff
  have hP1 : bufP c (place c (srcCh e)) (sh (lane e).castSucc) (BUF m)
      = ((bufV off inb).view.loc (c : Thread nD τ) ↦[(bufV off inb).view.set]{sh (lane e).castSucc} (BUF m)) := by
    unfold bufP; rw [hset]
  have hP2 : ∀ g, bufP (F := F) (tgt e c) (place (tgt e c) (dstCh e)) fullShare g
      = ((bufV off inb').view.loc (tgt e c : Thread nD τ) ↦[(bufV off inb').view.set]{fullShare} g) := by
    intro g; unfold bufP; rw [hp, hset']
  rw [hP1, hP2]
  have hr : τ.routes (c : Thread nD τ) (tgt e c : Thread nD τ) = true := by routes
  refine Rounds.wp_send_pointsTo (Q := Q) (k := k) 𝒱₀ ER (Rd m) (c : Thread nD τ) none (κ₁ := K (c, .inl (.inl e))) (κ₂ := K (tgt e c, .inl (.inr e)))
    (src := bufV off inb) (dst := bufV off inb') (c' := (tgt e c : Thread nD τ)) (sS := .dma (sendS e)) (sem := .dma (recvS e))
    (hsc := hsc) (hsrc := hsrc) (hdst := hdst) (hsem := hsem) (q := sh (lane e).castSucc) (fs := BUF m)
    (r₁ := 0) (r₂ := 0) (d₁ := (0 : Fin 4)) (d₂ := (0 : Fin 4)) (fd := f)
    (by rw [duties_s]; exact Finset.mem_singleton_self _) (by rw [duties_r]; exact Finset.mem_singleton_self _)
    () () N (amount_bufV _) (amount_s m e) (amount_r m e) (Es := Set.univ) O rfl (W := W) ?_ ?_ hr
  · rw [pay_s, sendPay, if_neg (by omega), hP1]
  · rw [pay_r, recvPay, if_neg (by omega), hP2]
    exact Entails.of_eq (pointsTo_congr fun i hi => copy_same _ _ i (by rw [hset, ← hset']; exact hi))

theorem step_send (e : Fin 34) (h3 : 3 ≤ e.val) {n : ℕ} (hn : sendAt e = n) {off : Fin 3 → ℕ} {inb inb'}
    (hoff : off = ![(place c (srcCh e)).val, 0, 0]) {dv : Dev nD} (hdv : dv = tgt e c) {s1 s2 : DmaSem sig} (hs1 : s1 = sendS e) (hs2 : s2 = recvS e)
    {hsc : (bufV off inb').view.ref.isScScratch = false}
    {hsrc : (bufV off inb).view.WordExact} {hdst : (bufV off inb').view.WordExact}
    {hsem : DmaTarget.Typed .vmem (.dma s2) (.remote (Dev.tc dv : Thread nD τ) (bufV off inb') (.dma s1) hsc)}
    {Q : α → sProp 𝕄} {k : PUnit → Prog (TpuEff nD τ sig (Elt F) Λ₀ .tc) α} (hk : St m K (n + 1) c ⊢ wpc c (k ⟨⟩) Q) :
    St m K n c ⊢ wpc c (Prog.lift (.enqueueDma (bufV off inb) (.remote (Dev.tc dv : Thread nD τ) (bufV off inb') (.dma s1) hsc) (.dma s2) hsrc hdst hsem) >>= k) Q := by
  subst hn
  have hk1 := kind_send e
  simp only [Prog.lift, Prog.bind_op, Prog.bind_ret, Prog.pure_eq_ret]
  unfold St Fs Fh Fl Fo
  rw [grow _ (unsent_send e), grow _ (held_send e h3), grow _ (landing_send e h3)]
  iintro ⟨#HP, ⟨⟨⟨Ht1, Ht2⟩, Hu⟩, Hf, Hud, Hle⟩, HFr, ⟨%W, HO⟩, ⟨Hb, Hh⟩, HFa, ⟨⟨%f, Hd⟩, Hl⟩, HFc, HFt⟩
  ihave #HI1 := (inv_at m K (c, .inl (.inl e))) $$ HP
  ihave #HI2 := (inv_at m K (tgt e c, .inl (.inr e))) $$ HP
  ihave #HR1 := (reached_at m K (c, .inl (.inl e))) $$ HP
  ihave #HR2 := (reached_at m K (tgt e c, .inl (.inr e))) $$ HP
  rw [dues_send e]
  iapply (send_op m K e h3 f hoff hdv hs1 hs2 (dues (sendAt e + 1) c) W) $$ [Ht1 Ht2 HO Hb Hd]
  · isplitr; · iexact HI1
    isplitr; · iexact HI2
    isplitl [Hb]; · iexact Hb
    isplitl [Hd]; · iexact Hd
    isplitl [HO]; · iexact HO
    isplitl [Ht1]; · iexact Ht1
    isplitr; · iexact HR1
    isplitl [Ht2]; · iexact Ht2
    iexact HR2
  iintro ⟨Hc, HO⟩
  iapply hk
  unfold St Fs Fh Fl Fo
  rw [grow _ (flying_send e), undone_stable (n := sendAt e) (by omega), left_stable (n := sendAt e) (by omega), Fr_stable (n := sendAt e) (by omega),
    Fa_stable (n := sendAt e) (by omega), Fc_stable m (n := sendAt e) (by omega) (by omega) (by omega), Ft_stable m (n := sendAt e) (by omega) (by omega)]
  isplitr; · iexact HP
  isplitl [Hu Hc Hf Hud Hle]
  · isplitl [Hu]; · iexact Hu
    isplitl [Hc Hf]
    · isplitl [Hc]; · iexact Hc
      iexact Hf
    isplitl [Hud]; · iexact Hud
    iexact Hle
  isplitl [HFr]; · iexact HFr
  isplitl [HO]
  · iexists W; iexact HO
  isplitl [Hh]; · iexact Hh
  isplitl [HFa]; · iexact HFa
  isplitl [Hl]; · iexact Hl
  isplitl [HFc]; · iexact HFc
  iexact HFt

/-! ## Waiting for a chunk -/

theorem unsig_late {n : ℕ} (h : 7 ≤ n) : unsig n = ∅ := by
  unfold unsig; rw [Finset.filter_eq_empty_iff]; intro i _; unfold sigAt; omega
theorem recv_late (e : Fin 34) : 7 ≤ recvAt e := by revert e; decide
omit [FloatOps F] in
theorem mayWait_recv (e : Fin 34) : (levAts L lv : sProp 𝕄) ⊢ MayWait (c : Thread nD τ) (.dma (recvS e)) () (dues (recvAt e) c) := by
  have h1 := send_lt_recv e
  refine mayWait c _ (recvAt e) (2 + sendAt e) (le_of_eq (lv_r c e)) ?_ ?_ (.inl (unsig_late (recv_late e)))
  · have : sendAt e < 300 := by revert e; decide
    omega
  · intro e' h; have := (Finset.mem_filter.mp h).2; omega
omit [FloatOps F] in
theorem mayWait_zero (n : ℕ) (s : DmaSem sig) (h : recvOf s = none) : (levAts L lv : sProp 𝕄) ⊢ MayWait (c : Thread nD τ) (.dma s) () (dues n c) :=
  mayWait c _ n 0 (by dsimp only [lv]; rw [h]) (by omega) (by intro e' h; omega) (.inr rfl)

theorem may_recv (e : Fin 34) : Pers m K ⊢ MayWait (c : Thread nD τ) (.dma (recvS e)) () (dues (recvAt e) c) :=
  of_levs m K (mayWait_recv e)
theorem may_zero (n : ℕ) (s : DmaSem sig) (h : recvOf s = none) : Pers m K ⊢ MayWait (c : Thread nD τ) (.dma s) () (dues n c) :=
  of_levs m K (mayWait_zero n s h)

omit [FloatOps F] in
/-- A whole chunk is four shares of it. -/
theorem buf_shares (c : Dev nD) (t : Fin 32) (f : Buf (Elt F) (bufL c)) :
    bufP c t fullShare f ⊢ iprop(bufP c t (sh 0) f ∗ bufP c t (sh 1) f ∗ bufP c t (sh 2) f ∗ bufP c t (sh 3) f) := by
  unfold bufP
  iintro H
  ihave H := (pointsTo_share (PosShare.mem_left_op_right fullShare)).1 $$ H
  icases H with ⟨HL, HR⟩
  ihave HL := (pointsTo_share (PosShare.mem_left_op_right fullShare.left)).1 $$ HL
  ihave HR := (pointsTo_share (PosShare.mem_left_op_right fullShare.right)).1 $$ HR
  icases HL with ⟨H1, H2⟩
  icases HR with ⟨H3, H4⟩
  isplitl [H1]; · iexact H1
  isplitl [H2]; · iexact H2
  isplitl [H3]; · iexact H3
  iexact H4
omit [FloatOps F] in
theorem buf_whole (c : Dev nD) (t : Fin 32) (f : Buf (Elt F) (bufL c)) :
    iprop(bufP c t (sh 0) f ∗ bufP c t (sh 1) f ∗ bufP c t (sh 2) f ∗ bufP c t (sh 3) f) ⊢ bufP c t fullShare f := by
  unfold bufP
  iintro ⟨H1, H2, H3, H4⟩
  iapply (pointsTo_share (PosShare.mem_left_op_right fullShare)).2
  isplitl [H1 H2]
  · iapply (pointsTo_share (PosShare.mem_left_op_right fullShare.left)).2
    isplitl [H1]; · iexact H1
    iexact H2
  · iapply (pointsTo_share (PosShare.mem_left_op_right fullShare.right)).2
    isplitl [H3]; · iexact H3
    iexact H4

/-- A wait on a copy's cell: the round closes and its payload comes. -/
theorem wait_op (k : CI) (s : DmaSem sig) (hs : csem k = .dma s) (hex : (Rd m).expect (kcell (c, k)) 0 = N)
    {D : sProp 𝕄} (hD : bigSep ((Rd m).duties (kcell (c, k)) 0 \ ∅) (fun d => (Rd m).payload (kcell (c, k)) 0 d) = D)
    {sp sp' : Space} {s1 s2 : Shape} {e1 e2 : EltTy} {srcw : Memref sig .tc sp' s1 e1} {dstw : Memref sig .tc sp s2 e2}
    {hsrc : srcw.view.WordExact} {hdst : dstw.view.WordExact} (hN : dstw.view.dmaCredit = N)
    {Q : α → sProp 𝕄} {k' : PUnit → Prog (TpuEff nD τ sig (Elt F) Λ₀ .tc) α} (O : CellTallies nD τ sig Unit) (W : Waits sig Unit) :
    iprop(cellInv ER (Rd m) (K (c, k)) (kcell (c, k)) ∗ cred (tallyAt (kcell (c, k)) () N) ∗ owes (c : Thread nD τ) O W
        ∗ MayWait (c : Thread nD τ) (.dma s) () O ∗ atPos (D := Fin 4) ER (kcell (c, k)) 0 ∅ 0)
      ⊢ iprop(((owes (c : Thread nD τ) O (insert (.dma s, ()) W) ∗ atPos (D := Fin 4) ER (kcell (c, k)) 1 ∅ 0 ∗ D) -∗ wpc c (k' ⟨⟩) Q)
          -∗ wpc c (.op (.waitDma2 s srcw dstw hsrc hdst) k') Q) := by
  have hk : kcell (c, k) = ((c : Thread nD τ), .dma s) := by unfold kcell; rw [hs]
  subst hD
  rw [hk] at hex ⊢
  rw [← hN]
  iintro H Hk
  iapply (Rounds.wp_wait_rest_token 𝒱₀ ER (Rd m) (c : Thread nD τ) none (κ := K (c, k))
    (wpE_waitDma2_eq 𝒱₀ (c : Thread nD τ) none Set.univ) (Set.mem_univ _) () (O := O) (W := W) (R := 0) (m := 0) (T := ∅)
    (by rw [Nat.zero_add, hex, hN])) $$ H
  iintro ⟨HO, Hat, -, Hp⟩
  iapply Hk
  isplitl [HO]; · iexact HO
  isplitl [Hat]; · iexact Hat
  iexact Hp

theorem recvPay_ge (e : Fin 34) (h3 : 3 ≤ e.val) : recvPay m c e = bufP c (place c (dstCh e)) fullShare (BUF m) := by
  unfold recvPay; rw [if_neg (by omega)]

theorem step_recv (e : Fin 34) (h3 : 3 ≤ e.val) {n : ℕ} (hn : recvAt e = n) {s : DmaSem sig} (hs : s = recvS e)
    {sp sp' : Space} {s1 s2 : Shape} {e1 e2 : EltTy} {srcw : Memref sig .tc sp' s1 e1} {dstw : Memref sig .tc sp s2 e2}
    {hsrc : srcw.view.WordExact} {hdst : dstw.view.WordExact} (hN : dstw.view.dmaCredit = N)
    {Q : α → sProp 𝕄} {k : PUnit → Prog (TpuEff nD τ sig (Elt F) Λ₀ .tc) α} (hk : St m K (n + 1) c ⊢ wpc c (k ⟨⟩) Q) :
    St m K n c ⊢ wpc c (Prog.lift (.waitDma2 s srcw dstw hsrc hdst) >>= k) Q := by
  subst hn hs
  have hk1 := kind_recv e
  have hh := held_recv e h3
  simp only [Prog.lift, Prog.bind_op, Prog.bind_ret, Prog.pure_eq_ret]
  unfold St Fr Fo Fh
  rw [grow _ (awaited_recv e)]
  iintro ⟨#HP, HFs, ⟨⟨⟨Hc, Hat⟩, Haw⟩, Har⟩, ⟨%W, HO⟩, Hh, HFa, HFl, HFc, HFt⟩
  ihave #HI := (inv_at m K (c, .inl (.inr e))) $$ HP
  iapply (wait_op m K (.inl (.inr e)) (recvS e) rfl (expect_r m c e) (rest_r m c e) hN (dues (recvAt e) c) W) $$ [Hc Hat HO]
  · isplitr; · iexact HI
    isplitl [Hc]; · iexact Hc
    isplitl [HO]; · iexact HO
    isplitr; · iapply (may_recv m K e); iexact HP
    iexact Hat
  iintro ⟨HO, Hat, Hp⟩
  ihave Hp := (Entails.of_eq (recvPay_ge m e h3)) $$ Hp
  ihave Hp := (buf_shares c (place c (dstCh e)) (BUF m)) $$ Hp
  icases Hp with ⟨H0, H1, H2, H3⟩
  iapply hk
  unfold St Fr Fo Fh
  rw [grow _ (arrived_recv e), hh.2, ins _ (by simp [hh.1]), ins _ (by simp [hh.1]), ins _ (by simp [hh.1]), ins _ (by simp [hh.1]),
    Fs_stable (n := recvAt e) (by omega) (by omega), ← dues_stable (n := recvAt e) (c := c) (by omega) (by omega) (by omega),
    Fa_stable (n := recvAt e) (by omega), Fl_stable (n := recvAt e) (by omega), Fc_stable m (n := recvAt e) (by omega) (by omega) (by omega), Ft_stable m (n := recvAt e) (by omega) (by omega)]
  isplitr; · iexact HP
  isplitl [HFs]; · iexact HFs
  isplitl [Haw Hat Har]
  · isplitl [Haw]; · iexact Haw
    isplitl [Hat]; · iexact Hat
    iexact Har
  isplitl [HO]
  · iexists _; iexact HO
  isplitl [H0 H1 H2 H3 Hh]
  · isplitl [H0]; · iexact H0
    isplitl [H1]; · iexact H1
    isplitl [H2]; · iexact H2
    isplitl [H3]; · iexact H3
    iexact Hh
  isplitl [HFa]; · iexact HFa
  isplitl [HFl]; · iexact HFl
  isplitl [HFc]; · iexact HFc
  iexact HFt

/-- Waiting for a copy to have left: its source comes back. -/
theorem step_done (e : Fin 34) {n : ℕ} (hn : doneAt e = n) {s : DmaSem sig} (hs : s = sendS e)
    {sp sp' : Space} {s1 s2 : Shape} {e1 e2 : EltTy} {srcw : Memref sig .tc sp' s1 e1} {dstw : Memref sig .tc sp s2 e2}
    {hsrc : srcw.view.WordExact} {hdst : dstw.view.WordExact} (hN : dstw.view.dmaCredit = N)
    {Q : α → sProp 𝕄} {k : PUnit → Prog (TpuEff nD τ sig (Elt F) Λ₀ .tc) α} (hk : St m K (n + 1) c ⊢ wpc c (k ⟨⟩) Q) :
    St m K n c ⊢ wpc c (Prog.lift (.waitDma2 s srcw dstw hsrc hdst) >>= k) Q := by
  subst hn hs
  have hk1 := kind_done e
  simp only [Prog.lift, Prog.bind_op, Prog.bind_ret, Prog.pure_eq_ret]
  unfold St Fs Fo
  rw [grow _ (undone_done e), grow _ (flying_done e)]
  iintro ⟨#HP, ⟨Hu, ⟨Hc, Hf⟩, ⟨Hat, Hud⟩, Hle⟩, HFr, ⟨%W, HO⟩, HFh, HFa, HFl, HFc, HFt⟩
  ihave #HI := (inv_at m K (c, .inl (.inl e))) $$ HP
  iapply (wait_op m K (.inl (.inl e)) (sendS e) rfl (expect_s m c e) (rest_s m c e) hN (dues (doneAt e) c) W) $$ [Hc Hat HO]
  · isplitr; · iexact HI
    isplitl [Hc]; · iexact Hc
    isplitl [HO]; · iexact HO
    isplitr; · iapply (may_zero m K (doneAt e) (sendS e) (recvOf_send e)); iexact HP
    iexact Hat
  iintro ⟨HO, Hat, Hp⟩
  have hback : iprop(sendPay m c e ∗ Fh m (doneAt e) c ∗ Fa (F := F) (doneAt e) c)
      ⊢ iprop(Fh m (doneAt e + 1) c ∗ Fa (F := F) (doneAt e + 1) c) := by
    unfold sendPay Fh Fa
    by_cases h : e.val < 3
    · have h4 : acc3 e = ⟨e.val, by omega⟩ := Fin.ext (by show e.val % 4 = e.val; omega)
      rw [if_pos h, held_done_lt e h, grow _ (accs_done e h), h4]
      iintro ⟨Hp, Hh, Ha⟩
      isplitl [Hh]; · iexact Hh
      isplitl [Hp]; · iexact Hp
      iexact Ha
    · rw [if_neg h, accs_done_ge e (by omega), grow _ (held_done e (by omega))]
      iintro ⟨Hp, Hh, Ha⟩
      isplitl [Hh Hp]
      · isplitl [Hp]; · iexact Hp
        iexact Hh
      iexact Ha
  ihave Hb := hback $$ [Hp HFh HFa]
  · isplitl [Hp]; · iexact Hp
    isplitl [HFh]; · iexact HFh
    iexact HFa
  icases Hb with ⟨HFh, HFa⟩
  iapply hk
  unfold St Fs Fo
  rw [grow _ (left_done e), unsent_stable (n := doneAt e) (by omega), Fr_stable (n := doneAt e) (by omega), ← dues_stable (n := doneAt e) (c := c) (by omega) (by omega) (by omega),
    Fl_stable (n := doneAt e) (by omega), Fc_stable m (n := doneAt e) (by omega) (by omega) (by omega), Ft_stable m (n := doneAt e) (by omega) (by omega)]
  isplitr; · iexact HP
  isplitl [Hu Hf Hud Hat Hle]
  · isplitl [Hu]; · iexact Hu
    isplitl [Hf]; · iexact Hf
    isplitl [Hud]; · iexact Hud
    isplitl [Hat]; · iexact Hat
    iexact Hle
  isplitl [HFr]; · iexact HFr
  isplitl [HO]
  · iexists _; iexact HO
  isplitl [HFh]; · iexact HFh
  isplitl [HFa]; · iexact HFa
  isplitl [HFl]; · iexact HFl
  isplitl [HFc]; · iexact HFc
  iexact HFt

/-! ## Turning chunks into output -/

/-- Two chunks read at once. -/
abbrev pairR (off : Fin 3 → ℕ) (inb : ∀ a, off a + S2x128x4096.size a ≤ S32x128x4096.size a) : Rect S32x128x4096 :=
  Rect.unit (s := S32x128x4096) off S2x128x4096.size inb
abbrev slotR (off : Fin 3 → ℕ) (inb : ∀ a, off a + S1x256x4096.size a ≤ S2x256x4096.size a) : Rect S2x256x4096 :=
  Rect.unit (s := S2x256x4096) off S1x256x4096.size inb

theorem read_pair (t : Fin 16) {off : Fin 3 → ℕ} {inb} (hoff : off = ![tile c t * 2, 0, 0]) :
    (Memref.whole cc0_scratch3 : Memref sig .tc .vmem S32x128x4096 .bf16).view.readAt (Elt F) (pairR off inb).toLoadRect (BUF m) = PV m c t := by
  subst hoff
  funext x
  show BUF m ((pairR _ inb).emb x) = BUF m _
  congr 1
  funext a
  apply Fin.ext
  rw [Rect.emb_apply]
  fin_cases a
  · show tile c t * 2 + 1 * (x 0).val = tile c t * 2 + (x 0).val; omega
  · show 0 + 1 * (x 1).val = (x 1).val; omega
  · show 0 + 1 * (x 2).val = (x 2).val; omega
theorem pair_sub (t : Fin 16) {off : Fin 3 → ℕ} {inb} (hoff : off = ![tile c t * 2, 0, 0]) :
    (Memref.whole cc0_scratch3 : Memref sig .tc .vmem S32x128x4096 .bf16).view.setOn (pairR off inb).toLoadRect.set
      ⊆ bufSet (place c (chunkNo c t 0)) ∪ bufSet (place c (chunkNo c t 1)) := by
  subst hoff
  intro i hi
  obtain ⟨x, hx, rfl⟩ := Finset.mem_map.mp hi
  have h := (Rect.mem_set_unit (s := S32x128x4096) (inb := inb) (i := x)).mp hx 0
  rw [Finset.mem_union, bufSet, bufSet, Finset.mem_filter, Finset.mem_filter, place_chunkNo, place_chunkNo]
  have h' : tile c t * 2 ≤ (x 0).val ∧ (x 0).val < tile c t * 2 + 2 := h
  show (_ ∧ (x 0).val = _) ∨ (_ ∧ (x 0).val = _)
  have : (0 : Fin 2).val = 0 := rfl
  have : (1 : Fin 2).val = 1 := rfl
  simp only [Finset.mem_univ, true_and]
  omega
theorem chunk_disj (t : Fin 16) : Disjoint (bufSet (place c (chunkNo c t 0))) (bufSet (place c (chunkNo c t 1))) := by
  rw [Finset.disjoint_left]
  intro i h h'
  have h1 := (Finset.mem_filter.mp h).2
  have h2 := (Finset.mem_filter.mp h').2
  rw [h1, place_chunkNo, place_chunkNo] at h2
  have : (0 : Fin 2).val = 0 := rfl
  have : (1 : Fin 2).val = 1 := rfl
  omega

theorem load_op (t : Fin 16) {off : Fin 3 → ℕ} {inb} (hoff : off = ![tile c t * 2, 0, 0])
    {hl : (Memref.whole cc0_scratch3 : Memref sig .tc .vmem S32x128x4096 .bf16).view.LoadsAt (pairR off inb).toLoadRect}
    {Q : α → sProp 𝕄} {k : Vec F S2x128x4096 .bf16 → Prog (TpuEff nD τ sig (Elt F) Λ₀ .tc) α} :
    iprop(bufP c (place c (chunkNo c t 0)) (sh 3) (BUF m) ∗ bufP c (place c (chunkNo c t 1)) (sh 3) (BUF m))
      ⊢ iprop(((bufP c (place c (chunkNo c t 0)) (sh 3) (BUF m) ∗ bufP c (place c (chunkNo c t 1)) (sh 3) (BUF m)) -∗ wpc c (k (PV m c t)) Q)
        -∗ wpc c (.op (.load (Memref.whole cc0_scratch3 : Memref sig .tc .vmem S32x128x4096 .bf16) (pairR off inb).toLoadRect hl) k) Q) := by
  unfold bufP
  iintro H Hk
  ihave H := (pointsTo_union (chunk_disj t)).2 $$ H
  iapply (wp_load 𝒱₀ (c : Thread nD τ) none Set.univ (m := (Memref.whole cc0_scratch3 : Memref sig .tc .vmem S32x128x4096 .bf16))
    (r := (pairR off inb).toLoadRect) (hl := hl) (k := k) (pair_sub t hoff)) $$ [H]
  · iexact H
  iintro H
  rw [read_pair m t hoff]
  iapply Hk
  iapply (pointsTo_union (chunk_disj t)).1
  iexact H

theorem late_load (t : Fin 16) {n : ℕ} (hn : storeAt t = n + 2) : kind n = 0 := by
  have : ∀ t : Fin 16, kind (storeAt t - 2) = 0 := by decide +kernel
  have h := this t
  rwa [hn, Nat.add_sub_cancel] at h
theorem late_dead (t : Fin 16) {n : ℕ} (hn : storeAt t = n + 1) : kind n = 0 := by
  have : ∀ t : Fin 16, kind (storeAt t - 1) = 0 := by decide +kernel
  have h := this t
  rwa [hn, Nat.add_sub_cancel] at h

theorem step_load (t : Fin 16) {n : ℕ} (hn : storeAt t = n + 2) {off : Fin 3 → ℕ} {inb} (hoff : off = ![tile c t * 2, 0, 0])
    {hl : (Memref.whole cc0_scratch3 : Memref sig .tc .vmem S32x128x4096 .bf16).view.LoadsAt (pairR off inb).toLoadRect}
    {Q : α → sProp 𝕄} {k : Vec F S2x128x4096 .bf16 → Prog (TpuEff nD τ sig (Elt F) Λ₀ .tc) α}
    (hk : St m K (n + 1) c ⊢ wpc c (k (PV m c t)) Q) :
    St m K n c ⊢ wpc c (Prog.lift (.load (Memref.whole cc0_scratch3 : Memref sig .tc .vmem S32x128x4096 .bf16) (pairR off inb).toLoadRect hl) >>= k) Q := by
  simp only [Prog.lift, Prog.bind_op, Prog.bind_ret, Prog.pure_eq_ret]
  rw [St_stable m K (late_load t hn)] at hk
  have h0 := chunkNo_held c t 0
  have h1 := chunkNo_held c t 1
  rw [hn, Nat.add_sub_cancel] at h0 h1
  have hne := chunkNo_ne c t
  have hsplit : Fh m n c = iprop(bufP c (place c (chunkNo c t 0)) (sh 3) (BUF m) ∗ bufP c (place c (chunkNo c t 1)) (sh 3) (BUF m)
      ∗ bigSep (((held n).erase (chunkNo c t 0, 3)).erase (chunkNo c t 1, 3)) fun p => bufP c (place c p.1) (sh p.2) (BUF m)) := by
    unfold Fh
    rw [grow _ ⟨Finset.notMem_erase (chunkNo c t 0, (3 : Fin 4)) (held n), (Finset.insert_erase h0).symm⟩,
      grow _ ⟨Finset.notMem_erase (chunkNo c t 1, (3 : Fin 4)) ((held n).erase (chunkNo c t 0, 3)),
        (Finset.insert_erase (Finset.mem_erase.mpr ⟨hne.symm, h1⟩)).symm⟩]
  unfold St at hk ⊢
  rw [hsplit] at hk ⊢
  iintro ⟨#HP, HFs, HFr, HFo, ⟨H0, H1, Hh⟩, HFa, HFl, HFc, HFt⟩
  iapply (load_op m t hoff) $$ [H0 H1]
  · isplitl [H0]; · iexact H0
    iexact H1
  iintro ⟨H0, H1⟩
  iapply hk
  isplitr; · iexact HP
  isplitl [HFs]; · iexact HFs
  isplitl [HFr]; · iexact HFr
  isplitl [HFo]; · iexact HFo
  isplitl [H0 H1 Hh]
  · isplitl [H0]; · iexact H0
    isplitl [H1]; · iexact H1
    iexact Hh
  isplitl [HFa]; · iexact HFa
  isplitl [HFl]; · iexact HFl
  isplitl [HFc]; · iexact HFc
  iexact HFt

/-! A staging slot. -/

theorem slot_sub (s : Fin 2) {off : Fin 3 → ℕ} {inb} (hoff : off = ![s.val, 0, 0]) :
    (slotR off inb).set ⊆ convSet s := by
  subst hoff
  intro i hi
  have h := (Rect.mem_set_unit (s := S2x256x4096) (inb := inb) (i := i)).mp hi 0
  have h' : s.val ≤ (i 0).val ∧ (i 0).val < s.val + 1 := h
  rw [convSet, Finset.mem_filter]
  exact ⟨Finset.mem_univ _, by omega⟩
theorem slot_emb (s : Fin 2) {off : Fin 3 → ℕ} {inb} (hoff : off = ![s.val, 0, 0]) (i : S2x256x4096.Idx) (hi : i ∈ convSet s) :
    (slotR off inb).emb (ix3 (n0 := 1) (n1 := 256) (n2 := 4096) 0 (i 1) (i 2)) = i := by
  subst hoff
  have h := (Finset.mem_filter.mp hi).2
  funext a
  apply Fin.ext
  rw [Rect.emb_apply]
  fin_cases a
  · show s.val + 1 * 0 = (i 0).val; omega
  · show 0 + 1 * (i 1).val = (i 1).val; omega
  · show 0 + 1 * (i 2).val = (i 2).val; omega

theorem store_slot (t : Fin 16) {off : Fin 3 → ℕ} {inb} (hoff : off = ![(slotOf t).val, 0, 0]) (f : Buf (Elt F) (convL c)) (i) (hi : i ∈ convSet (slotOf t)) :
    ((Memref.whole cc0_scratch4 : Memref sig .tc .vmem S2x256x4096 .f32).access (slotR off inb)).write (Elt F) f (CV m c t) Finset.univ i = CVF m c t i := by
  have he := slot_emb (inb := inb) (slotOf t) hoff i hi
  have h := View.write_emb_of_mem (v := ((Memref.whole cc0_scratch4 : Memref sig .tc .vmem S2x256x4096 .f32).access (slotR off inb))) f (CV m c t)
    (Finset.mem_univ (ix3 (n0 := 1) (n1 := 256) (n2 := 4096) 0 (i 1) (i 2)))
  have he' : ((Memref.whole cc0_scratch4 : Memref sig .tc .vmem S2x256x4096 .f32).access (slotR off inb)).emb (ix3 (n0 := 1) (n1 := 256) (n2 := 4096) 0 (i 1) (i 2)) = i := he
  rw [he'] at h
  exact h

theorem store_op (t : Fin 16) {off : Fin 3 → ℕ} {inb} (hoff : off = ![(slotOf t).val, 0, 0]) (f : Buf (Elt F) (convL c))
    {hx : ((Memref.whole cc0_scratch4 : Memref sig .tc .vmem S2x256x4096 .f32).access (slotR off inb)).Stores Finset.univ}
    {hm : (Finset.univ : Finset (slotR off inb).shape.Idx) = Finset.univ ∨ ∀ a, (slotR off inb).stride a = 1}
    {Q : α → sProp 𝕄} {k : PUnit → Prog (TpuEff nD τ sig (Elt F) Λ₀ .tc) α} :
    convP c (slotOf t) f
      ⊢ iprop((convP c (slotOf t) (CVF m c t) -∗ wpc c (k ⟨⟩) Q)
        -∗ wpc c (.op (.store (Memref.whole cc0_scratch4 : Memref sig .tc .vmem S2x256x4096 .f32) (slotR off inb) (CV m c t) Finset.univ hx hm) k) Q) := by
  unfold convP
  iintro H Hk
  iapply (wp_store 𝒱₀ (c : Thread nD τ) none Set.univ (m := (Memref.whole cc0_scratch4 : Memref sig .tc .vmem S2x256x4096 .f32))
    (r := slotR off inb) (w := CV m c t) (Mk := Finset.univ) (hx := hx) (hm := hm) (k := k) (S := convSet (slotOf t)) (f := f)
    (by rw [View.setOn_univ]; show ((View.whole cc0_scratch4).slice _).set ⊆ _; rw [View.set_slice_whole]; exact slot_sub (slotOf t) hoff)) $$ [H]
  · iexact H
  iintro H
  iapply Hk
  iapply (Entails.of_eq (pointsTo_congr (g := CVF m c t) (store_slot m t (inb := inb) hoff f)))
  iexact H

theorem slot_load_op (s : Fin 2) {off : Fin 3 → ℕ} {inb} (hoff : off = ![s.val, 0, 0]) (f : Buf (Elt F) (convL c))
    {hl : (Memref.whole cc0_scratch4 : Memref sig .tc .vmem S2x256x4096 .f32).view.LoadsAt (slotR off inb).toLoadRect}
    {Q : α → sProp 𝕄} {k : Vec F S1x256x4096 .f32 → Prog (TpuEff nD τ sig (Elt F) Λ₀ .tc) α} :
    convP c s f ⊢ iprop((∀ v, convP c s f -∗ wpc c (k v) Q)
        -∗ wpc c (.op (.load (Memref.whole cc0_scratch4 : Memref sig .tc .vmem S2x256x4096 .f32) (slotR off inb).toLoadRect hl) k) Q) := by
  unfold convP
  iintro H Hk
  iapply (wp_load 𝒱₀ (c : Thread nD τ) none Set.univ (m := (Memref.whole cc0_scratch4 : Memref sig .tc .vmem S2x256x4096 .f32))
    (r := (slotR off inb).toLoadRect) (hl := hl) (k := k) (S := convSet s) (f := f)
    (by intro i hi; obtain ⟨x, hx, rfl⟩ := Finset.mem_map.mp hi; exact slot_sub s hoff hx)) $$ [H]
  · iexact H
  iintro H
  iapply Hk
  iexact H

theorem step_dead (t : Fin 16) {n : ℕ} (hn : storeAt t = n + 1) {off : Fin 3 → ℕ} {inb} (hoff : off = ![(slotOf t).val, 0, 0])
    {hl : (Memref.whole cc0_scratch4 : Memref sig .tc .vmem S2x256x4096 .f32).view.LoadsAt (slotR off inb).toLoadRect}
    {Q : α → sProp 𝕄} {k : Vec F S1x256x4096 .f32 → Prog (TpuEff nD τ sig (Elt F) Λ₀ .tc) α}
    (hk : ∀ v, St m K (n + 1) c ⊢ wpc c (k v) Q) :
    St m K n c ⊢ wpc c (Prog.lift (.load (Memref.whole cc0_scratch4 : Memref sig .tc .vmem S2x256x4096 .f32) (slotR off inb).toLoadRect hl) >>= k) Q := by
  simp only [Prog.lift, Prog.bind_op, Prog.bind_ret, Prog.pure_eq_ret]
  rw [← St_stable m K (late_dead t hn)]
  unfold St Fc at hk ⊢
  rw [← hn] at hk ⊢
  rw [grow _ (idle_store t)] at hk ⊢
  iintro ⟨#HP, HFs, HFr, HFo, HFh, HFa, HFl, ⟨⟨⟨⟨%f, Hf⟩, Hv⟩, Hi⟩, Hst, Hal⟩, HFt⟩
  iapply (slot_load_op (slotOf t) hoff f) $$ [Hf]
  · iexact Hf
  iintro %v Hf
  iapply (hk v)
  isplitr; · iexact HP
  isplitl [HFs]; · iexact HFs
  isplitl [HFr]; · iexact HFr
  isplitl [HFo]; · iexact HFo
  isplitl [HFh]; · iexact HFh
  isplitl [HFa]; · iexact HFa
  isplitl [HFl]; · iexact HFl
  isplitl [Hf Hv Hi Hst Hal]
  · isplitl [Hf Hv Hi]
    · isplitl [Hf Hv]
      · isplitl [Hf]; · iexists f; iexact Hf
        iexact Hv
      iexact Hi
    isplitl [Hst]; · iexact Hst
    iexact Hal
  iexact HFt

theorem step_store (t : Fin 16) {n : ℕ} (hn : storeAt t = n) {off : Fin 3 → ℕ} {inb} (hoff : off = ![(slotOf t).val, 0, 0])
    {w : FVec F S1x256x4096 .f32} (hw : w = CV m c t)
    {hx : ((Memref.whole cc0_scratch4 : Memref sig .tc .vmem S2x256x4096 .f32).access (slotR off inb)).Stores Finset.univ}
    {hm : (Finset.univ : Finset (slotR off inb).shape.Idx) = Finset.univ ∨ ∀ a, (slotR off inb).stride a = 1}
    {Q : α → sProp 𝕄} {k : PUnit → Prog (TpuEff nD τ sig (Elt F) Λ₀ .tc) α}
    (hk : St m K (n + 1) c ⊢ wpc c (k ⟨⟩) Q) :
    St m K n c ⊢ wpc c (Prog.lift (.store (Memref.whole cc0_scratch4 : Memref sig .tc .vmem S2x256x4096 .f32) (slotR off inb) w Finset.univ hx hm) >>= k) Q := by
  subst hn hw
  have hk4 := kind_store t
  simp only [Prog.lift, Prog.bind_op, Prog.bind_ret, Prog.pure_eq_ret]
  unfold St Fc at hk ⊢
  rw [Fs_stable (n := storeAt t) (by omega) (by omega), Fr_stable (n := storeAt t) (by omega), Fo_stable (n := storeAt t) (by omega) (by omega) (by omega), Fh_stable m (n := storeAt t) (by omega) (by omega) (by omega),
    Fa_stable (n := storeAt t) (by omega), Fl_stable (n := storeAt t) (by omega), Ft_stable m (n := storeAt t) (by omega) (by omega),
    grow _ (stored_store t), aloft_stable (n := storeAt t) (by omega) (by omega)] at hk
  rw [grow _ (idle_store t)]
  iintro ⟨#HP, HFs, HFr, HFo, HFh, HFa, HFl, ⟨⟨⟨⟨%f, Hf⟩, Hv⟩, Hi⟩, Hst, Hal⟩, HFt⟩
  iapply (store_op m t hoff f) $$ [Hf]
  · iexact Hf
  iintro Hf
  iapply hk
  isplitr; · iexact HP
  isplitl [HFs]; · iexact HFs
  isplitl [HFr]; · iexact HFr
  isplitl [HFo]; · iexact HFo
  isplitl [HFh]; · iexact HFh
  isplitl [HFa]; · iexact HFa
  isplitl [HFl]; · iexact HFl
  isplitl [Hf Hv Hi Hst Hal]
  · isplitl [Hi]; · iexact Hi
    isplitl [Hf Hv Hst]
    · isplitl [Hf Hv]
      · isplitl [Hf]; · iexact Hf
        iexact Hv
      iexact Hst
    iexact Hal
  iexact HFt

/-! Sending a tile to the output. -/

/-- A tile read off its staging slot is its rows of the output. -/
theorem CV_apply (t : Fin 16) (r : Fin 256) (l : Fin 4096) :
    CV m c t (ix3 (n0 := 1) (n1 := 256) (n2 := 4096) 0 r l) = OUT m (ix2 (n0 := 4096) (n1 := 4096) ⟨tile c t * 256 + r.val, by have := tile_lt c t; omega⟩ l) := by
  have h1 : Shape.reshapeEquiv (s := S256x4096) (s' := S1x256x4096) shapeCasts_S256x4096_S1x256x4096 (ix3 (n0 := 1) (n1 := 256) (n2 := 4096) 0 r l)
      = ix2 (n0 := 256) (n1 := 4096) r l :=
    Shape.reshapeEquiv_eq_of_rowMajor _ (by
      rw [Shape.rowMajor_val_three, Shape.rowMajor_val_two]
      show r.val * 4096 + l.val = (0 * 256 + r.val) * 4096 + l.val
      omega)
  have h2 : Shape.reshapeEquiv (s := S2x128x4096) (s' := S256x4096) shapeCasts_S2x128x4096_S256x4096 (ix2 (n0 := 256) (n1 := 4096) r l)
      = ix3 (n0 := 2) (n1 := 128) (n2 := 4096) ⟨r.val / 128, by omega⟩ ⟨r.val % 128, by omega⟩ l :=
    Shape.reshapeEquiv_eq_of_rowMajor _ (by
      rw [Shape.rowMajor_val_three, Shape.rowMajor_val_two]
      show (r.val / 128 * 128 + r.val % 128) * 4096 + l.val = r.val * 4096 + l.val
      omega)
  show extf .f32 (shapeCast S256x4096 (PV m c t) shapeCasts_S2x128x4096_S256x4096 : FVec F S256x4096 .bf16) bitsLt_bf16_f32
    (Shape.reshapeEquiv (s := S256x4096) (s' := S1x256x4096) shapeCasts_S256x4096_S1x256x4096 (ix3 (n0 := 1) (n1 := 256) (n2 := 4096) 0 r l)) = _
  rw [h1]
  have h3 : (shapeCast S256x4096 (PV m c t) shapeCasts_S2x128x4096_S256x4096 : FVec F S256x4096 .bf16) (ix2 (n0 := 256) (n1 := 4096) r l)
      = BUF m (ix3 (n0 := 32) (n1 := 128) (n2 := 4096) ⟨(tile c t * 256 + r.val) / 128, by have := tile_lt c t; omega⟩ ⟨(tile c t * 256 + r.val) % 128, Nat.mod_lt _ (by decide)⟩ l) := by
    show PV m c t (Shape.reshapeEquiv _ _) = _
    rw [h2]
    show BUF m _ = BUF m _
    congr 1
    funext a
    apply Fin.ext
    fin_cases a
    · show tile c t * 2 + r.val / 128 = (tile c t * 256 + r.val) / 128; omega
    · show r.val % 128 = (tile c t * 256 + r.val) % 128; omega
    · rfl
  exact congrArg (fun x : Elt F .bf16 => extf (s := S_) .f32 (fun _ => x : FVec F S_ .bf16) bitsLt_bf16_f32 (fun a => a.elim0)) h3

end Cert.IdealRun

end
-- ==== Proof.IdealRun.Tiles.lean ====
/-
Sending tiles to the output and waiting for them.
-/
module

public import proofs.«01_k».proof.Proof.IdealRun.Steps

@[expose] public section

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)
variable {c : Dev nD} {α : Type}

omit [FloatOps F] in
theorem amount_out {off : Fin 2 → ℕ} {inb} (s : DmaSem sig) : (outV off inb).view.amount (.dma s) = NC := rfl

theorem out_emb (t : Fin 16) {off : Fin 2 → ℕ} {inb} (hoff : off = ![tile c t * 256, 0]) (i : S4096x4096.Idx) (hi : i ∈ outSet c t) :
    (outV off inb).view.emb (ix2 (n0 := 256) (n1 := 4096) ⟨(i 0).val % 256, Nat.mod_lt _ (by decide)⟩ (i 1)) = i := by
  subst hoff
  have h := (Finset.mem_filter.mp hi).2
  show (Rect.unit (s := S4096x4096) ![tile c t * 256, 0] S256x4096.size inb).emb (ix2 (n0 := 256) (n1 := 4096) ⟨(i 0).val % 256, Nat.mod_lt _ (by decide)⟩ (i 1)) = i
  funext a
  apply Fin.ext
  rw [Rect.emb_apply]
  fin_cases a
  · show tile c t * 256 + 1 * ((i 0).val % 256) = (i 0).val; omega
  · show 0 + 1 * (i 1).val = (i 1).val; omega

theorem conv_read (t : Fin 16) {off : Fin 3 → ℕ} {inb} (hoff : off = ![(slotOf t).val, 0, 0]) (r : Fin 256) (l : Fin 4096) :
    (convV off inb).view.read (Elt F) (CVF m c t) (ix2 (n0 := 256) (n1 := 4096) r l)
      = OUT m (ix2 (n0 := 4096) (n1 := 4096) ⟨tile c t * 256 + r.val, by have := tile_lt c t; omega⟩ l) := by
  subst hoff
  have h1 : Shape.reshapeEquiv (s := S1x256x4096) (s' := S256x4096) shapeCasts_S1x256x4096_S256x4096 (ix2 (n0 := 256) (n1 := 4096) r l)
      = ix3 (n0 := 1) (n1 := 256) (n2 := 4096) 0 r l :=
    Shape.reshapeEquiv_eq_of_rowMajor _ (by
      rw [Shape.rowMajor_val_three, Shape.rowMajor_val_two]
      show (0 * 256 + r.val) * 4096 + l.val = r.val * 4096 + l.val
      omega)
  rw [← CV_apply m t r l]
  show CVF m c t ((slotR ![(slotOf t).val, 0, 0] inb).emb (Shape.reshapeEquiv (s := S1x256x4096) (s' := S256x4096) shapeCasts_S1x256x4096_S256x4096 (ix2 (n0 := 256) (n1 := 4096) r l))) = _
  rw [h1]
  show CV m c t _ = CV m c t _
  congr 1
  funext a
  apply Fin.ext
  fin_cases a
  · rfl
  · show 0 + 1 * r.val = r.val; omega
  · show 0 + 1 * l.val = l.val; omega

theorem out_value (t : Fin 16) {off : Fin 2 → ℕ} {inb} (hoff : off = ![tile c t * 256, 0]) {off' : Fin 3 → ℕ} {inb'} (hoff' : off' = ![(slotOf t).val, 0, 0])
    (f : Buf (Elt F) (outL c)) (i) (hi : i ∈ outSet c t) :
    (outV off inb).view.write (Elt F) f (ReadAs.same.apply ((convV off' inb').view.read (Elt F) (CVF m c t))) Finset.univ i = OUT m i := by
  have he := out_emb (inb := inb) t hoff i hi
  have h := View.write_emb_of_mem (v := (outV off inb).view) f (ReadAs.same.apply ((convV off' inb').view.read (Elt F) (CVF m c t)))
    (Finset.mem_univ (ix2 (n0 := 256) (n1 := 4096) ⟨(i 0).val % 256, Nat.mod_lt _ (by decide)⟩ (i 1)))
  rw [he] at h
  refine h.trans ((conv_read m (inb := inb') t hoff' ⟨(i 0).val % 256, Nat.mod_lt _ (by decide)⟩ (i 1)).trans ?_)
  congr 1
  have h := (Finset.mem_filter.mp hi).2
  funext a
  apply Fin.ext
  fin_cases a
  · show tile c t * 256 + (i 0).val % 256 = (i 0).val; omega
  · rfl

theorem out_op (t : Fin 16) {off : Fin 2 → ℕ} {inb} (hoff : off = ![tile c t * 256, 0]) {off' : Fin 3 → ℕ} {inb'} (hoff' : off' = ![(slotOf t).val, 0, 0])
    {s : DmaSem sig} (hs : s = convS (slotOf t)) (f : Buf (Elt F) (outL c))
    {hsrc : (convV off' inb').view.WordExact} {hdst : (outV off inb).view.WordExact}
    {hsem : (DmaTarget.here (outV off inb) : DmaTarget nD τ sig .tc .hbm S256x4096 .f32).Typed .vmem (.dma s)}
    {Q : α → sProp 𝕄} {k : PUnit → Prog (TpuEff nD τ sig (Elt F) Λ₀ .tc) α} :
    iprop(convP c (slotOf t) (CVF m c t) ∗ outP c t f ∗ semVal (cS c (slotOf t)) 0)
      ⊢ iprop((Flight EC (c : Thread nD τ) (.dma (convS (slotOf t))) () NC iprop(outP c t (OUT m) ∗ convP c (slotOf t) (CVF m c t)) -∗ wpc c (k ⟨⟩) Q)
        -∗ wpc c (.op (.enqueueDma (convV off' inb') (.here (outV off inb)) (.dma s) hsrc hdst hsem) k) Q) := by
  subst hs
  have hset := set_convV (inb := inb') (slotOf t) hoff'
  have hset' := set_outV (inb := inb) c t hoff
  have hv := out_value m t (inb := inb) (inb' := inb') hoff hoff' f
  have hD : iprop(outP c t ((outV off inb).view.write (Elt F) f (ReadAs.same.apply ((convV off' inb').view.read (Elt F) (CVF m c t))) Finset.univ) ∗ convP c (slotOf t) (CVF m c t))
      = iprop(outP c t (OUT m) ∗ convP c (slotOf t) (CVF m c t)) := by
    unfold outP; rw [pointsTo_congr hv]
  rw [← hD]
  have h := wp_dmaLocal (defs := defs₀) (Q := Q) (k := k) EC 𝒱₀ (c : Thread nD τ) none (src := convV off' inb') (dst := outV off inb) (via := .same) (sm := .dma (convS (slotOf t)))
    (hsrc := hsrc) (hdst := hdst) (hsem := hsem) (q := fullShare) (fs := CVF m c t) (Sd := outSet c t) (fd := f) () NC rfl NC_pos (by rw [hset'])
  rw [hset] at h
  exact h

theorem step_out (t : Fin 16) {n : ℕ} (hn : outAt t = n) {off : Fin 2 → ℕ} {inb} (hoff : off = ![tile c t * 256, 0]) {off' : Fin 3 → ℕ} {inb'} (hoff' : off' = ![(slotOf t).val, 0, 0])
    {s : DmaSem sig} (hs : s = convS (slotOf t))
    {hsrc : (convV off' inb').view.WordExact} {hdst : (outV off inb).view.WordExact}
    {hsem : (DmaTarget.here (outV off inb) : DmaTarget nD τ sig .tc .hbm S256x4096 .f32).Typed .vmem (.dma s)}
    {Q : α → sProp 𝕄} {k : PUnit → Prog (TpuEff nD τ sig (Elt F) Λ₀ .tc) α} (hk : St m K (n + 1) c ⊢ wpc c (k ⟨⟩) Q) :
    St m K n c ⊢ wpc c (Prog.lift (.enqueueDma (convV off' inb') (.here (outV off inb)) (.dma s) hsrc hdst hsem) >>= k) Q := by
  subst hn
  have hk5 := kind_out t
  simp only [Prog.lift, Prog.bind_op, Prog.bind_ret, Prog.pure_eq_ret]
  unfold St Fc Ft at hk ⊢
  rw [Fs_stable (n := outAt t) (by omega) (by omega), Fr_stable (n := outAt t) (by omega), Fo_stable (n := outAt t) (by omega) (by omega) (by omega), Fh_stable m (n := outAt t) (by omega) (by omega) (by omega),
    Fa_stable (n := outAt t) (by omega), Fl_stable (n := outAt t) (by omega), idle_stable (n := outAt t) (by omega) (by omega),
    made_stable (n := outAt t) (by omega), grow _ (aloft_out t)] at hk
  rw [grow _ (stored_out t), grow _ (todo_out t)]
  iintro ⟨#HP, HFs, HFr, HFo, HFh, HFa, HFl, ⟨Hi, ⟨⟨Hf, Hv⟩, Hst⟩, Hal⟩, ⟨⟨%f, Hg⟩, Htd⟩, Hmd⟩
  iapply (out_op m t hoff hoff' hs f) $$ [Hf Hv Hg]
  · isplitl [Hf]; · iexact Hf
    isplitl [Hg]; · iexact Hg
    iexact Hv
  iintro Hfl
  iapply hk
  isplitr; · iexact HP
  isplitl [HFs]; · iexact HFs
  isplitl [HFr]; · iexact HFr
  isplitl [HFo]; · iexact HFo
  isplitl [HFh]; · iexact HFh
  isplitl [HFa]; · iexact HFa
  isplitl [HFl]; · iexact HFl
  isplitl [Hi Hfl Hst Hal]
  · isplitl [Hi]; · iexact Hi
    isplitl [Hst]; · iexact Hst
    isplitl [Hfl]; · iexact Hfl
    iexact Hal
  isplitl [Htd]; · iexact Htd
  iexact Hmd

theorem recvOf_conv (s : Fin 2) : recvOf (convS s) = none := by revert s; decide

theorem step_back (t : Fin 16) {n : ℕ} (hn : backAt t = n) {s : DmaSem sig} (hs : s = convS (slotOf t))
    {sp sp' : Space} {s1 s2 : Shape} {e1 e2 : EltTy} {srcw : Memref sig .tc sp' s1 e1} {dstw : Memref sig .tc sp s2 e2}
    {hsrc : srcw.view.WordExact} {hdst : dstw.view.WordExact} (hN : dstw.view.dmaCredit = NC)
    {Q : α → sProp 𝕄} {k : PUnit → Prog (TpuEff nD τ sig (Elt F) Λ₀ .tc) α} (hk : St m K (n + 1) c ⊢ wpc c (k ⟨⟩) Q) :
    St m K n c ⊢ wpc c (Prog.lift (.waitDma2 s srcw dstw hsrc hdst) >>= k) Q := by
  subst hn hs
  have hk6 := kind_back t
  simp only [Prog.lift, Prog.bind_op, Prog.bind_ret, Prog.pure_eq_ret]
  unfold St Fo Fc Ft at hk ⊢
  rw [Fs_stable (n := backAt t) (by omega) (by omega), Fr_stable (n := backAt t) (by omega), ← dues_stable (n := backAt t) (by omega) (by omega) (by omega), Fh_stable m (n := backAt t) (by omega) (by omega) (by omega),
    Fa_stable (n := backAt t) (by omega), Fl_stable (n := backAt t) (by omega), stored_stable (n := backAt t) (by omega) (by omega),
    todo_stable (n := backAt t) (by omega), grow _ (idle_back t), grow _ (made_back t)] at hk
  rw [grow _ (aloft_back t)]
  iintro ⟨#HP, HFs, HFr, ⟨%W, HO⟩, HFh, HFa, HFl, ⟨Hi, Hst, ⟨Hfl, Hal⟩⟩, Htd, Hmd⟩
  iapply (wp_waitLocalO EC 𝒱₀ (c : Thread nD τ) none () hN (O := dues (backAt t) c) (W := W)) $$ [Hfl HO]
  · isplitl [Hfl]; · iexact Hfl
    isplitl [HO]; · iexact HO
    iapply (may_zero m K (backAt t) (convS (slotOf t)) (recvOf_conv _)); iexact HP
  iintro ⟨⟨Hg, Hf⟩, Hv, HO⟩
  iapply hk
  isplitr; · iexact HP
  isplitl [HFs]; · iexact HFs
  isplitl [HFr]; · iexact HFr
  isplitl [HO]; · iexists _; iexact HO
  isplitl [HFh]; · iexact HFh
  isplitl [HFa]; · iexact HFa
  isplitl [HFl]; · iexact HFl
  isplitl [Hi Hf Hv Hst Hal]
  · isplitl [Hi Hf Hv]
    · isplitl [Hf Hv]
      · isplitl [Hf]; · iexists _; iexact Hf
        iexact Hv
      iexact Hi
    isplitl [Hst]; · iexact Hst
    iexact Hal
  isplitl [Htd]; · iexact Htd
  isplitl [Hg]; · iexact Hg
  iexact Hmd

end Cert.IdealRun

end
-- ==== Proof.IdealRun.Buffers.lean ====
/-
The buffers and semaphores a part of the body runs on.
-/
module

public import proofs.«01_k».proof.Proof.IdealRun.Tiles

@[expose] public section

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)
variable {c : Dev nD} {α : Type}

/-- A part of the body applied to the buffers and semaphores the kernel runs on. -/
abbrev onBufs {β : Sort _}
    (p : (a0 : Memref sig .tc .hbm S1x4096x4096 .f32) → a0.IsWhole → (a1 : Memref sig .tc .hbm S4096x4096 .f32) → a1.IsWhole
      → (a2 : Memref sig .tc .vmem S4096 .f32) → a2.IsWhole → (a3 : Memref sig .tc .hbm S4096x4096 .f32) → a3.IsWhole
      → (a4 : Memref sig .tc .vmem S512x4096 .bf16) → a4.IsWhole → (a5 : Memref sig .tc .vmem S3x128x4096 .bf16) → a5.IsWhole
      → (a6 : Memref sig .tc .vmem S128x4096 .bf16) → a6.IsWhole → (a7 : Memref sig .tc .vmem S32x128x4096 .bf16) → a7.IsWhole
      → (a8 : Memref sig .tc .vmem S2x256x4096 .f32) → a8.IsWhole → (a9 : Memref sig .tc .vmem S512x4096 .f32) → a9.IsWhole
      → (a10 : Memref sig .tc .vmem S128x4096 .f32) → a10.IsWhole
      → DmaSems sig S3 → DmaSems sig S3 → DmaSems sig S3 → DmaSems sig S3 → DmaSems sig S4x4 → DmaSems sig S4x4 → DmaSems sig S4x3 → DmaSems sig S4x3
      → DmaSems sig S_ → DmaSems sig S2 → DmaSems sig S2 → Sems sig S_ → β) : β :=
  p (Memref.whole main_arg0) (Memref.isWhole_whole _) (Memref.whole main_arg1) (Memref.isWhole_whole _)
    (Memref.whole cc0_stg0_0) (Memref.isWhole_whole _) (Memref.whole main_v1) (Memref.isWhole_whole _)
    (Memref.whole cc0_scratch0) (Memref.isWhole_whole _) (Memref.whole cc0_scratch1) (Memref.isWhole_whole _)
    (Memref.whole cc0_scratch2) (Memref.isWhole_whole _) (Memref.whole cc0_scratch3) (Memref.isWhole_whole _)
    (Memref.whole cc0_scratch4) (Memref.isWhole_whole _) (Memref.whole cc0_scratch5) (Memref.isWhole_whole _)
    (Memref.whole cc0_scratch6) (Memref.isWhole_whole _)
    cc0_scratch7 cc0_scratch8 cc0_scratch9 cc0_scratch10 cc0_scratch11 cc0_scratch12 cc0_scratch13 cc0_scratch14
    cc0_scratch15 cc0_scratch16 cc0_scratch17 cc0_scoped0

theorem stay {n : ℕ} {β : Type} {r : β} : St m K n c ⊢ wpc c (Pure.pure r) (fun _ => St m K n c) := by
  rw [wpc, wp_pure]; exact fupd_intro
theorem stay_with {n : ℕ} {β : Type} {φ : β → Prop} {r : β} (h : φ r) : St m K n c ⊢ wpc c (Pure.pure r) (fun r => iprop(⌜φ r⌝ ∗ St m K n c)) := by
  rw [wpc, wp_pure]
  iintro H
  imodintro
  isplitr
  · ipureintro; exact h
  iexact H

end Cert.IdealRun

end
-- ==== Proof.IdealRun.Reduce.lean ====
/-
The reducing phase, one rule per kind of operation: the entry barrier, the local copies, the sums sent round the ring of four.
-/
module

public import proofs.«01_k».proof.Proof.IdealRun.Buffers

@[expose] public section

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)
variable {c : Dev nD} {α : Type}

/-! ## Ends of programs -/

theorem ret_intro {β : Type} {Q : β → sProp 𝕄} {r : β} : Q r ⊢ wpc c (.ret r) Q := by
  rw [wpc, wp_ret]; exact fupd_intro

/-! ## Signals -/

theorem dues_sig (i : Fin 4) : dues (sigAt i) c = dues (sigAt i + 1) c + tallyAt (bCell (nb i c)) () 1 := by
  have h := unsig_sig i
  have hk := kind_sig i
  unfold dues
  rw [h.2, Finset.sum_insert h.1, unsent_stable (n := sigAt i) (by omega), unend_stable (n := sigAt i) (by omega)]
  ac_rfl
theorem dues_end (i : Fin 4) : dues (endAt i) c = dues (endAt i + 1) c + tallyAt (zCell (nb i c)) () 1 := by
  have h := unend_end i
  have hk := kind_end i
  unfold dues
  rw [h.2, Finset.sum_insert h.1, unsent_stable (n := endAt i) (by omega), unsig_stable (n := endAt i) (by omega)]
  ac_rfl

theorem amount_reg (g : Dev nD) (s : Sem sig) (i : Fin 4) : (Rd m).amount ((g : Thread nD τ), .reg s) 0 i = 1 := rfl

/-- Entry signal `i`: the neighbour gets what this device lends it. -/
theorem sig_op (i : Fin 4) {n : ℕ} (hn : sigAt i = n) {dv : Dev nD} (hdv : dv = nb i c)
    {Q : α → sProp 𝕄} {k : PUnit → Prog (TpuEff nD τ sig (Elt F) Λ₀ .tc) α} :
    iprop(Pers m K ∗ Fo n c ∗ dutyTok ER (bCell (nb i c)) 0 i ∗ barPay (F := F) (nb i c) i)
      ⊢ iprop((Fo (n + 1) c -∗ wpc c (k ⟨⟩) Q)
          -∗ wpc c (.op (.semSignal (Dev.tc dv : Thread nD τ) barS (1#32 : BitVec 32).toInt) k) Q) := by
  subst hn hdv
  unfold Fo
  rw [dues_sig i]
  iintro ⟨#HP, ⟨%W, HO⟩, Ht, Hp⟩ Hk
  ihave #HI := (inv_at m K (nb i c, .inr 0)) $$ HP
  ihave #HR := (reached_at m K (nb i c, .inr 0)) $$ HP
  iapply (Rounds.wp_signal 𝒱₀ ER (Rd m) (c : Thread nD τ) none (dst := (nb i c : Thread nD τ)) (κ := K (nb i c, .inr 0)) (d := i)
    (by rw [duties_b]; exact Finset.mem_univ _) ((amount_reg m (nb i c) barS i).trans (by decide)) () (dues (sigAt i + 1) c) rfl (W := W)) $$ [HO Ht Hp]
  · isplitr; · iexact HI
    isplitl [HO]; · iexact HO
    isplitl [Ht]; · iexact Ht
    isplitl [Hp]
    · iapply (Entails.of_eq (pay_b m (nb i c) i).symm); iexact Hp
    iexact HR
  iintro HO
  iapply Hk
  iexists W; iexact HO

/-- End signal `i`. -/
theorem end_op (i : Fin 4) {n : ℕ} (hn : endAt i = n) {dv : Dev nD} (hdv : dv = nb i c)
    {Q : α → sProp 𝕄} {k : PUnit → Prog (TpuEff nD τ sig (Elt F) Λ₀ .tc) α} :
    iprop(Pers m K ∗ Fo n c ∗ dutyTok ER (zCell (nb i c)) 0 i)
      ⊢ iprop((Fo (n + 1) c -∗ wpc c (k ⟨⟩) Q)
          -∗ wpc c (.op (.semSignal (Dev.tc dv : Thread nD τ) endS (1#32 : BitVec 32).toInt) k) Q) := by
  subst hn hdv
  unfold Fo
  rw [dues_end i]
  iintro ⟨#HP, ⟨%W, HO⟩, Ht⟩ Hk
  ihave #HI := (inv_at m K (nb i c, .inr 1)) $$ HP
  ihave #HR := (reached_at m K (nb i c, .inr 1)) $$ HP
  iapply (Rounds.wp_signal 𝒱₀ ER (Rd m) (c : Thread nD τ) none (dst := (nb i c : Thread nD τ)) (κ := K (nb i c, .inr 1)) (d := i)
    (by rw [duties_z]; exact Finset.mem_univ _) ((amount_reg m (nb i c) endS i).trans (by decide)) () (dues (endAt i + 1) c) rfl (W := W)) $$ [HO Ht]
  · isplitr; · iexact HI
    isplitl [HO]; · iexact HO
    isplitl [Ht]; · iexact Ht
    isplitr
    · iapply (Entails.of_eq (pay_z m (nb i c) i).symm); iempintro
    iexact HR
  iintro HO
  iapply Hk
  iexists W; iexact HO

theorem may_bar : Pers (F := F) m K ⊢ MayWait (c : Thread nD τ) (.reg barS) () (dues 7 c) :=
  of_levs m K (mayWait c _ 7 1 (le_of_eq (lv_b c)) (by omega) (by
    intro e _; have : ∀ e : Fin 34, 1 < 2 + sendAt e := by decide
    exact this e) (.inl (unsig_late (le_refl 7))))
theorem dues_over : dues 218 c = 0 := by
  have h1 : unsent 218 = ∅ := by decide +kernel
  have h2 : unend 218 = ∅ := by decide +kernel
  unfold dues; rw [h1, h2, unsig_late (by omega), Finset.sum_empty, Finset.sum_empty, Finset.sum_empty, add_zero, add_zero]
theorem may_end : Pers (F := F) m K ⊢ MayWait (c : Thread nD τ) (.reg endS) () (dues 218 c) :=
  of_levs m K (MayOwe.of_cut (L := L) (lev := lv) 1000 (fun p hp => by rw [Finset.mem_singleton.mp hp, L_tc]; exact Finset.mem_singleton_self _)
    (fun g u hg => by rw [dues_over] at hg; exact absurd hg (lt_irrefl 0))
    (fun p hp => by rw [Finset.mem_singleton.mp hp]; exact le_of_eq (lv_z c))
    (fun g u hg => by rw [dues_over] at hg; exact absurd hg (lt_irrefl 0)))

/-- The entry barrier: every neighbour's loan is in. -/
theorem bar_op {Q : α → sProp 𝕄} {k : PUnit → Prog (TpuEff nD τ sig (Elt F) Λ₀ .tc) α} :
    iprop(Pers m K ∗ Fo 7 c ∗ cred (tallyAt (bCell c) () 4) ∗ atPos (D := Fin 4) ER (bCell c) 0 ∅ 0)
      ⊢ iprop(((Fo 8 c ∗ atPos (D := Fin 4) ER (bCell c) 1 ∅ 0 ∗ bigSep Finset.univ (fun i => barPay (F := F) c i)) -∗ wpc c (k ⟨⟩) Q)
          -∗ wpc c (.op (.semWait barS (4#32 : BitVec 32).toInt) k) Q) := by
  rw [Fo_stable (n := 7) (c := c) (by decide) (by decide) (by decide)]
  unfold Fo
  iintro ⟨#HP, ⟨%W, HO⟩, Hc, Hat⟩ Hk
  ihave #HI := (inv_at m K (c, .inr 0)) $$ HP
  iapply (Rounds.wp_wait_rest_token 𝒱₀ ER (Rd m) (c : Thread nD τ) none (κ := K (c, .inr 0))
    (wpE_semWait_eq 𝒱₀ (c : Thread nD τ) none Set.univ) (Set.mem_univ _) () (O := dues 7 c) (W := W) (R := 0) (m := 0) (T := ∅)
    (by rw [expect_b]; decide)) $$ [HO Hc Hat]
  · isplitr; · iexact HI
    isplitl [Hc]; · iexact Hc
    isplitl [HO]; · iexact HO
    isplitr; · iapply (may_bar m K); iexact HP
    iexact Hat
  iintro ⟨HO, Hat, -, Hp⟩
  iapply Hk
  isplitl [HO]; · iexists _; iexact HO
  isplitl [Hat]; · iexact Hat
  iapply (Entails.of_eq (rest_b m c))
  iexact Hp

/-- The end barrier. -/
theorem fin_op {Q : α → sProp 𝕄} {k : PUnit → Prog (TpuEff nD τ sig (Elt F) Λ₀ .tc) α} :
    iprop(Pers m K ∗ Fo 218 c ∗ cred (tallyAt (zCell c) () 4) ∗ atPos (D := Fin 4) ER (zCell c) 0 ∅ 0)
      ⊢ iprop(((Fo 218 c ∗ atPos (D := Fin 4) ER (zCell c) 1 ∅ 0) -∗ wpc c (k ⟨⟩) Q)
          -∗ wpc c (.op (.semWait endS (4#32 : BitVec 32).toInt) k) Q) := by
  unfold Fo
  iintro ⟨#HP, ⟨%W, HO⟩, Hc, Hat⟩ Hk
  ihave #HI := (inv_at m K (c, .inr 1)) $$ HP
  iapply (Rounds.wp_wait_rest_token 𝒱₀ ER (Rd m) (c : Thread nD τ) none (κ := K (c, .inr 1))
    (wpE_semWait_eq 𝒱₀ (c : Thread nD τ) none Set.univ) (Set.mem_univ _) () (O := dues 218 c) (W := W) (R := 0) (m := 0) (T := ∅)
    (by rw [expect_z]; decide)) $$ [HO Hc Hat]
  · isplitr; · iexact HI
    isplitl [Hc]; · iexact Hc
    isplitl [HO]; · iexact HO
    isplitr; · iapply (may_end m K); iexact HP
    iexact Hat
  iintro ⟨HO, Hat, -, -⟩
  iapply Hk
  isplitl [HO]; · iexists _; iexact HO
  iexact Hat

/-! ## Copies within the device -/

theorem copy_op {sp sp' : Space} {s : Shape} {e : EltTy} (src : Memref sig .tc sp s e) (dst : Memref sig .tc sp' s e) {sm sm' : DmaSem sig} (hs : sm' = sm)
    {n : ℕ} (hn : dst.view.amount (.dma sm) = n) (hn0 : 0 < n)
    {hsrc : src.view.WordExact} {hdst : dst.view.WordExact}
    {hsem : (DmaTarget.here dst : DmaTarget nD τ sig .tc sp' s e).Typed sp (.dma sm')}
    {fs : Buf (Elt F) (src.view.loc (c : Thread nD τ))} {fd : Buf (Elt F) (dst.view.loc (c : Thread nD τ))}
    {Q : α → sProp 𝕄} {k : PUnit → Prog (TpuEff nD τ sig (Elt F) Λ₀ .tc) α} :
    iprop((src.view.loc (c : Thread nD τ) ↦[src.view.set]{fullShare} fs) ∗ (dst.view.loc (c : Thread nD τ) ↦[dst.view.set]{fullShare} fd) ∗ semVal ((c : Thread nD τ), .dma sm) 0)
      ⊢ iprop((Flight EC (c : Thread nD τ) (.dma sm) () n
            iprop((dst.view.loc (c : Thread nD τ) ↦[dst.view.set]{fullShare} dst.view.write (Elt F) fd (src.view.read (Elt F) fs) Finset.univ)
              ∗ (src.view.loc (c : Thread nD τ) ↦[src.view.set]{fullShare} fs)) -∗ wpc c (k ⟨⟩) Q)
        -∗ wpc c (.op (.enqueueDma src (.here dst) (.dma sm') hsrc hdst hsem) k) Q) := by
  subst hs
  exact wp_dmaLocal (defs := defs₀) (Q := Q) (k := k) EC 𝒱₀ (c : Thread nD τ) none (src := src) (dst := dst) (via := .same) (sm := .dma sm')
    (hsrc := hsrc) (hdst := hdst) (hsem := hsem) (q := fullShare) (fs := fs) (Sd := dst.view.set) (fd := fd) () n hn hn0 (Finset.Subset.refl _)

/-- A buffer of device `c`, whole. -/
abbrev wh (c : Dev nD) (b : Ref sig .tc) (f : Buf (Elt F) ((c : Thread nD τ).loc b)) : sProp 𝕄 := ((c : Thread nD τ).loc b ↦[Finset.univ]{fullShare} f)

theorem copy_whole {sp : Space} (b : Ref sig .tc) (src : Memref sig .tc sp b.ty.shape b.ty.elt) {sm sm' : DmaSem sig} (hs : sm' = sm)
    {n : ℕ} (hn : (Memref.whole b).view.amount (.dma sm) = n) (hn0 : 0 < n)
    {hsrc : src.view.WordExact} {hdst : (Memref.whole b).view.WordExact}
    {hsem : (DmaTarget.here (Memref.whole b) : DmaTarget nD τ sig .tc _ b.ty.shape b.ty.elt).Typed sp (.dma sm')}
    {fs : Buf (Elt F) (src.view.loc (c : Thread nD τ))} {fd : Buf (Elt F) ((c : Thread nD τ).loc b)}
    {Q : α → sProp 𝕄} {k : PUnit → Prog (TpuEff nD τ sig (Elt F) Λ₀ .tc) α} :
    iprop((src.view.loc (c : Thread nD τ) ↦[src.view.set]{fullShare} fs) ∗ wh c b fd ∗ semVal ((c : Thread nD τ), .dma sm) 0)
      ⊢ iprop((Flight EC (c : Thread nD τ) (.dma sm) () n
            iprop(wh c b (src.view.read (Elt F) fs) ∗ (src.view.loc (c : Thread nD τ) ↦[src.view.set]{fullShare} fs)) -∗ wpc c (k ⟨⟩) Q)
        -∗ wpc c (.op (.enqueueDma src (.here (Memref.whole b)) (.dma sm') hsrc hdst hsem) k) Q) := by
  have h := copy_op (c := c) (F := F) src (Memref.whole b) hs hn hn0 (hsrc := hsrc) (hdst := hdst) (hsem := hsem) (fs := fs) (fd := fd) (Q := Q) (k := k)
  have h1 : (Memref.whole b).view.set = Finset.univ := View.set_whole b
  have h2 : (Memref.whole b).view.write (Elt F) fd (src.view.read (Elt F) fs) Finset.univ = src.view.read (Elt F) fs := View.write_whole_univ b fd _
  rw [h1, h2] at h
  exact h

theorem await_op {n₀ : ℕ} (h : kind n₀ = 0) {s s' : DmaSem sig} (hs' : s' = s) (hs : recvOf s = none) {n : ℕ} {D : sProp 𝕄}
    {sp sp' : Space} {s1 s2 : Shape} {e1 e2 : EltTy} {srcw : Memref sig .tc sp' s1 e1} {dstw : Memref sig .tc sp s2 e2}
    {hsrc : srcw.view.WordExact} {hdst : dstw.view.WordExact} (hN : dstw.view.dmaCredit = n)
    {Q : α → sProp 𝕄} {k : PUnit → Prog (TpuEff nD τ sig (Elt F) Λ₀ .tc) α} :
    iprop(Pers m K ∗ Fo n₀ c ∗ Flight EC (c : Thread nD τ) (.dma s) () n D)
      ⊢ iprop(((Fo (n₀ + 1) c ∗ semVal ((c : Thread nD τ), .dma s) 0 ∗ D) -∗ wpc c (k ⟨⟩) Q)
          -∗ wpc c (.op (.waitDma2 s' srcw dstw hsrc hdst) k) Q) := by
  subst hs'
  rw [Fo_stable (n := n₀) (c := c) (by omega) (by omega) (by omega)]
  unfold Fo
  iintro ⟨#HP, ⟨%W, HO⟩, Hf⟩ Hk
  iapply (wp_waitLocalO EC 𝒱₀ (c : Thread nD τ) none () hN (O := dues n₀ c) (W := W)) $$ [HO Hf]
  · isplitl [Hf]; · iexact Hf
    isplitl [HO]; · iexact HO
    iapply (may_zero m K n₀ s' hs); iexact HP
  iintro ⟨HD, Hv, HO⟩
  iapply Hk
  isplitl [HO]; · iexists _; iexact HO
  isplitl [Hv]; · iexact Hv
  iexact HD

/-! ## Loads and stores of whole buffers -/

theorem whole_load {cs : CoreSpace} {s : Shape} {e : EltTy} (b : Memref sig .tc cs s e) (r : Rect s)
    {hl : b.view.LoadsAt r.toLoadRect} {f : Buf (Elt F) (b.view.loc (c : Thread nD τ))} {v : r.shape.Idx → Elt F e} (hv : b.view.readAt (Elt F) r.toLoadRect f = v)
    {Q : α → sProp 𝕄} {k : (r.shape.Idx → Elt F e) → Prog (TpuEff nD τ sig (Elt F) Λ₀ .tc) α} :
    (b.view.loc (c : Thread nD τ) ↦[Finset.univ]{fullShare} f)
      ⊢ iprop(((b.view.loc (c : Thread nD τ) ↦[Finset.univ]{fullShare} f) -∗ wpc c (k v) Q)
        -∗ wpc c (.op (.load b r.toLoadRect hl) k) Q) := by
  subst hv
  exact wp_load 𝒱₀ (c : Thread nD τ) none Set.univ (m := b) (r := r.toLoadRect) (hl := hl) (k := k) (S := Finset.univ) (Finset.subset_univ _)

theorem whole_store {cs : CoreSpace} {s : Shape} {e : EltTy} (b : Memref sig .tc cs s e) (r : Rect s) {w : r.shape.Idx → Elt F e}
    {hx : (b.access r).Stores Finset.univ} {hm : (Finset.univ : Finset r.shape.Idx) = Finset.univ ∨ ∀ a, r.stride a = 1}
    {f g : Buf (Elt F) ((b.access r).loc (c : Thread nD τ))} (hg : (b.access r).write (Elt F) f w Finset.univ = g)
    {Q : α → sProp 𝕄} {k : PUnit → Prog (TpuEff nD τ sig (Elt F) Λ₀ .tc) α} :
    ((b.access r).loc (c : Thread nD τ) ↦[Finset.univ]{fullShare} f)
      ⊢ iprop((((b.access r).loc (c : Thread nD τ) ↦[Finset.univ]{fullShare} g) -∗ wpc c (k ⟨⟩) Q)
        -∗ wpc c (.op (.store b r w Finset.univ hx hm) k) Q) := by
  subst hg
  exact wp_store 𝒱₀ (c : Thread nD τ) none Set.univ (m := b) (r := r) (w := w) (Mk := Finset.univ) (hx := hx) (hm := hm) (k := k) (S := Finset.univ) (f := f)
    (Finset.subset_univ _)

/-! ## The accumulator's chunks and the slots the sums arrive in -/

abbrev accR (off : Fin 2 → ℕ) (inb : ∀ a, off a + S128x4096.size a ≤ S512x4096.size a) : Rect S512x4096 :=
  Rect.unit (s := S512x4096) off S128x4096.size inb
abbrev rsR (off : Fin 3 → ℕ) (inb : ∀ a, off a + S1x128x4096.size a ≤ S3x128x4096.size a) : Rect S3x128x4096 :=
  Rect.unit (s := S3x128x4096) off S1x128x4096.size inb
abbrev accM : Memref sig .tc .vmem S512x4096 .bf16 := Memref.whole cc0_scratch0
abbrev rsM : Memref sig .tc .vmem S3x128x4096 .bf16 := Memref.whole cc0_scratch1

theorem acc_emb (s : Fin 4) {off : Fin 2 → ℕ} {inb} (hoff : off = ![accRow c s * 128, 0]) (x : S128x4096.Idx) :
    (accR off inb).emb x = ix2 (n0 := 512) (n1 := 4096) ⟨accRow c s * 128 + (x 0).val, by have := accRow_lt c s; have : (x 0).val < 128 := (x 0).isLt; omega⟩ (x 1) := by
  subst hoff
  funext a
  apply Fin.ext
  rw [Rect.emb_apply]
  fin_cases a
  · show accRow c s * 128 + 1 * (x 0).val = accRow c s * 128 + (x 0).val; omega
  · show 0 + 1 * (x 1).val = (x 1).val; omega
theorem acc_set (s : Fin 4) {off : Fin 2 → ℕ} {inb} (hoff : off = ![accRow c s * 128, 0]) : (accR off inb).set = accSet c s := by
  have h := set_accV (inb := inb) c s hoff
  rwa [show (accV off inb).view.set = ((View.whole cc0_scratch0).slice (accR off inb)).set from rfl, View.set_slice_whole] at h
theorem rs_set (s : Fin 3) {off : Fin 3 → ℕ} {inb} (hoff : off = ![s.val, 0, 0]) : (rsR off inb).set ⊆ rsSet s := by
  subst hoff
  intro i hi
  have h := (Rect.mem_set_unit (s := S3x128x4096) (inb := inb) (i := i)).mp hi 0
  have h' : s.val ≤ (i 0).val ∧ (i 0).val < s.val + 1 := h
  rw [rsSet, Finset.mem_filter]
  exact ⟨Finset.mem_univ _, by omega⟩

theorem accF_at (s : Fin 4) (i : S512x4096.Idx) (hi : i ∈ accSet c s) :
    accF m c i = V m s.val c (ix2 (n0 := 128) (n1 := 4096) ⟨(i 0).val % 128, Nat.mod_lt _ (by decide)⟩ (i 1)) := by
  have h := (Finset.mem_filter.mp hi).2
  unfold accRow at h
  have h2 : rowOf c < 4 := Nat.mod_lt _ (by decide)
  have : (rowOf c + 4 - (i 0).val / 128) % 4 = s.val := by have := s.isLt; omega
  unfold accF
  rw [this]
theorem accF_cut (s : Fin 4) : cut c s (accF m c) = V m s.val c := by
  funext x
  have hl := accRow_lt c s
  have hx : (x 0).val < 128 := (x 0).isLt
  unfold cut
  rw [accF_at m s _ (by rw [accSet, Finset.mem_filter]; exact ⟨Finset.mem_univ _, by show (accRow c s * 128 + (x 0).val) / 128 = accRow c s; omega⟩)]
  congr 1
  funext a
  apply Fin.ext
  fin_cases a
  · show (accRow c s * 128 + (x 0).val) % 128 = (x 0).val; omega
  · rfl
theorem acc0_first (i : S512x4096.Idx) (hi : i ∈ accSet c 0) : acc0 m c i = accF m c i := by
  rw [accF_at m 0 i hi]
  show _ = acc0 m c (ix2 _ _)
  congr 1
  have h := (Finset.mem_filter.mp hi).2
  funext a
  apply Fin.ext
  fin_cases a
  · show (i 0).val = accRow c 0 * 128 + (i 0).val % 128; omega
  · rfl

theorem acc_read (s : Fin 4) {off : Fin 2 → ℕ} {inb} (hoff : off = ![accRow c s * 128, 0]) (f : Buf (Elt F) (accL c)) :
    accM.view.readAt (Elt F) (accR off inb).toLoadRect f = cut c s f := by
  funext x
  show f ((accR off inb).emb x) = _
  rw [acc_emb s hoff]; rfl

theorem acc_load (s : Fin 4) {off : Fin 2 → ℕ} {inb} (hoff : off = ![accRow c s * 128, 0]) (f : Buf (Elt F) (accL c))
    {hl : accM.view.LoadsAt (accR off inb).toLoadRect}
    {Q : α → sProp 𝕄} {k : Vec F S128x4096 .bf16 → Prog (TpuEff nD τ sig (Elt F) Λ₀ .tc) α} :
    accP c s f ⊢ iprop((accP c s f -∗ wpc c (k (cut c s f)) Q) -∗ wpc c (.op (.load accM (accR off inb).toLoadRect hl) k) Q) := by
  rw [← acc_read (inb := inb) s hoff f]
  exact wp_load 𝒱₀ (c : Thread nD τ) none Set.univ (m := accM) (r := (accR off inb).toLoadRect) (hl := hl) (k := k) (S := accSet c s) (f := f)
    (by rw [← acc_set (inb := inb) s hoff]; intro i hi; obtain ⟨x, hx, rfl⟩ := Finset.mem_map.mp hi; exact hx)

theorem acc_store (s : Fin 4) {off : Fin 2 → ℕ} {inb} (hoff : off = ![accRow c s * 128, 0]) (f : Buf (Elt F) (accL c))
    {w : FVec F S128x4096 .bf16} (hw : w = V m s.val c)
    {hx : (accM.access (accR off inb)).Stores Finset.univ} {hm : (Finset.univ : Finset (accR off inb).shape.Idx) = Finset.univ ∨ ∀ a, (accR off inb).stride a = 1}
    {Q : α → sProp 𝕄} {k : PUnit → Prog (TpuEff nD τ sig (Elt F) Λ₀ .tc) α} :
    accP c s f ⊢ iprop((accP c s (accF m c) -∗ wpc c (k ⟨⟩) Q) -∗ wpc c (.op (.store accM (accR off inb) w Finset.univ hx hm) k) Q) := by
  subst hw
  have hval : ∀ i ∈ accSet c s, (accM.access (accR off inb)).write (Elt F) f (V m s.val c) Finset.univ i = accF m c i := by
    intro i hi
    rw [accF_at m s i hi]
    have h := View.write_emb_of_mem (v := accM.access (accR off inb)) f (V m s.val c)
      (Finset.mem_univ (ix2 (n0 := 128) (n1 := 4096) ⟨(i 0).val % 128, Nat.mod_lt _ (by decide)⟩ (i 1)))
    have he : (accM.access (accR off inb)).emb (ix2 (n0 := 128) (n1 := 4096) ⟨(i 0).val % 128, Nat.mod_lt _ (by decide)⟩ (i 1)) = i := by
      refine (acc_emb (inb := inb) s hoff _).trans ?_
      have h := (Finset.mem_filter.mp hi).2
      funext a
      apply Fin.ext
      fin_cases a
      · show accRow c s * 128 + (i 0).val % 128 = (i 0).val; omega
      · rfl
    rw [he] at h
    exact h
  unfold accP
  iintro H Hk
  iapply (wp_store 𝒱₀ (c : Thread nD τ) none Set.univ (m := accM) (r := accR off inb) (w := V m s.val c) (Mk := Finset.univ) (hx := hx) (hm := hm) (k := k)
    (S := accSet c s) (f := f) (by
      rw [View.setOn_univ]; show ((View.whole cc0_scratch0).slice _).set ⊆ _; rw [View.set_slice_whole, acc_set s hoff])) $$ [H]
  · iexact H
  iintro H
  iapply Hk
  iapply (Entails.of_eq (pointsTo_congr (g := accF m c) hval))
  iexact H

theorem rs_load (s : Fin 3) {off : Fin 3 → ℕ} {inb} (hoff : off = ![s.val, 0, 0])
    {hl : rsM.view.LoadsAt (rsR off inb).toLoadRect}
    {Q : α → sProp 𝕄} {k : Vec F S1x128x4096 .bf16 → Prog (TpuEff nD τ sig (Elt F) Λ₀ .tc) α} :
    rsP c s (RSB m c) ⊢ iprop((rsP c s (RSB m c) -∗ wpc c (k (lift (V m s.val (dn c)))) Q) -∗ wpc c (.op (.load rsM (rsR off inb).toLoadRect hl) k) Q) := by
  have hr : rsM.view.readAt (Elt F) (rsR off inb).toLoadRect (RSB m c) = lift (V m s.val (dn c)) := by
    funext x
    show RSB m c ((rsR off inb).emb x) = _
    subst hoff
    have h0 : ((rsR ![s.val, 0, 0] inb).emb x 0).val = s.val := by
      rw [Rect.emb_apply]
      have : (x 0).val < 1 := (x 0).isLt
      show s.val + 1 * (x 0).val = s.val; omega
    unfold RSB lift
    rw [h0]
    congr 1
    funext a
    apply Fin.ext
    fin_cases a
    · show ((rsR ![s.val, 0, 0] inb).emb x 1).val = (x 1).val
      rw [Rect.emb_apply]; show 0 + 1 * (x 1).val = (x 1).val; omega
    · show ((rsR ![s.val, 0, 0] inb).emb x 2).val = (x 2).val
      rw [Rect.emb_apply]; show 0 + 1 * (x 2).val = (x 2).val; omega
  rw [← hr]
  exact wp_load 𝒱₀ (c : Thread nD τ) none Set.univ (m := rsM) (r := (rsR off inb).toLoadRect) (hl := hl) (k := k) (S := rsSet s) (f := RSB m c)
    (by intro i hi; obtain ⟨x, hx, rfl⟩ := Finset.mem_map.mp hi; exact rs_set s hoff hx)

/-! ## Sending a sum on, and its arrival -/

/-- What a chunk sent from the accumulator leaves at the neighbour. -/
theorem rs_value (e : Fin 34) (he : e.val < 3) {off : Fin 2 → ℕ} {inb} (hoff : off = ![accRow c (acc3 e) * 128, 0]) {off' : Fin 3 → ℕ} {inb'} (hoff' : off' = ![(rs3 e).val, 0, 0])
    (f : Buf (Elt F) (rsL (tgt e c))) (i) (hi : i ∈ rsSet (rs3 e)) :
    (rsV off' inb').view.write (Elt F) f ((accV off inb).view.read (Elt F) (accF m c)) Finset.univ i = RSB m (tgt e c) i := by
  have hd : dn (tgt e c) = c := by
    have h : ∀ e : Fin 34, e.val < 3 → dirOf e = 0 := by decide
    unfold tgt; rw [h e he]; exact dn_up c
  have hi0 := (Finset.mem_filter.mp hi).2
  have hem : (rsV off' inb').view.emb (ix2 (n0 := 128) (n1 := 4096) (i 1) (i 2)) = i := by
    subst hoff'
    have h1 : Shape.reshapeEquiv (s := S1x128x4096) (s' := S128x4096) shapeCasts_S1x128x4096_S128x4096 (ix2 (n0 := 128) (n1 := 4096) (i 1) (i 2))
        = ix3 (n0 := 1) (n1 := 128) (n2 := 4096) 0 (i 1) (i 2) :=
      Shape.reshapeEquiv_eq_of_rowMajor _ (by
        rw [Shape.rowMajor_val_three, Shape.rowMajor_val_two]
        show (0 * 128 + (i 1).val) * 4096 + (i 2).val = (i 1).val * 4096 + (i 2).val
        omega)
    show (rsR ![(rs3 e).val, 0, 0] inb').emb (Shape.reshapeEquiv (s := S1x128x4096) (s' := S128x4096) shapeCasts_S1x128x4096_S128x4096 (ix2 (n0 := 128) (n1 := 4096) (i 1) (i 2))) = i
    rw [h1]
    funext a
    apply Fin.ext
    rw [Rect.emb_apply]
    fin_cases a
    · show (rs3 e).val + 1 * 0 = (i 0).val; omega
    · show 0 + 1 * (i 1).val = (i 1).val; omega
    · show 0 + 1 * (i 2).val = (i 2).val; omega
  have h := View.write_emb_of_mem (v := (rsV off' inb').view) f ((accV off inb).view.read (Elt F) (accF m c)) (Finset.mem_univ (ix2 (n0 := 128) (n1 := 4096) (i 1) (i 2)))
  rw [hem] at h
  refine h.trans ?_
  have hr : (accV off inb).view.read (Elt F) (accF m c) = cut c (acc3 e) (accF m c) := acc_read (inb := inb) (acc3 e) hoff (accF m c)
  rw [hr, accF_cut]
  unfold RSB
  rw [hd, hi0]
  show V m (e.val % 4) c _ = V m (e.val % 3) c _
  rw [Nat.mod_eq_of_lt (by omega), Nat.mod_eq_of_lt (by omega)]

theorem rs_send (e : Fin 34) (h3 : e.val < 3) {n : ℕ} (hn : sendAt e = n) {off : Fin 2 → ℕ} {inb} (hoff : off = ![accRow c (acc3 e) * 128, 0])
    {off' : Fin 3 → ℕ} {inb'} (hoff' : off' = ![(rs3 e).val, 0, 0])
    {dv : Dev nD} (hdv : dv = tgt e c) {s1 s2 : DmaSem sig} (hs1 : s1 = sendS e) (hs2 : s2 = recvS e)
    {hsc : (rsV off' inb').view.ref.isScScratch = false}
    {hsrc : (accV off inb).view.WordExact} {hdst : (rsV off' inb').view.WordExact}
    {hsem : DmaTarget.Typed .vmem (.dma s2) (.remote (Dev.tc dv : Thread nD τ) (rsV off' inb') (.dma s1) hsc)}
    {Q : α → sProp 𝕄} {k : PUnit → Prog (TpuEff nD τ sig (Elt F) Λ₀ .tc) α} :
    iprop(Pers m K ∗ Fs n c ∗ Fo n c ∗ accP c (acc3 e) (accF m c) ∗ (∃ f, rsP (F := F) (tgt e c) (rs3 e) f))
      ⊢ iprop(((Fs (n + 1) c ∗ Fo (n + 1) c) -∗ wpc c (k ⟨⟩) Q)
          -∗ wpc c (.op (.enqueueDma (accV off inb) (.remote (Dev.tc dv : Thread nD τ) (rsV off' inb') (.dma s1) hsc) (.dma s2) hsrc hdst hsem) k) Q) := by
  subst hn hdv hs1 hs2
  have hk1 := kind_send e
  have hset := set_accV (inb := inb) c (acc3 e) hoff
  have hset' := set_rsV (inb := inb') (rs3 e) hoff'
  have hP1 : accP c (acc3 e) (accF m c) = ((accV off inb).view.loc (c : Thread nD τ) ↦[(accV off inb).view.set]{fullShare} (accF m c)) := by
    unfold accP; rw [hset]
  have hP2 : ∀ g, rsP (F := F) (tgt e c) (rs3 e) g = ((rsV off' inb').view.loc (tgt e c : Thread nD τ) ↦[(rsV off' inb').view.set]{fullShare} g) := by
    intro g; unfold rsP; rw [hset']
  have hr : τ.routes (c : Thread nD τ) (tgt e c : Thread nD τ) = true := by routes
  unfold Fs Fo
  rw [grow _ (unsent_send e), grow _ (flying_send e), undone_stable (n := sendAt e) (by omega), left_stable (n := sendAt e) (by omega), dues_send e]
  iintro ⟨#HP, ⟨⟨⟨Ht1, Ht2⟩, Hu⟩, Hf, Hud, Hle⟩, ⟨%W, HO⟩, Ha, ⟨%f, Hd⟩⟩ Hk
  ihave #HI1 := (inv_at m K (c, .inl (.inl e))) $$ HP
  ihave #HI2 := (inv_at m K (tgt e c, .inl (.inr e))) $$ HP
  ihave #HR1 := (reached_at m K (c, .inl (.inl e))) $$ HP
  ihave #HR2 := (reached_at m K (tgt e c, .inl (.inr e))) $$ HP
  ihave Ha := (Entails.of_eq hP1) $$ Ha
  ihave Hd := (Entails.of_eq (hP2 f)) $$ Hd
  iapply (Rounds.wp_send_pointsTo (Q := Q) (k := k) 𝒱₀ ER (Rd m) (c : Thread nD τ) none (κ₁ := K (c, .inl (.inl e))) (κ₂ := K (tgt e c, .inl (.inr e)))
    (src := accV off inb) (dst := rsV off' inb') (c' := (tgt e c : Thread nD τ)) (sS := .dma (sendS e)) (sem := .dma (recvS e))
    (hsc := hsc) (hsrc := hsrc) (hdst := hdst) (hsem := hsem) (q := fullShare) (fs := accF m c)
    (r₁ := 0) (r₂ := 0) (d₁ := (0 : Fin 4)) (d₂ := (0 : Fin 4)) (fd := f)
    (by rw [duties_s]; exact Finset.mem_singleton_self _) (by rw [duties_r]; exact Finset.mem_singleton_self _)
    () () N rfl (amount_s m e) (amount_r m e) (Es := Set.univ) (dues (sendAt e + 1) c) rfl (W := W)
    (by
      rw [pay_s, sendPay, if_pos h3]
      iintro H
      iexists (accF m c)
      iapply (Entails.of_eq hP1.symm)
      iexact H)
    (by
      rw [pay_r, recvPay, if_pos h3, hP2]
      exact Entails.of_eq (pointsTo_congr fun i hi => rs_value m e h3 (inb := inb) (inb' := inb') hoff hoff' f i (by rw [← hset']; exact hi)))
    hr) $$ [Ht1 Ht2 HO Ha Hd]
  · isplitr; · iexact HI1
    isplitr; · iexact HI2
    isplitl [Ha]; · iexact Ha
    isplitl [Hd]; · iexact Hd
    isplitl [HO]; · iexact HO
    isplitl [Ht1]; · iexact Ht1
    isplitr; · iexact HR1
    isplitl [Ht2]; · iexact Ht2
    iexact HR2
  iintro ⟨Hc, HO⟩
  iapply Hk
  isplitl [Hu Hc Hf Hud Hle]
  · isplitl [Hu]; · iexact Hu
    isplitl [Hc Hf]
    · isplitl [Hc]; · iexact Hc
      iexact Hf
    isplitl [Hud]; · iexact Hud
    iexact Hle
  iexists W; iexact HO

theorem rs_recv (e : Fin 34) (h3 : e.val < 3) {n : ℕ} (hn : recvAt e = n) {s : DmaSem sig} (hs : s = recvS e)
    {sp sp' : Space} {s1 s2 : Shape} {e1 e2 : EltTy} {srcw : Memref sig .tc sp' s1 e1} {dstw : Memref sig .tc sp s2 e2}
    {hsrc : srcw.view.WordExact} {hdst : dstw.view.WordExact} (hN : dstw.view.dmaCredit = N)
    {Q : α → sProp 𝕄} {k : PUnit → Prog (TpuEff nD τ sig (Elt F) Λ₀ .tc) α} :
    iprop(Pers m K ∗ Fr n c ∗ Fo n c)
      ⊢ iprop(((Fr (n + 1) c ∗ Fo (n + 1) c ∗ rsP c (rs3 e) (RSB m c)) -∗ wpc c (k ⟨⟩) Q)
          -∗ wpc c (.op (.waitDma2 s srcw dstw hsrc hdst) k) Q) := by
  subst hn hs
  have hk1 := kind_recv e
  unfold Fr Fo
  rw [grow _ (awaited_recv e), grow _ (arrived_recv e), ← dues_stable (n := recvAt e) (c := c) (by omega) (by omega) (by omega)]
  iintro ⟨#HP, ⟨⟨⟨Hc, Hat⟩, Haw⟩, Har⟩, ⟨%W, HO⟩⟩ Hk
  ihave #HI := (inv_at m K (c, .inl (.inr e))) $$ HP
  iapply (wait_op m K (.inl (.inr e)) (recvS e) rfl (expect_r m c e) (rest_r m c e) hN (dues (recvAt e) c) W) $$ [Hc Hat HO]
  · isplitr; · iexact HI
    isplitl [Hc]; · iexact Hc
    isplitl [HO]; · iexact HO
    isplitr; · iapply (may_recv m K e); iexact HP
    iexact Hat
  iintro ⟨HO, Hat, Hp⟩
  ihave Hp := (Entails.of_eq (show recvPay m c e = rsP c (rs3 e) (RSB m c) by unfold recvPay; rw [if_pos h3])) $$ Hp
  iapply Hk
  isplitl [Haw Hat Har]
  · isplitl [Haw]; · iexact Haw
    isplitl [Hat]; · iexact Hat
    iexact Har
  isplitl [HO]; · iexists _; iexact HO
  iexact Hp

/-! ## The copies' books, kept together -/

def Rt (n : ℕ) (c : Dev nD) : sProp 𝕄 := iprop(Fs n c ∗ Fr n c ∗ Fo n c)

theorem Rt_stable {n : ℕ} (h : kind n = 0) : Rt (F := F) (n + 1) c = Rt n c := by
  unfold Rt
  rw [Fs_stable (by omega) (by omega), Fr_stable (by omega), Fo_stable (by omega) (by omega) (by omega)]

theorem rt_send (e : Fin 34) (h3 : e.val < 3) {n : ℕ} (hn : sendAt e = n) {off : Fin 2 → ℕ} {inb} (hoff : off = ![accRow c (acc3 e) * 128, 0])
    {off' : Fin 3 → ℕ} {inb'} (hoff' : off' = ![(rs3 e).val, 0, 0])
    {dv : Dev nD} (hdv : dv = tgt e c) {s1 s2 : DmaSem sig} (hs1 : s1 = sendS e) (hs2 : s2 = recvS e)
    {hsc : (rsV off' inb').view.ref.isScScratch = false}
    {hsrc : (accV off inb).view.WordExact} {hdst : (rsV off' inb').view.WordExact}
    {hsem : DmaTarget.Typed .vmem (.dma s2) (.remote (Dev.tc dv : Thread nD τ) (rsV off' inb') (.dma s1) hsc)}
    {Q : α → sProp 𝕄} {k : PUnit → Prog (TpuEff nD τ sig (Elt F) Λ₀ .tc) α} :
    iprop(Pers m K ∗ Rt n c ∗ accP c (acc3 e) (accF m c) ∗ (∃ f, rsP (F := F) (tgt e c) (rs3 e) f))
      ⊢ iprop((Rt (n + 1) c -∗ wpc c (k ⟨⟩) Q)
          -∗ wpc c (.op (.enqueueDma (accV off inb) (.remote (Dev.tc dv : Thread nD τ) (rsV off' inb') (.dma s1) hsc) (.dma s2) hsrc hdst hsem) k) Q) := by
  have hk1 := kind_send e
  rw [hn] at hk1
  unfold Rt
  rw [Fr_stable (n := n) (by omega)]
  iintro ⟨#HP, ⟨HFs, HFr, HFo⟩, Ha, Hd⟩ Hk
  iapply (rs_send m K e h3 hn hoff hoff' hdv hs1 hs2) $$ [HFs HFo Ha Hd]
  · isplitr; · iexact HP
    isplitl [HFs]; · iexact HFs
    isplitl [HFo]; · iexact HFo
    isplitl [Ha]; · iexact Ha
    iexact Hd
  iintro ⟨HFs, HFo⟩
  iapply Hk
  isplitl [HFs]; · iexact HFs
  isplitl [HFr]; · iexact HFr
  iexact HFo

theorem rt_recv (e : Fin 34) (h3 : e.val < 3) {n : ℕ} (hn : recvAt e = n) {s : DmaSem sig} (hs : s = recvS e)
    {sp sp' : Space} {s1 s2 : Shape} {e1 e2 : EltTy} {srcw : Memref sig .tc sp' s1 e1} {dstw : Memref sig .tc sp s2 e2}
    {hsrc : srcw.view.WordExact} {hdst : dstw.view.WordExact} (hN : dstw.view.dmaCredit = N)
    {Q : α → sProp 𝕄} {k : PUnit → Prog (TpuEff nD τ sig (Elt F) Λ₀ .tc) α} :
    iprop(Pers m K ∗ Rt n c)
      ⊢ iprop(((Rt (n + 1) c ∗ rsP c (rs3 e) (RSB m c)) -∗ wpc c (k ⟨⟩) Q)
          -∗ wpc c (.op (.waitDma2 s srcw dstw hsrc hdst) k) Q) := by
  have hk1 := kind_recv e
  rw [hn] at hk1
  unfold Rt
  rw [Fs_stable (n := n) (by omega) (by omega)]
  iintro ⟨#HP, HFs, HFr, HFo⟩ Hk
  iapply (rs_recv m K e h3 hn hs hN) $$ [HFr HFo]
  · isplitr; · iexact HP
    isplitl [HFr]; · iexact HFr
    iexact HFo
  iintro ⟨HFr, HFo, Hp⟩
  iapply Hk
  isplitr [Hp]
  · isplitl [HFs]; · iexact HFs
    isplitl [HFr]; · iexact HFr
    iexact HFo
  iexact Hp

end Cert.IdealRun

end
-- ==== Proof.IdealRun.Prologue.lean ====
/-
The reducing phase, part by part: from the entry to the first gathered chunk.
-/
module

public import proofs.«01_k».proof.Proof.IdealRun.Reduce

@[expose] public section

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)
variable {c : Dev nD} {α : Type}

theorem three (Φ : Fin 3 → sProp 𝕄) : bigSep Finset.univ Φ = iprop(Φ 0 ∗ Φ 1 ∗ Φ 2) := by
  rw [show (Finset.univ : Finset (Fin 3)) = insert 0 (insert 1 {2}) by decide, ins _ (by decide), ins _ (by decide), bigSep_singleton]
theorem four (Φ : Fin 4 → sProp 𝕄) : bigSep Finset.univ Φ = iprop(Φ 0 ∗ Φ 1 ∗ Φ 2 ∗ Φ 3) := by
  rw [show (Finset.univ : Finset (Fin 4)) = insert 0 (insert 1 (insert 2 {3})) by decide, ins _ (by decide), ins _ (by decide), ins _ (by decide), bigSep_singleton]

/-! ## What is in flight, lent and taken apart -/

def NX : ℕ := (cc0_scratch5 : Ref sig .tc).dmaCredit S512x4096 .f32
def NR : ℕ := (cc0_scratch6 : Ref sig .tc).dmaCredit S128x4096 .f32
abbrev A0 (c : Dev nD) : sProp 𝕄 := wh c main_arg0 (m ((c : Thread nD τ).loc main_arg0))
abbrev A1 (c : Dev nD) : sProp 𝕄 := wh c main_arg1 (m ((c : Thread nD τ).loc main_arg1))
/-- The partial sums' rows on their way to the staging buffer, and the rest of the argument. -/
def FX (c : Dev nD) : sProp 𝕄 :=
  iprop(Flight EC (c : Thread nD τ) (.dma (inS 0)) () NX
      iprop(wh c cc0_scratch5 (X m c) ∗ ((xSrc c).view.loc (c : Thread nD τ) ↦[(xSrc c).view.set]{fullShare} m ((c : Thread nD τ).loc main_arg0)))
    ∗ ((c : Thread nD τ).loc main_arg0 ↦[Finset.univ \ (xSrc c).view.set]{fullShare} m ((c : Thread nD τ).loc main_arg0)))
def FR (c : Dev nD) : sProp 𝕄 :=
  iprop(Flight EC (c : Thread nD τ) (.dma (inS 1)) () NR
      iprop(wh c cc0_scratch6 (Rr m c) ∗ ((rSrc c).view.loc (c : Thread nD τ) ↦[(rSrc c).view.set]{fullShare} m ((c : Thread nD τ).loc main_arg1)))
    ∗ ((c : Thread nD τ).loc main_arg1 ↦[Finset.univ \ (rSrc c).view.set]{fullShare} m ((c : Thread nD τ).loc main_arg1)))
def slots (d : Dev nD) : sProp 𝕄 := bigSep Finset.univ fun s : Fin 3 => iprop(∃ f, rsP (F := F) d s f)
theorem bar0 : barPay (F := F) (nb 0 c) 0 = iprop(slots c ∗ landPay c 0) := by
  show iprop((bigSep Finset.univ fun s : Fin 3 => iprop(∃ f, rsP (F := F) (bn 0 (nb 0 c)) s f)) ∗ landPay (bn 0 (nb 0 c)) 0) = _
  rw [bn_nb]; rfl
theorem bar1 : barPay (F := F) (nb 1 c) 1 = iprop(emp) := rfl
theorem bar2 : barPay (F := F) (nb 2 c) 2 = landPay c 2 := by
  show landPay (bn 2 (nb 2 c)) 2 = _; rw [bn_nb]
theorem bar3 : barPay (F := F) (nb 3 c) 3 = landPay c 1 := by
  show landPay (bn 3 (nb 3 c)) 1 = _; rw [bn_nb]

theorem rejoin (b : Ref sig .tc) (S : Finset (b.ty.shape.Idx)) (f : Buf (Elt F) ((c : Thread nD τ).loc b)) :
    iprop(((c : Thread nD τ).loc b ↦[S]{fullShare} f) ∗ ((c : Thread nD τ).loc b ↦[Finset.univ \ S]{fullShare} f)) ⊢ (wh c b f : sProp 𝕄) :=
  (pointsTo_split_subset (Finset.subset_univ S)).2

theorem acc_split : wh c cc0_scratch0 (acc0 m c) ⊢ iprop(accP c 0 (accF m c) ∗ accP c 1 (acc0 m c) ∗ accP c 2 (acc0 m c) ∗ accP c 3 (acc0 m c)) := by
  have hU : (Finset.univ : Finset S512x4096.Idx) = (Finset.univ : Finset (Fin 4)).biUnion (accSet c) := by
    ext i
    simp only [Finset.mem_univ, Finset.mem_biUnion, true_and, true_iff]
    have hi : (i 0).val < 512 := (i 0).isLt
    have h2 : rowOf c < 4 := Nat.mod_lt _ (by decide)
    refine ⟨⟨(rowOf c + 4 - (i 0).val / 128) % 4, Nat.mod_lt _ (by decide)⟩, Finset.mem_filter.mpr ⟨Finset.mem_univ _, ?_⟩⟩
    unfold accRow
    show (i 0).val / 128 = (rowOf c + 4 - (rowOf c + 4 - (i 0).val / 128) % 4) % 4
    omega
  have h := pointsTo_biUnion (Ix := Unit) (Name := ℕ) (U := UU) (Lvl := ℕ) (Val := Elt F) (ℓ := accL c) (q := fullShare) (f := acc0 m c) (Finset.univ : Finset (Fin 4)) (accSet c) (by
    intro s _ s' _ hne
    rw [Finset.disjoint_left]
    intro i h h'
    have h1 := (Finset.mem_filter.mp h).2
    have h2 := (Finset.mem_filter.mp h').2
    rw [h1] at h2
    unfold accRow at h2
    exact hne (Fin.ext (by have := s.isLt; have := s'.isLt; have h4 : rowOf c < 4 := Nat.mod_lt _ (by decide); omega)))
  rw [← hU, four] at h
  iintro H
  ihave H := (Entails.of_eq h) $$ H
  icases H with ⟨H0, H1, H2, H3⟩
  unfold accP
  isplitl [H0]
  · iapply (Entails.of_eq (pointsTo_congr (g := accF m c) (acc0_first m)))
    iexact H0
  isplitl [H1]; · iexact H1
  isplitl [H2]; · iexact H2
  iexact H3

/-! ## The parts -/

theorem part3 (v5 : BitVec 32) (v11 : BitVec 32) (v74 : BitVec 32) (c4_i32_34 : BitVec 32) (v75 : BitVec 1) :
    iprop(A0 m c ∗ (∃ f, wh c cc0_scratch5 f) ∗ semVal ((c : Thread nD τ), .dma (inS 0)) 0)
      ⊢ wpc c (onBufs (k0_part3 (F := F)) c v5 v11 v74 c4_i32_34 v75) (fun _ => FX m c) := by
  unfold onBufs; rw [k0_part3_eq_skeleton]; unfold k0_part3_skel
  simp only [Prog.lift, Prog.bind_op, Prog.bind_ret, Prog.pure_eq_ret]
  iintro ⟨Ha, ⟨%f, Hs⟩, Hv⟩
  ihave Ha := (pointsTo_split_subset (Finset.subset_univ (xSrc c).view.set)).1 $$ Ha
  icases Ha with ⟨Ha, Har⟩
  iapply (copy_whole cc0_scratch5 (xSrc c) (sm := inS 0) rfl (n := NX) rfl (by decide)) $$ [Ha Hs Hv]
  · isplitl [Ha]; · iexact Ha
    isplitl [Hs]; · iexact Hs
    iexact Hv
  iintro Hf
  iapply ret_intro
  unfold FX
  isplitl [Hf]; · iexact Hf
  iexact Har

theorem part4 (v2 v5 v8 v11 v39 v42 v70 v73 v84 v95 v106 c512 : BitVec 32) :
    iprop(Pers m K ∗ Fo 3 c ∗ (A1 m c ∗ (∃ f, wh c cc0_scratch6 f) ∗ semVal ((c : Thread nD τ), .dma (inS 1)) 0)
        ∗ (bigSep Finset.univ fun i : Fin 4 => dutyTok ER (bCell (nb i c)) 0 i) ∗ slots c ∗ landPay c 0 ∗ landPay c 1 ∗ landPay c 2)
      ⊢ wpc c (onBufs (k0_part4 (F := F)) c v2 v5 v8 v11 v39 v42 v70 v73 v84 v95 v106 c512)
          (fun r => iprop(⌜r = SemArray.scalar (sig.barrier 0 rfl)⌝ ∗ FR m c ∗ Fo 7 c)) := by
  unfold onBufs; rw [k0_part4_eq_skeleton]; unfold k0_part4_skel
  simp only [semSignalWord, Prog.lift, Prog.bind_op, Prog.bind_ret, Prog.pure_eq_ret]
  rw [four]
  iintro ⟨#HP, HO, ⟨Ha, ⟨%f, Hs⟩, Hv⟩, ⟨Ht0, Ht1, Ht2, Ht3⟩, Hsl, Hl0, Hl1, Hl2⟩
  ihave Ha := (pointsTo_split_subset (Finset.subset_univ (rSrc c).view.set)).1 $$ Ha
  icases Ha with ⟨Ha, Har⟩
  iapply (copy_whole cc0_scratch6 (rSrc c) (sm := inS 1) rfl (n := NR) rfl (by decide)) $$ [Ha Hs Hv]
  · isplitl [Ha]; · iexact Ha
    isplitl [Hs]; · iexact Hs
    iexact Hv
  iintro Hf
  iapply (sig_op m K (c := c) 0 rfl (by clear f; revert c; decide +kernel)) $$ [HO Ht0 Hsl Hl0]
  · isplitr; · iexact HP
    isplitl [HO]; · iexact HO
    isplitl [Ht0]; · iexact Ht0
    iapply (Entails.of_eq (bar0 (F := F) (c := c)).symm)
    isplitl [Hsl]; · iexact Hsl
    iexact Hl0
  iintro HO
  iapply (sig_op m K (c := c) 1 rfl (by clear f; revert c; decide +kernel)) $$ [HO Ht1]
  · isplitr; · iexact HP
    isplitl [HO]; · iexact HO
    isplitl [Ht1]; · iexact Ht1
    rw [bar1]
    iempintro
  iintro HO
  iapply (sig_op m K (c := c) 2 rfl (by clear f; revert c; decide +kernel)) $$ [HO Ht2 Hl2]
  · isplitr; · iexact HP
    isplitl [HO]; · iexact HO
    isplitl [Ht2]; · iexact Ht2
    iapply (Entails.of_eq (bar2 (F := F) (c := c)).symm)
    iexact Hl2
  iintro HO
  iapply (sig_op m K (c := c) 3 rfl (by clear f; revert c; decide +kernel)) $$ [HO Ht3 Hl1]
  · isplitr; · iexact HP
    isplitl [HO]; · iexact HO
    isplitl [Ht3]; · iexact Ht3
    iapply (Entails.of_eq (bar3 (F := F) (c := c)).symm)
    iexact Hl1
  iintro HO
  iapply ret_intro
  isplitr; · ipureintro; rfl
  isplitr [HO]
  · unfold FR
    isplitl [Hf]; · iexact Hf
    iexact Har
  iexact HO

theorem zero2 : (![0, 0] : Fin 2 → ℕ) = fun _ => 0 := by funext a; fin_cases a <;> rfl
theorem zero1 : (![0] : Fin 1 → ℕ) = fun _ => 0 := by funext a; fin_cases a; rfl

set_option maxHeartbeats 1000000 in
theorem part5 (v5 : BitVec 32) (v118 : Sems sig S_) (hv : v118 = SemArray.scalar (sig.barrier 0 rfl)) :
    iprop(Pers m K ∗ Fs 12 c ∗ Fr 12 c ∗ Fo 7 c ∗ (cred (tallyAt (bCell c) () 4) ∗ atPos (D := Fin 4) ER (bCell c) 0 ∅ 0) ∗ FX m c ∗ (∃ f, wh c cc0_scratch0 f))
      ⊢ wpc c (onBufs (k0_part5 (F := F)) c v5 v118)
          (fun _ => iprop(Rt 12 c ∗ atPos (D := Fin 4) ER (bCell c) 1 ∅ 0 ∗ bigSep Finset.univ (fun i => barPay (F := F) c i)
            ∗ (A0 m c ∗ (∃ f, wh c cc0_scratch5 f) ∗ semVal ((c : Thread nD τ), .dma (inS 0)) 0)
            ∗ accP c 0 (accF m c) ∗ accP c 1 (acc0 m c) ∗ accP c 2 (acc0 m c) ∗ accP c 3 (acc0 m c))) := by
  subst hv
  unfold onBufs; rw [k0_part5_eq_skeleton]; unfold k0_part5_skel
  simp only [semWaitWord, Prog.lift, Prog.bind_op, Prog.bind_ret, Prog.pure_eq_ret]
  unfold FX
  iintro ⟨#HP, HFs, HFr, HO, ⟨Hc, Hat⟩, ⟨Hf, Har⟩, ⟨%g, Hg⟩⟩
  iapply (bar_op m K (c := c)) $$ [HO Hc Hat]
  · isplitr; · iexact HP
    isplitl [HO]; · iexact HO
    isplitl [Hc]; · iexact Hc
    iexact Hat
  iintro ⟨HO, Hat, Hb⟩
  iapply (await_op m K (c := c) (n₀ := 8) rfl (s := inS 0) rfl (by decide) (n := NX) rfl) $$ [HO Hf]
  · isplitr; · iexact HP
    isplitl [HO]; · iexact HO
    iexact Hf
  iintro ⟨HO, Hv, Hs, Ha⟩
  iapply (whole_load (c := c) (Memref.whole cc0_scratch5) _ (Memref.readAt_unit_zero (Elt F) cc0_scratch5 zero2 _ (X m c))) $$ [Hs]
  · iexact Hs
  iintro Hs
  iapply (whole_load (c := c) accM _ rfl) $$ [Hg]
  · iexact Hg
  iintro Hg
  iapply (whole_store (c := c) accM _ (g := acc0 m c) (Memref.write_access_unit_zero_univ (Elt F) cc0_scratch0 zero2 _ g (acc0 m c))) $$ [Hg]
  · iexact Hg
  iintro Hg
  iapply ret_intro
  ihave Hg := (acc_split m (c := c)) $$ Hg
  isplitl [HFs HFr HO]
  · unfold Rt
    isplitl [HFs]; · iexact HFs
    isplitl [HFr]; · iexact HFr
    rw [Fo_stable (n := 11) (c := c) (by decide) (by decide) (by decide), Fo_stable (n := 10) (c := c) (by decide) (by decide) (by decide), Fo_stable (n := 9) (c := c) (by decide) (by decide) (by decide)]
    iexact HO
  isplitl [Hat]; · iexact Hat
  isplitl [Hb]; · iexact Hb
  isplitl [Ha Har Hs Hv]
  · isplitl [Ha Har]
    · iapply (rejoin (c := c) main_arg0 (xSrc c).view.set (m ((c : Thread nD τ).loc main_arg0)))
      isplitl [Ha]; · iexact Ha
      iexact Har
    isplitl [Hs]; · iexists (X m c); iexact Hs
    iexact Hv
  iexact Hg

theorem part6 (v2 v5 v8 v84 v174 : BitVec 32) :
    iprop(Pers m K ∗ Rt 12 c ∗ accP c 0 (accF m c) ∗ accP c 1 (acc0 m c) ∗ (∃ f, rsP (F := F) (up c) 0 f))
      ⊢ wpc c (onBufs (k0_part6 (F := F)) c v2 v5 v8 v84 v174)
          (fun r => iprop(⌜k0_pay3 r.2 = V m 1 c⌝ ∗ Rt 18 c ∗ accP c 1 (acc0 m c) ∗ rsP c 0 (RSB m c))) := by
  unfold onBufs; rw [k0_part6_eq_skeleton]; unfold k0_part6_skel
  simp only [Prog.lift, Prog.bind_op, Prog.bind_ret, Prog.pure_eq_ret]
  iintro ⟨#HP, HR, Ha, Hb, Hd⟩
  iapply (rt_send m K (c := c) 0 (by decide) (n := 12) rfl (by revert c; decide +kernel) rfl (by revert c; decide +kernel) rfl rfl) $$ [HR Ha Hd]
  · isplitr; · iexact HP
    isplitl [HR]; · iexact HR
    isplitl [Ha]; · iexact Ha
    iexact Hd
  iintro HR
  iapply (rt_recv m K (c := c) 0 (by decide) (n := 13) rfl rfl rfl) $$ [HR]
  · isplitr; · iexact HP
    iexact HR
  iintro ⟨HR, Hs⟩
  iapply (acc_load (c := c) 1 (by revert c; decide +kernel) (acc0 m c)) $$ [Hb]
  · iexact Hb
  iintro Hb
  iapply (rs_load m (c := c) 0 rfl) $$ [Hs]
  · iexact Hs
  iintro Hs
  iapply ret_intro
  isplitr; · ipureintro; rfl
  isplitl [HR]
  · rw [Rt_stable (n := 17) rfl, Rt_stable (n := 16) rfl, Rt_stable (n := 15) rfl, Rt_stable (n := 14) rfl]
    iexact HR
  isplitl [Hb]; · iexact Hb
  iexact Hs

theorem part7 (v2 v5 v8 v84 v201 : BitVec 32) (v206 : FVec F S128x4096 .bf16) (hv : k0_pay3 v206 = V m 1 c) :
    accP c 1 (acc0 m c) ⊢ wpc c (onBufs (k0_part7 (F := F)) c v2 v5 v8 v84 v201 v206) (fun _ => accP c 1 (accF m c)) := by
  unfold onBufs; rw [k0_part7_eq_skeleton]; unfold k0_part7_skel
  simp only [Prog.lift, Prog.bind_op, Prog.bind_ret, Prog.pure_eq_ret]
  iintro Hb
  iapply (acc_load (c := c) 1 (by clear hv; revert c; decide +kernel) (acc0 m c)) $$ [Hb]
  · iexact Hb
  iintro Hb
  iapply (acc_store m (c := c) 1 (by clear hv; revert c; decide +kernel) (acc0 m c) hv) $$ [Hb]
  · iexact Hb
  iintro Hb
  iapply ret_intro
  iexact Hb

theorem part8 (v2 v5 v8 v233 : BitVec 32) :
    iprop(Pers m K ∗ Rt 18 c ∗ accP c 1 (accF m c) ∗ accP c 2 (acc0 m c) ∗ (∃ f, rsP (F := F) (up c) 1 f))
      ⊢ wpc c (onBufs (k0_part8 (F := F)) c v2 v5 v8 v233)
          (fun r => iprop(Rt 24 c ∗ accP c 2 (accF m c) ∗ rsP c 1 (RSB m c))) := by
  unfold onBufs; rw [k0_part8_eq_skeleton]; unfold k0_part8_skel
  simp only [Prog.lift, Prog.bind_op, Prog.bind_ret, Prog.pure_eq_ret]
  iintro ⟨#HP, HR, Ha, Hb, Hd⟩
  iapply (rt_send m K (c := c) 1 (by decide) (n := 18) rfl (by revert c; decide +kernel) rfl (by revert c; decide +kernel) rfl rfl) $$ [HR Ha Hd]
  · isplitr; · iexact HP
    isplitl [HR]; · iexact HR
    isplitl [Ha]; · iexact Ha
    iexact Hd
  iintro HR
  iapply (rt_recv m K (c := c) 1 (by decide) (n := 19) rfl rfl rfl) $$ [HR]
  · isplitr; · iexact HP
    iexact HR
  iintro ⟨HR, Hs⟩
  iapply (acc_load (c := c) 2 (by revert c; decide +kernel) (acc0 m c)) $$ [Hb]
  · iexact Hb
  iintro Hb
  iapply (rs_load m (c := c) 1 rfl) $$ [Hs]
  · iexact Hs
  iintro Hs
  iapply (acc_load (c := c) 2 (by revert c; decide +kernel) (acc0 m c)) $$ [Hb]
  · iexact Hb
  iintro Hb
  iapply (acc_store m (c := c) 2 (by revert c; decide +kernel) (acc0 m c) rfl) $$ [Hb]
  · iexact Hb
  iintro Hb
  iapply ret_intro
  isplitl [HR]
  · rw [Rt_stable (n := 23) rfl, Rt_stable (n := 22) rfl, Rt_stable (n := 21) rfl, Rt_stable (n := 20) rfl]
    iexact HR
  isplitl [Hb]; · iexact Hb
  iexact Hs

theorem part9 (v2 v5 v8 v84 v272 v273 : BitVec 32) :
    iprop(Pers m K ∗ Rt 24 c ∗ accP c 2 (accF m c) ∗ (∃ f, rsP (F := F) (up c) 2 f))
      ⊢ wpc c (onBufs (k0_part9 (F := F)) c v2 v5 v8 v84 v272 v273) (fun r => Rt 25 c) := by
  unfold onBufs; rw [k0_part9_eq_skeleton]; unfold k0_part9_skel
  simp only [Prog.lift, Prog.bind_op, Prog.bind_ret, Prog.pure_eq_ret]
  iintro ⟨#HP, HR, Ha, Hd⟩
  iapply (rt_send m K (c := c) 2 (by decide) (n := 24) rfl (by revert c; decide +kernel) rfl (by revert c; decide +kernel) rfl rfl) $$ [HR Ha Hd]
  · isplitr; · iexact HP
    isplitl [HR]; · iexact HR
    isplitl [Ha]; · iexact Ha
    iexact Hd
  iintro HR
  iapply ret_intro
  iexact HR

set_option maxHeartbeats 1000000 in
theorem part10 (v2 v5 v8 v106 v292 : BitVec 32) :
    iprop(Pers m K ∗ Rt 25 c ∗ accP c 3 (acc0 m c) ∗ FR m c)
      ⊢ wpc c (onBufs (k0_part10 (F := F)) c v2 v5 v8 v106 v292)
          (fun r => iprop(⌜r = ⟨k0_pay6 (V m 3 c) (Rr m c), k0_pay7 (V m 3 c) (Rr m c), k0_pay8⟩⌝ ∗ Rt 37 c ∗ accP c 3 (accF m c) ∗ rsP c 2 (RSB m c)
            ∗ (A1 m c ∗ (∃ f, wh c cc0_scratch6 f) ∗ semVal ((c : Thread nD τ), .dma (inS 1)) 0))) := by
  unfold onBufs; rw [k0_part10_eq_skeleton]; unfold k0_part10_skel
  simp only [Prog.lift, Prog.bind_op, Prog.bind_ret, Prog.pure_eq_ret]
  unfold FR
  iintro ⟨#HP, HR, Hb, ⟨Hf, Har⟩⟩
  iapply (rt_recv m K (c := c) 2 (by decide) (n := 25) rfl rfl rfl) $$ [HR]
  · isplitr; · iexact HP
    iexact HR
  iintro ⟨HR, Hs⟩
  iapply (acc_load (c := c) 3 (by revert c; decide +kernel) (acc0 m c)) $$ [Hb]
  · iexact Hb
  iintro Hb
  iapply (rs_load m (c := c) 2 rfl) $$ [Hs]
  · iexact Hs
  iintro Hs
  iapply (acc_load (c := c) 3 (by revert c; decide +kernel) (acc0 m c)) $$ [Hb]
  · iexact Hb
  iintro Hb
  iapply (acc_store m (c := c) 3 (by revert c; decide +kernel) (acc0 m c) rfl) $$ [Hb]
  · iexact Hb
  iintro Hb
  have hR : Rt (F := F) 26 c = Rt 30 c := by
    rw [Rt_stable (n := 29) rfl, Rt_stable (n := 28) rfl, Rt_stable (n := 27) rfl, Rt_stable (n := 26) rfl]
  ihave HR := (Entails.of_eq hR) $$ HR
  unfold Rt
  icases HR with ⟨HFs, HFr, HO⟩
  iapply (await_op m K (c := c) (n₀ := 30) rfl (s := inS 1) rfl (by decide) (n := NR) rfl) $$ [HO Hf]
  · isplitr; · iexact HP
    isplitl [HO]; · iexact HO
    iexact Hf
  iintro ⟨HO, Hv, Hr, Ha⟩
  iapply (acc_load (c := c) 3 (by clear hR; revert c; decide +kernel) (accF m c)) $$ [Hb]
  · iexact Hb
  iintro Hb
  iapply (whole_load (c := c) (Memref.whole cc0_scratch6) _ (Memref.readAt_unit_zero (Elt F) cc0_scratch6 zero2 _ (Rr m c))) $$ [Hr]
  · iexact Hr
  iintro Hr
  rw [accF_cut]
  iapply ret_intro
  isplitr; · ipureintro; rfl
  isplitl [HFs HFr HO]
  · have hR : Rt (F := F) 37 c = iprop(Fs 30 c ∗ Fr 30 c ∗ Fo 31 c) := by
      rw [Rt_stable (n := 36) rfl, Rt_stable (n := 35) rfl, Rt_stable (n := 34) rfl, Rt_stable (n := 33) rfl, Rt_stable (n := 32) rfl, Rt_stable (n := 31) rfl]
      unfold Rt
      rw [Fs_stable (n := 30) (by decide) (by decide), Fr_stable (n := 30) (by decide)]
    unfold Rt at hR
    iapply (Entails.of_eq hR.symm)
    isplitl [HFs]; · iexact HFs
    isplitl [HFr]; · iexact HFr
    iexact HO
  isplitl [Hb]; · iexact Hb
  isplitl [Hs]; · iexact Hs
  isplitl [Ha Har]
  · iapply (rejoin (c := c) main_arg1 (rSrc c).view.set (m ((c : Thread nD τ).loc main_arg1)))
    isplitl [Ha]; · iexact Ha
    iexact Har
  isplitl [Hr]; · iexists (Rr m c); iexact Hr
  iexact Hv

theorem own_value {off : Fin 3 → ℕ} {inb} (hoff : off = ![(place c 0).val, 0, 0]) (f : Buf (Elt F) (bufL c)) (i) (hi : i ∈ bufSet (place c 0)) :
    (bufV off inb).view.write (Elt F) f (O m c) Finset.univ i = BUF m i := by
  have hi0 := (Finset.mem_filter.mp hi).2
  have hem : (bufV off inb).view.emb (ix2 (n0 := 128) (n1 := 4096) (i 1) (i 2)) = i := by
    subst hoff
    have h1 : Shape.reshapeEquiv (s := S1x128x4096) (s' := S128x4096) shapeCasts_S1x128x4096_S128x4096 (ix2 (n0 := 128) (n1 := 4096) (i 1) (i 2))
        = ix3 (n0 := 1) (n1 := 128) (n2 := 4096) 0 (i 1) (i 2) :=
      Shape.reshapeEquiv_eq_of_rowMajor _ (by
        rw [Shape.rowMajor_val_three, Shape.rowMajor_val_two]
        show (0 * 128 + (i 1).val) * 4096 + (i 2).val = (i 1).val * 4096 + (i 2).val
        omega)
    show (Rect.unit (s := S32x128x4096) ![(place c 0).val, 0, 0] S1x128x4096.size inb).emb (Shape.reshapeEquiv (s := S1x128x4096) (s' := S128x4096) shapeCasts_S1x128x4096_S128x4096 (ix2 (n0 := 128) (n1 := 4096) (i 1) (i 2))) = i
    rw [h1]
    funext a
    apply Fin.ext
    rw [Rect.emb_apply]
    fin_cases a
    · show (place c 0).val + 1 * 0 = (i 0).val; omega
    · show 0 + 1 * (i 1).val = (i 1).val; omega
    · show 0 + 1 * (i 2).val = (i 2).val; omega
  have h := View.write_emb_of_mem (v := (bufV off inb).view) f (O m c) (Finset.mem_univ (ix2 (n0 := 128) (n1 := 4096) (i 1) (i 2)))
  rw [hem] at h
  refine h.trans ?_
  unfold BUF
  rw [show (⟨(i 0).val, (i 0).isLt⟩ : Fin 32) = place c 0 from Fin.ext hi0, maker_own]
  rfl

set_option maxHeartbeats 1000000 in
theorem part11 (v2 v8 v11 v84 v106 : BitVec 32) :
    iprop(Pers m K ∗ Rt 37 c ∗ wh c cc0_stg0_0 (Gm m c) ∗ (∃ f, wh c cc0_scratch2 f) ∗ (∃ f, bufP (F := F) c (place c 0) fullShare f)
        ∗ semVal ((c : Thread nD τ), .dma locS) 0)
      ⊢ wpc c (onBufs (k0_part11 (F := F)) c v2 v8 v11 v84 v106 (k0_pay6 (V m 3 c) (Rr m c)) (k0_pay7 (V m 3 c) (Rr m c)) k0_pay8)
          (fun _ => iprop(Rt 38 c ∗ wh c cc0_stg0_0 (Gm m c) ∗ (∃ f, wh c cc0_scratch2 f) ∗ bufP c (place c 0) fullShare (BUF m)
            ∗ semVal ((c : Thread nD τ), .dma locS) 0)) := by
  unfold onBufs; rw [k0_part11_eq_skeleton]; unfold k0_part11_skel
  simp only [Prog.lift, Prog.bind_op, Prog.bind_ret, Prog.pure_eq_ret]
  iintro ⟨#HP, HR, Hg, ⟨%f, Ho⟩, ⟨%g, Hb⟩, Hv⟩
  iapply (whole_load (c := c) (Memref.whole cc0_stg0_0) _ (Memref.readAt_unit_zero (Elt F) cc0_stg0_0 zero1 _ (Gm m c))) $$ [Hg]
  · iexact Hg
  iintro Hg
  iapply (whole_load (c := c) (Memref.whole cc0_scratch2) _ rfl) $$ [Ho]
  · iexact Ho
  iintro Ho
  iapply (whole_store (c := c) (Memref.whole cc0_scratch2) _ (g := O m c) (Memref.write_access_unit_zero_univ (Elt F) cc0_scratch2 zero2 _ f (O m c))) $$ [Ho]
  · iexact Ho
  iintro Ho
  have hoff : k0_off6 c = ![(place c 0).val, 0, 0] := by clear f g; revert c; decide +kernel
  have hset := set_bufV (inb := k0_off6_inb c) (place c 0) hoff
  have hP : ∀ g, bufP (F := F) c (place c 0) fullShare g
      = ((bufV (k0_off6 c) (k0_off6_inb c)).view.loc (c : Thread nD τ) ↦[(bufV (k0_off6 c) (k0_off6_inb c)).view.set]{fullShare} g) := by
    intro g; unfold bufP; rw [hset]
  ihave Hb := (Entails.of_eq (hP g)) $$ Hb
  iapply (copy_op (c := c) (Memref.whole cc0_scratch2) (bufV (k0_off6 c) (k0_off6_inb c)) (sm := locS) rfl (n := N) rfl (by decide)
    (fs := O m c) (fd := g)) $$ [Ho Hb Hv]
  · isplitl [Ho]
    · rw [View.set_whole]; iexact Ho
    isplitl [Hb]; · iexact Hb
    iexact Hv
  iintro Hf
  unfold Rt
  icases HR with ⟨HFs, HFr, HO⟩
  iapply (await_op m K (c := c) (n₀ := 37) rfl (s := locS) rfl (by decide) (n := N) rfl) $$ [HO Hf]
  · isplitr; · iexact HP
    isplitl [HO]; · iexact HO
    iexact Hf
  iintro ⟨HO, Hv, Hb, Ho⟩
  iapply ret_intro
  isplitl [HFs HFr HO]
  · have hR : iprop(Fs (F := F) 38 c ∗ Fr 38 c ∗ Fo 38 c) = iprop(Fs 37 c ∗ Fr 37 c ∗ Fo 38 c) := by
      rw [Fs_stable (n := 37) (by decide) (by decide), Fr_stable (n := 37) (by decide)]
    iapply (Entails.of_eq hR.symm)
    isplitl [HFs]; · iexact HFs
    isplitl [HFr]; · iexact HFr
    iexact HO
  isplitl [Hg]; · iexact Hg
  isplitl [Ho]
  · iexists (O m c)
    rw [View.set_whole]; iexact Ho
  isplitl [Hb]
  · iapply (Entails.of_eq (hP (BUF m)).symm)
    iapply (Entails.of_eq (pointsTo_congr (g := BUF m) fun i hi => own_value m (inb := k0_off6_inb c) hoff g i (by rw [← hset]; exact hi)))
    iexact Hb
  iexact Hv

end Cert.IdealRun

end
-- ==== Proof.IdealRun.Gather.lean ====
/-
The gathering phase of the kernel's body, part by part.
-/
module

public import proofs.«01_k».proof.Proof.IdealRun.Buffers

@[expose] public section

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)
variable {c : Dev nD} {α : Type}

theorem part12 (v5 : BitVec 32) (v11 : BitVec 32) (v39 : BitVec 32) (v42 : BitVec 32) (v70 : BitVec 32) : St m K 38 c ⊢ wpc c (onBufs (k0_part12 (F := F)) c v5 v11 v39 v42 v70) (fun _ => St m K 40 c) := by
  unfold onBufs; rw [k0_part12_eq_skeleton]; unfold k0_part12_skel
  refine step_send m K 3 (by decide) rfl (by revert c; decide +kernel) (by revert c; decide +kernel) rfl rfl ?_
  refine step_send m K 6 (by decide) rfl (by revert c; decide +kernel) (by revert c; decide +kernel) rfl rfl ?_
  exact stay m K

theorem part13 (v2 : BitVec 32) (v5 : BitVec 32) (v8 : BitVec 32) (v11 : BitVec 32) (v73 : BitVec 32) (v408 : BitVec 32) (c4_i32_271 : BitVec 32) : St m K 40 c ⊢ wpc c (onBufs (k0_part13 (F := F)) c v2 v5 v8 v11 v73 v408 c4_i32_271) (fun _ => St m K 41 c) := by
  unfold onBufs; rw [k0_part13_eq_skeleton]; unfold k0_part13_skel
  refine step_send m K 22 (by decide) rfl (by revert c; decide +kernel) (by revert c; decide +kernel) rfl rfl ?_
  exact stay m K

theorem part14 (v2 : BitVec 32) (v5 : BitVec 32) (v8 : BitVec 32) (v11 : BitVec 32) (v70 : BitVec 32) (v84 : BitVec 32) : St m K 41 c ⊢ wpc c (onBufs (k0_part14 (F := F)) c v2 v5 v8 v11 v70 v84) (fun _ => St m K 43 c) := by
  unfold onBufs; rw [k0_part14_eq_skeleton]; unfold k0_part14_skel
  refine step_recv m K 3 (by decide) rfl rfl rfl ?_
  refine step_send m K 4 (by decide) rfl (by revert c; decide +kernel) (by revert c; decide +kernel) rfl rfl ?_
  exact stay m K

theorem part15 (v5 : BitVec 32) (v11 : BitVec 32) (v39 : BitVec 32) (v42 : BitVec 32) (v73 : BitVec 32) (v476 : BitVec 32) : St m K 43 c ⊢ wpc c (onBufs (k0_part15 (F := F)) c v5 v11 v39 v42 v73 v476) (fun _ => St m K 45 c) := by
  unfold onBufs; rw [k0_part15_eq_skeleton]; unfold k0_part15_skel
  refine step_send m K 10 (by decide) rfl (by revert c; decide +kernel) (by revert c; decide +kernel) rfl rfl ?_
  refine step_send m K 25 (by decide) rfl (by revert c; decide +kernel) (by revert c; decide +kernel) rfl rfl ?_
  exact stay m K

theorem part16 (v2 : BitVec 32) (v5 : BitVec 32) (v8 : BitVec 32) (v39 : BitVec 32) (v505 : BitVec 32) (v506 : BitVec 32) (v507 : BitVec 1) (v508 : BitVec 1) (v509 : BitVec 1) : St m K 45 c ⊢ wpc c (onBufs (k0_part16 (F := F)) c v2 v5 v8 v39 v505 v506 v507 v508 v509) (fun _ => St m K 46 c) := by
  unfold onBufs; rw [k0_part16_eq_skeleton]; unfold k0_part16_skel
  refine step_recv m K 6 (by decide) rfl rfl rfl ?_
  exact stay m K

theorem part17 (v5 : BitVec 32) (v11 : BitVec 32) (v42 : BitVec 32) (v541 : BitVec 32) : St m K 46 c ⊢ wpc c (onBufs (k0_part17 (F := F)) c v5 v11 v42 v541) (fun _ => St m K 47 c) := by
  unfold onBufs; rw [k0_part17_eq_skeleton]; unfold k0_part17_skel
  refine step_send m K 7 (by decide) rfl (by revert c; decide +kernel) (by revert c; decide +kernel) rfl rfl ?_
  exact stay m K

theorem part18 (v2 : BitVec 32) (v5 : BitVec 32) (v8 : BitVec 32) (v70 : BitVec 32) (v73 : BitVec 32) : St m K 47 c ⊢ wpc c (onBufs (k0_part18 (F := F)) c v2 v5 v8 v70 v73) (fun _ => St m K 49 c) := by
  unfold onBufs; rw [k0_part18_eq_skeleton]; unfold k0_part18_skel
  refine step_recv m K 22 (by decide) rfl rfl rfl ?_
  refine step_send m K 23 (by decide) rfl (by revert c; decide +kernel) (by revert c; decide +kernel) rfl rfl ?_
  exact stay m K

theorem part19 (v2 : BitVec 32) (v5 : BitVec 32) (v8 : BitVec 32) (v11 : BitVec 32) (v84 : BitVec 32) (v606 : BitVec 32) (c4_i32_421 : BitVec 32) (v607 : BitVec 1) (c1_i32_423 : BitVec 32) : St m K 49 c ⊢ wpc c (onBufs (k0_part19 (F := F)) c v2 v5 v8 v11 v84 v606 c4_i32_421 v607 c1_i32_423) (fun _ => St m K 50 c) := by
  unfold onBufs; rw [k0_part19_eq_skeleton]; unfold k0_part19_skel
  refine step_recv m K 4 (by decide) rfl rfl rfl ?_
  exact stay m K

theorem part20 (v5 : BitVec 32) (v11 : BitVec 32) (v39 : BitVec 32) (v42 : BitVec 32) (v70 : BitVec 32) : St m K 50 c ⊢ wpc c (onBufs (k0_part20 (F := F)) c v5 v11 v39 v42 v70) (fun _ => St m K 52 c) := by
  unfold onBufs; rw [k0_part20_eq_skeleton]; unfold k0_part20_skel
  refine step_send m K 5 (by decide) rfl (by revert c; decide +kernel) (by revert c; decide +kernel) rfl rfl ?_
  refine step_send m K 14 (by decide) rfl (by revert c; decide +kernel) (by revert c; decide +kernel) rfl rfl ?_
  exact stay m K

theorem part21 (v5 : BitVec 32) (v11 : BitVec 32) (v73 : BitVec 32) (v673 : BitVec 32) (c0_i32_474 : BitVec 32) : St m K 52 c ⊢ wpc c (onBufs (k0_part21 (F := F)) c v5 v11 v73 v673 c0_i32_474) (fun _ => St m K 53 c) := by
  unfold onBufs; rw [k0_part21_eq_skeleton]; unfold k0_part21_skel
  refine step_send m K 28 (by decide) rfl (by revert c; decide +kernel) (by revert c; decide +kernel) rfl rfl ?_
  exact stay m K

theorem part22 (v2 : BitVec 32) (v5 : BitVec 32) (v8 : BitVec 32) (v11 : BitVec 32) (v39 : BitVec 32) (v42 : BitVec 32) (v698 : BitVec 32) (v710 : BitVec 32) : St m K 53 c ⊢ wpc c (onBufs (k0_part22 (F := F)) c v2 v5 v8 v11 v39 v42 v698 v710) (fun _ => St m K 55 c) := by
  unfold onBufs; rw [k0_part22_eq_skeleton]; unfold k0_part22_skel
  refine step_recv m K 7 (by decide) rfl rfl rfl ?_
  refine step_send m K 8 (by decide) rfl (by revert c; decide +kernel) (by revert c; decide +kernel) rfl rfl ?_
  exact stay m K

theorem part23 (v2 : BitVec 32) (v5 : BitVec 32) (v8 : BitVec 32) (v738 : BitVec 32) (v740 : BitVec 32) : St m K 55 c ⊢ wpc c (onBufs (k0_part23 (F := F)) c v2 v5 v8 v738 v740) (fun _ => St m K 56 c) := by
  unfold onBufs; rw [k0_part23_eq_skeleton]; unfold k0_part23_skel
  refine step_recv m K 23 (by decide) rfl rfl rfl ?_
  exact stay m K

theorem part24 (v5 : BitVec 32) (v11 : BitVec 32) (v70 : BitVec 32) (v73 : BitVec 32) : St m K 56 c ⊢ wpc c (onBufs (k0_part24 (F := F)) c v5 v11 v70 v73) (fun _ => St m K 57 c) := by
  unfold onBufs; rw [k0_part24_eq_skeleton]; unfold k0_part24_skel
  refine step_send m K 24 (by decide) rfl (by revert c; decide +kernel) (by revert c; decide +kernel) rfl rfl ?_
  exact stay m K

theorem part25 (v2 : BitVec 32) (v5 : BitVec 32) (v8 : BitVec 32) (v70 : BitVec 32) (v73 : BitVec 32) (v800 : BitVec 32) (v804 : BitVec 32) (v805 : BitVec 32) (v806 : BitVec 1) (v807 : BitVec 1) : St m K 57 c ⊢ wpc c (onBufs (k0_part25 (F := F)) c v2 v5 v8 v70 v73 v800 v804 v805 v806 v807) (fun _ => St m K 59 c) := by
  unfold onBufs; rw [k0_part25_eq_skeleton]; unfold k0_part25_skel
  refine step_recv m K 10 (by decide) rfl rfl rfl ?_
  refine step_send m K 11 (by decide) rfl (by revert c; decide +kernel) (by revert c; decide +kernel) rfl rfl ?_
  exact stay m K

theorem part26 (v2 : BitVec 32) (v5 : BitVec 32) (v8 : BitVec 32) (v11 : BitVec 32) (c1_i32_601 : BitVec 32) : St m K 59 c ⊢ wpc c (onBufs (k0_part26 (F := F)) c v2 v5 v8 v11 c1_i32_601) (fun _ => St m K 59 c) := by
  unfold onBufs; rw [k0_part26_eq_skeleton]; unfold k0_part26_skel
  exact stay m K

theorem part27 (v2 : BitVec 32) (v5 : BitVec 32) (v11 : BitVec 32) (v39 : BitVec 32) (v42 : BitVec 32) : St m K 59 c ⊢ wpc c (onBufs (k0_part27 (F := F)) c v2 v5 v11 v39 v42) (fun _ => St m K 61 c) := by
  unfold onBufs; rw [k0_part27_eq_skeleton]; unfold k0_part27_skel
  refine step_recv m K 25 (by decide) rfl rfl rfl ?_
  refine step_send m K 26 (by decide) rfl (by revert c; decide +kernel) (by revert c; decide +kernel) rfl rfl ?_
  exact stay m K

theorem part28 (v5 : BitVec 32) (v8 : BitVec 32) (v11 : BitVec 32) (v70 : BitVec 32) (v73 : BitVec 32) (v905 : BitVec 32) (c0_i32_652 : BitVec 32) : St m K 61 c ⊢ wpc c (onBufs (k0_part28 (F := F)) c v5 v8 v11 v70 v73 v905 c0_i32_652) (fun _ => St m K 62 c) := by
  unfold onBufs; rw [k0_part28_eq_skeleton]; unfold k0_part28_skel
  refine step_recv m K 5 (by decide) rfl rfl rfl ?_
  exact stay m K

theorem part29 (v5 : BitVec 32) (v11 : BitVec 32) (v39 : BitVec 32) (v42 : BitVec 32) : St m K 62 c ⊢ wpc c (onBufs (k0_part29 (F := F)) c v5 v11 v39 v42) (fun _ => St m K 64 c) := by
  unfold onBufs; rw [k0_part29_eq_skeleton]; unfold k0_part29_skel
  refine step_send m K 18 (by decide) rfl (by revert c; decide +kernel) (by revert c; decide +kernel) rfl rfl ?_
  refine step_send m K 31 (by decide) rfl (by revert c; decide +kernel) (by revert c; decide +kernel) rfl rfl ?_
  exact stay m K

theorem part30 (v2 : BitVec 32) (v5 : BitVec 32) (v8 : BitVec 32) (v39 : BitVec 32) (v42 : BitVec 32) (v970 : BitVec 32) (v972 : BitVec 32) (c4_i32_702 : BitVec 32) : St m K 64 c ⊢ wpc c (onBufs (k0_part30 (F := F)) c v2 v5 v8 v39 v42 v970 v972 c4_i32_702) (fun _ => St m K 65 c) := by
  unfold onBufs; rw [k0_part30_eq_skeleton]; unfold k0_part30_skel
  refine step_recv m K 8 (by decide) rfl rfl rfl ?_
  exact stay m K

theorem part31 (v2 : BitVec 32) (v5 : BitVec 32) (v11 : BitVec 32) : St m K 65 c ⊢ wpc c (onBufs (k0_part31 (F := F)) c v2 v5 v11) (fun _ => St m K 66 c) := by
  unfold onBufs; rw [k0_part31_eq_skeleton]; unfold k0_part31_skel
  refine step_send m K 9 (by decide) rfl (by revert c; decide +kernel) (by revert c; decide +kernel) rfl rfl ?_
  exact stay m K

theorem part32 (v5 : BitVec 32) (v8 : BitVec 32) (v11 : BitVec 32) (v1038 : BitVec 32) : St m K 66 c ⊢ wpc c (onBufs (k0_part32 (F := F)) c v5 v8 v11 v1038) (fun _ => St m K 67 c) := by
  unfold onBufs; rw [k0_part32_eq_skeleton]; unfold k0_part32_skel
  refine step_recv m K 24 (by decide) rfl rfl rfl ?_
  exact stay m K

theorem part33 (v2 : BitVec 32) (v5 : BitVec 32) (v8 : BitVec 32) (v11 : BitVec 32) (v70 : BitVec 32) (v73 : BitVec 32) (c16_i32_780 : BitVec 32) : St m K 67 c ⊢ wpc c (onBufs (k0_part33 (F := F)) c v2 v5 v8 v11 v70 v73 c16_i32_780) (fun _ => St m K 69 c) := by
  unfold onBufs; rw [k0_part33_eq_skeleton]; unfold k0_part33_skel
  refine step_recv m K 11 (by decide) rfl rfl rfl ?_
  refine step_send m K 12 (by decide) rfl (by revert c; decide +kernel) (by revert c; decide +kernel) rfl rfl ?_
  exact stay m K

theorem part34 (v2 : BitVec 32) (v5 : BitVec 32) (v8 : BitVec 32) (v39 : BitVec 32) (v1100 : BitVec 32) (v1101 : BitVec 32) (v1102 : BitVec 1) (v1103 : BitVec 1) (c0_i32_806 : BitVec 32) : St m K 69 c ⊢ wpc c (onBufs (k0_part34 (F := F)) c v2 v5 v8 v39 v1100 v1101 v1102 v1103 c0_i32_806) (fun _ => St m K 70 c) := by
  unfold onBufs; rw [k0_part34_eq_skeleton]; unfold k0_part34_skel
  refine step_recv m K 26 (by decide) rfl rfl rfl ?_
  exact stay m K

theorem part35 (v5 : BitVec 32) (v11 : BitVec 32) (v42 : BitVec 32) (v1135 : BitVec 32) (c0_i32_833 : BitVec 32) : St m K 70 c ⊢ wpc c (onBufs (k0_part35 (F := F)) c v5 v11 v42 v1135 c0_i32_833) (fun _ => St m K 71 c) := by
  unfold onBufs; rw [k0_part35_eq_skeleton]; unfold k0_part35_skel
  refine step_send m K 27 (by decide) rfl (by revert c; decide +kernel) (by revert c; decide +kernel) rfl rfl ?_
  exact stay m K

theorem part36 (v2 : BitVec 32) (v5 : BitVec 32) (v8 : BitVec 32) (v11 : BitVec 32) (v39 : BitVec 32) (v42 : BitVec 32) (v1160 : BitVec 32) (v1172 : BitVec 32) : St m K 71 c ⊢ wpc c (onBufs (k0_part36 (F := F)) c v2 v5 v8 v11 v39 v42 v1160 v1172) (fun _ => St m K 73 c) := by
  unfold onBufs; rw [k0_part36_eq_skeleton]; unfold k0_part36_skel
  refine step_recv m K 14 (by decide) rfl rfl rfl ?_
  refine step_send m K 15 (by decide) rfl (by revert c; decide +kernel) (by revert c; decide +kernel) rfl rfl ?_
  exact stay m K

theorem part37 (v2 : BitVec 32) (v5 : BitVec 32) (v8 : BitVec 32) (v1200 : BitVec 32) (v1202 : BitVec 32) : St m K 73 c ⊢ wpc c (onBufs (k0_part37 (F := F)) c v2 v5 v8 v1200 v1202) (fun _ => St m K 74 c) := by
  unfold onBufs; rw [k0_part37_eq_skeleton]; unfold k0_part37_skel
  refine step_recv m K 28 (by decide) rfl rfl rfl ?_
  exact stay m K

theorem part38 (v5 : BitVec 32) (v11 : BitVec 32) (v70 : BitVec 32) (v73 : BitVec 32) : St m K 74 c ⊢ wpc c (onBufs (k0_part38 (F := F)) c v5 v11 v70 v73) (fun _ => St m K 79 c) := by
  unfold onBufs; rw [k0_part38_eq_skeleton]; unfold k0_part38_skel
  refine step_send m K 29 (by decide) rfl (by revert c; decide +kernel) (by revert c; decide +kernel) rfl rfl ?_
  refine step_load m K 0 rfl (by revert c; decide +kernel) ?_
  refine step_dead m K 0 rfl rfl fun _ => ?_
  refine step_store m K 0 rfl rfl rfl ?_
  refine step_out m K 0 rfl (by revert c; decide +kernel) rfl rfl ?_
  exact stay m K

theorem part39 (v5 : BitVec 32) (v11 : BitVec 32) (v1267 : BitVec 32) : St m K 79 c ⊢ wpc c (onBufs (k0_part39 (F := F)) c v5 v11 v1267) (fun _ => St m K 83 c) := by
  unfold onBufs; rw [k0_part39_eq_skeleton]; unfold k0_part39_skel
  refine step_load m K 1 rfl (by revert c; decide +kernel) ?_
  refine step_dead m K 1 rfl rfl fun _ => ?_
  refine step_store m K 1 rfl rfl rfl ?_
  refine step_out m K 1 rfl (by revert c; decide +kernel) rfl rfl ?_
  exact stay m K

theorem part40 (v2 : BitVec 32) (v5 : BitVec 32) (v8 : BitVec 32) (v11 : BitVec 32) (v1294 : BitVec 32) (v1298 : BitVec 32) (v1299 : BitVec 32) : St m K 83 c ⊢ wpc c (onBufs (k0_part40 (F := F)) c v2 v5 v8 v11 v1294 v1298 v1299) (fun _ => St m K 84 c) := by
  unfold onBufs; rw [k0_part40_eq_skeleton]; unfold k0_part40_skel
  refine step_recv m K 9 (by decide) rfl rfl rfl ?_
  exact stay m K

theorem part41 (v2 : BitVec 32) (v5 : BitVec 32) (v8 : BitVec 32) (v70 : BitVec 32) (v73 : BitVec 32) (v1331 : BitVec 32) (v1333 : BitVec 32) : St m K 84 c ⊢ wpc c (onBufs (k0_part41 (F := F)) c v2 v5 v8 v70 v73 v1331 v1333) (fun _ => St m K 85 c) := by
  unfold onBufs; rw [k0_part41_eq_skeleton]; unfold k0_part41_skel
  refine step_recv m K 12 (by decide) rfl rfl rfl ?_
  exact stay m K

theorem part42 (v2 : BitVec 32) (v5 : BitVec 32) (v11 : BitVec 32) : St m K 85 c ⊢ wpc c (onBufs (k0_part42 (F := F)) c v2 v5 v11) (fun _ => St m K 86 c) := by
  unfold onBufs; rw [k0_part42_eq_skeleton]; unfold k0_part42_skel
  refine step_send m K 13 (by decide) rfl (by revert c; decide +kernel) (by revert c; decide +kernel) rfl rfl ?_
  exact stay m K

theorem part43 (v5 : BitVec 32) (v8 : BitVec 32) (v11 : BitVec 32) (v1397 : BitVec 32) (v1398 : BitVec 32) : St m K 86 c ⊢ wpc c (onBufs (k0_part43 (F := F)) c v5 v8 v11 v1397 v1398) (fun _ => St m K 87 c) := by
  unfold onBufs; rw [k0_part43_eq_skeleton]; unfold k0_part43_skel
  refine step_recv m K 27 (by decide) rfl rfl rfl ?_
  exact stay m K

theorem part44 (v2 : BitVec 32) (v5 : BitVec 32) (v8 : BitVec 32) (v11 : BitVec 32) (v39 : BitVec 32) (v42 : BitVec 32) : St m K 87 c ⊢ wpc c (onBufs (k0_part44 (F := F)) c v2 v5 v8 v11 v39 v42) (fun _ => St m K 89 c) := by
  unfold onBufs; rw [k0_part44_eq_skeleton]; unfold k0_part44_skel
  refine step_recv m K 15 (by decide) rfl rfl rfl ?_
  refine step_send m K 16 (by decide) rfl (by revert c; decide +kernel) (by revert c; decide +kernel) rfl rfl ?_
  exact stay m K

theorem part45 (v2 : BitVec 32) (v5 : BitVec 32) (v8 : BitVec 32) (v70 : BitVec 32) (v1461 : BitVec 32) (v1462 : BitVec 32) (v1463 : BitVec 1) (v1464 : BitVec 1) : St m K 89 c ⊢ wpc c (onBufs (k0_part45 (F := F)) c v2 v5 v8 v70 v1461 v1462 v1463 v1464) (fun _ => St m K 90 c) := by
  unfold onBufs; rw [k0_part45_eq_skeleton]; unfold k0_part45_skel
  refine step_recv m K 29 (by decide) rfl rfl rfl ?_
  exact stay m K

theorem part46 (v5 : BitVec 32) (v11 : BitVec 32) (v73 : BitVec 32) (v1496 : BitVec 32) : St m K 90 c ⊢ wpc c (onBufs (k0_part46 (F := F)) c v5 v11 v73 v1496) (fun _ => St m K 91 c) := by
  unfold onBufs; rw [k0_part46_eq_skeleton]; unfold k0_part46_skel
  refine step_send m K 30 (by decide) rfl (by revert c; decide +kernel) (by revert c; decide +kernel) rfl rfl ?_
  exact stay m K

theorem part47 (v2 : BitVec 32) (v5 : BitVec 32) (v8 : BitVec 32) (v11 : BitVec 32) (v70 : BitVec 32) (v73 : BitVec 32) (v1521 : BitVec 32) (v1526 : BitVec 32) (v1531 : BitVec 1) (v1532 : BitVec 32) : St m K 91 c ⊢ wpc c (onBufs (k0_part47 (F := F)) c v2 v5 v8 v11 v70 v73 v1521 v1526 v1531 v1532) (fun _ => St m K 93 c) := by
  unfold onBufs; rw [k0_part47_eq_skeleton]; unfold k0_part47_skel
  refine step_recv m K 18 (by decide) rfl rfl rfl ?_
  refine step_send m K 19 (by decide) rfl (by revert c; decide +kernel) (by revert c; decide +kernel) rfl rfl ?_
  exact stay m K

theorem part48 (v2 : BitVec 32) (v5 : BitVec 32) (v8 : BitVec 32) (v1561 : BitVec 32) (c8_i32_1164 : BitVec 32) (v1562 : BitVec 1) (c1_i32_1166 : BitVec 32) : St m K 93 c ⊢ wpc c (onBufs (k0_part48 (F := F)) c v2 v5 v8 v1561 c8_i32_1164 v1562 c1_i32_1166) (fun _ => St m K 94 c) := by
  unfold onBufs; rw [k0_part48_eq_skeleton]; unfold k0_part48_skel
  refine step_recv m K 31 (by decide) rfl rfl rfl ?_
  exact stay m K

theorem part49 (v5 : BitVec 32) (v11 : BitVec 32) (v39 : BitVec 32) (v42 : BitVec 32) : St m K 94 c ⊢ wpc c (onBufs (k0_part49 (F := F)) c v5 v11 v39 v42) (fun _ => St m K 96 c) := by
  unfold onBufs; rw [k0_part49_eq_skeleton]; unfold k0_part49_skel
  refine step_send m K 32 (by decide) rfl (by revert c; decide +kernel) (by revert c; decide +kernel) rfl rfl ?_
  refine step_back m K 0 rfl rfl rfl ?_
  exact stay m K

theorem part50 (v1622 : BitVec 32) : St m K 96 c ⊢ wpc c (onBufs (k0_part50 (F := F)) c v1622) (fun _ => St m K 104 c) := by
  unfold onBufs; rw [k0_part50_eq_skeleton]; unfold k0_part50_skel
  refine step_load m K 2 rfl (by revert c; decide +kernel) ?_
  refine step_dead m K 2 rfl rfl fun _ => ?_
  refine step_store m K 2 rfl rfl rfl ?_
  refine step_out m K 2 rfl (by revert c; decide +kernel) rfl rfl ?_
  refine step_back m K 1 rfl rfl rfl ?_
  refine step_load m K 3 rfl (by revert c; decide +kernel) ?_
  refine step_dead m K 3 rfl rfl fun _ => ?_
  refine step_store m K 3 rfl rfl rfl ?_
  exact stay m K

theorem part51 (v11 : BitVec 32) : St m K 104 c ⊢ wpc c (onBufs (k0_part51 (F := F)) c v11) (fun r => iprop(⌜r.2 = CV m c 4⌝ ∗ St m K 108 c)) := by
  unfold onBufs; rw [k0_part51_eq_skeleton]; unfold k0_part51_skel
  refine step_out m K 3 rfl (by revert c; decide +kernel) rfl rfl ?_
  refine step_back m K 2 rfl rfl rfl ?_
  refine step_load m K 4 rfl (by revert c; decide +kernel) ?_
  refine step_dead m K 4 rfl rfl fun _ => ?_
  exact stay_with m K rfl

theorem part52 (v11 : BitVec 32) (v1675 : BitVec 32) (v1691 : FVec F S1x256x4096 .f32) (hv : v1691 = CV m c 4) : St m K 108 c ⊢ wpc c (onBufs (k0_part52 (F := F)) c v11 v1675 v1691) (fun _ => St m K 115 c) := by
  unfold onBufs; rw [k0_part52_eq_skeleton]; unfold k0_part52_skel
  refine step_store m K 4 rfl rfl hv ?_
  refine step_out m K 4 rfl (by clear hv; revert c; decide +kernel) rfl rfl ?_
  refine step_back m K 3 rfl rfl rfl ?_
  refine step_load m K 5 rfl (by clear hv; revert c; decide +kernel) ?_
  refine step_dead m K 5 rfl rfl fun _ => ?_
  refine step_store m K 5 rfl rfl rfl ?_
  refine step_out m K 5 rfl (by clear hv; revert c; decide +kernel) rfl rfl ?_
  exact stay m K

theorem part53 (v2 : BitVec 32) (v5 : BitVec 32) (v8 : BitVec 32) (v1718 : BitVec 32) (c8_i32_1294 : BitVec 32) (v1719 : BitVec 1) : St m K 115 c ⊢ wpc c (onBufs (k0_part53 (F := F)) c v2 v5 v8 v1718 c8_i32_1294 v1719) (fun _ => St m K 115 c) := by
  unfold onBufs; rw [k0_part53_eq_skeleton]; unfold k0_part53_skel
  exact stay m K

theorem part54 (v2 : BitVec 32) (v5 : BitVec 32) (v8 : BitVec 32) (v11 : BitVec 32) : St m K 115 c ⊢ wpc c (onBufs (k0_part54 (F := F)) c v2 v5 v8 v11) (fun _ => St m K 116 c) := by
  unfold onBufs; rw [k0_part54_eq_skeleton]; unfold k0_part54_skel
  refine step_recv m K 13 (by decide) rfl rfl rfl ?_
  exact stay m K

theorem part55 (v5 : BitVec 32) (v11 : BitVec 32) (v39 : BitVec 32) (v42 : BitVec 32) : St m K 116 c ⊢ wpc c (onBufs (k0_part55 (F := F)) c v5 v11 v39 v42) (fun _ => St m K 118 c) := by
  unfold onBufs; rw [k0_part55_eq_skeleton]; unfold k0_part55_skel
  refine step_recv m K 16 (by decide) rfl rfl rfl ?_
  refine step_send m K 17 (by decide) rfl (by revert c; decide +kernel) (by revert c; decide +kernel) rfl rfl ?_
  exact stay m K

theorem part56 (v2 : BitVec 32) (v5 : BitVec 32) (v8 : BitVec 32) (v11 : BitVec 32) (v1817 : BitVec 32) (v1819 : BitVec 32) (c4_i32_1371 : BitVec 32) (c0_i32_1372 : BitVec 32) : St m K 118 c ⊢ wpc c (onBufs (k0_part56 (F := F)) c v2 v5 v8 v11 v1817 v1819 c4_i32_1371 c0_i32_1372) (fun _ => St m K 119 c) := by
  unfold onBufs; rw [k0_part56_eq_skeleton]; unfold k0_part56_skel
  refine step_recv m K 30 (by decide) rfl rfl rfl ?_
  exact stay m K

theorem part57 (v2 : BitVec 32) (v5 : BitVec 32) (v8 : BitVec 32) (v70 : BitVec 32) (v73 : BitVec 32) (v1854 : BitVec 32) : St m K 119 c ⊢ wpc c (onBufs (k0_part57 (F := F)) c v2 v5 v8 v70 v73 v1854) (fun _ => St m K 120 c) := by
  unfold onBufs; rw [k0_part57_eq_skeleton]; unfold k0_part57_skel
  refine step_recv m K 19 (by decide) rfl rfl rfl ?_
  exact stay m K

theorem part58 (v2 : BitVec 32) (v5 : BitVec 32) (v11 : BitVec 32) : St m K 120 c ⊢ wpc c (onBufs (k0_part58 (F := F)) c v2 v5 v11) (fun _ => St m K 121 c) := by
  unfold onBufs; rw [k0_part58_eq_skeleton]; unfold k0_part58_skel
  refine step_send m K 20 (by decide) rfl (by revert c; decide +kernel) (by revert c; decide +kernel) rfl rfl ?_
  exact stay m K

theorem part59 (v5 : BitVec 32) (v8 : BitVec 32) (v11 : BitVec 32) (v39 : BitVec 32) (v42 : BitVec 32) (v1919 : BitVec 32) : St m K 121 c ⊢ wpc c (onBufs (k0_part59 (F := F)) c v5 v8 v11 v39 v42 v1919) (fun _ => St m K 123 c) := by
  unfold onBufs; rw [k0_part59_eq_skeleton]; unfold k0_part59_skel
  refine step_recv m K 32 (by decide) rfl rfl rfl ?_
  refine step_send m K 33 (by decide) rfl (by revert c; decide +kernel) (by revert c; decide +kernel) rfl rfl ?_
  exact stay m K

theorem part60 (v1947 : BitVec 32) (v1948 : BitVec 32) (v1949 : BitVec 1) (v1950 : BitVec 1) (v1951 : BitVec 1) : St m K 123 c ⊢ wpc c (onBufs (k0_part60 (F := F)) c v1947 v1948 v1949 v1950 v1951) (fun _ => St m K 129 c) := by
  unfold onBufs; rw [k0_part60_eq_skeleton]; unfold k0_part60_skel
  refine step_back m K 4 rfl rfl rfl ?_
  refine step_load m K 6 rfl (by revert c; decide +kernel) ?_
  refine step_dead m K 6 rfl rfl fun _ => ?_
  refine step_store m K 6 rfl rfl rfl ?_
  refine step_out m K 6 rfl (by revert c; decide +kernel) rfl rfl ?_
  refine step_back m K 5 rfl rfl rfl ?_
  exact stay m K

theorem part61 (v11 : BitVec 32) (v1955 : BitVec 32) (v1982 : BitVec 32) : St m K 129 c ⊢ wpc c (onBufs (k0_part61 (F := F)) c v11 v1955 v1982) (fun _ => St m K 134 c) := by
  unfold onBufs; rw [k0_part61_eq_skeleton]; unfold k0_part61_skel
  refine step_load m K 7 rfl (by revert c; decide +kernel) ?_
  refine step_dead m K 7 rfl rfl fun _ => ?_
  refine step_store m K 7 rfl rfl rfl ?_
  refine step_out m K 7 rfl (by revert c; decide +kernel) rfl rfl ?_
  refine step_back m K 6 rfl rfl rfl ?_
  exact stay m K

theorem part62 (v2008 : BitVec 32) (c512_i32_1526 : BitVec 32) : St m K 134 c ⊢ wpc c (onBufs (k0_part62 (F := F)) c v2008 c512_i32_1526) (fun r => iprop(⌜k0_pay20 r.1 = CV m c 9⌝ ∗ St m K 141 c)) := by
  unfold onBufs; rw [k0_part62_eq_skeleton]; unfold k0_part62_skel
  refine step_load m K 8 rfl (by revert c; decide +kernel) ?_
  refine step_dead m K 8 rfl rfl fun _ => ?_
  refine step_store m K 8 rfl rfl rfl ?_
  refine step_out m K 8 rfl (by revert c; decide +kernel) rfl rfl ?_
  refine step_back m K 7 rfl rfl rfl ?_
  refine step_load m K 9 rfl (by revert c; decide +kernel) ?_
  refine step_dead m K 9 rfl rfl fun _ => ?_
  exact stay_with m K rfl

theorem part63 (v5 : BitVec 32) (v11 : BitVec 32) (v2042 : FVec F S256x4096 .f32) (v2043 : Vec F S1x256x4096 .f32) (hv : k0_pay20 v2042 = CV m c 9) : St m K 141 c ⊢ wpc c (onBufs (k0_part63 (F := F)) c v5 v11 v2042 v2043) (fun _ => St m K 143 c) := by
  unfold onBufs; rw [k0_part63_eq_skeleton]; unfold k0_part63_skel
  refine step_store m K 9 rfl rfl hv ?_
  refine step_out m K 9 rfl (by clear hv; revert c; decide +kernel) rfl rfl ?_
  exact stay m K

theorem part64 (v2 : BitVec 32) (v5 : BitVec 32) (v8 : BitVec 32) (v11 : BitVec 32) (c16_i32_1579 : BitVec 32) : St m K 143 c ⊢ wpc c (onBufs (k0_part64 (F := F)) c v2 v5 v8 v11 c16_i32_1579) (fun _ => St m K 144 c) := by
  unfold onBufs; rw [k0_part64_eq_skeleton]; unfold k0_part64_skel
  refine step_recv m K 17 (by decide) rfl rfl rfl ?_
  exact stay m K

theorem part65 (v2 : BitVec 32) (v5 : BitVec 32) (v8 : BitVec 32) (v11 : BitVec 32) (v70 : BitVec 32) (v73 : BitVec 32) (v2099 : BitVec 32) (v2111 : BitVec 32) : St m K 144 c ⊢ wpc c (onBufs (k0_part65 (F := F)) c v2 v5 v8 v11 v70 v73 v2099 v2111) (fun _ => St m K 146 c) := by
  unfold onBufs; rw [k0_part65_eq_skeleton]; unfold k0_part65_skel
  refine step_recv m K 20 (by decide) rfl rfl rfl ?_
  refine step_send m K 21 (by decide) rfl (by revert c; decide +kernel) (by revert c; decide +kernel) rfl rfl ?_
  exact stay m K

theorem part66 (v2 : BitVec 32) (v5 : BitVec 32) (v8 : BitVec 32) (v2139 : BitVec 32) (v2141 : BitVec 32) : St m K 146 c ⊢ wpc c (onBufs (k0_part66 (F := F)) c v2 v5 v8 v2139 v2141) (fun _ => St m K 147 c) := by
  unfold onBufs; rw [k0_part66_eq_skeleton]; unfold k0_part66_skel
  refine step_recv m K 33 (by decide) rfl rfl rfl ?_
  exact stay m K

theorem part67 (v11 : BitVec 32) (c3_i32_1655 : BitVec 32) : St m K 147 c ⊢ wpc c (onBufs (k0_part67 (F := F)) c v11 c3_i32_1655) (fun _ => St m K 152 c) := by
  unfold onBufs; rw [k0_part67_eq_skeleton]; unfold k0_part67_skel
  refine step_back m K 8 rfl rfl rfl ?_
  refine step_load m K 10 rfl (by revert c; decide +kernel) ?_
  refine step_dead m K 10 rfl rfl fun _ => ?_
  refine step_store m K 10 rfl rfl rfl ?_
  refine step_out m K 10 rfl (by revert c; decide +kernel) rfl rfl ?_
  exact stay m K

theorem part68 (v11 : BitVec 32) (v2186 : BitVec 32) : St m K 152 c ⊢ wpc c (onBufs (k0_part68 (F := F)) c v11 v2186) (fun _ => St m K 157 c) := by
  unfold onBufs; rw [k0_part68_eq_skeleton]; unfold k0_part68_skel
  refine step_back m K 9 rfl rfl rfl ?_
  refine step_load m K 11 rfl (by revert c; decide +kernel) ?_
  refine step_dead m K 11 rfl rfl fun _ => ?_
  refine step_store m K 11 rfl rfl rfl ?_
  refine step_out m K 11 rfl (by revert c; decide +kernel) rfl rfl ?_
  exact stay m K

theorem part69 (v2232 : BitVec 32) (v2237 : BitVec 1) (v2238 : BitVec 32) : St m K 157 c ⊢ wpc c (onBufs (k0_part69 (F := F)) c v2232 v2237 v2238) (fun _ => St m K 163 c) := by
  unfold onBufs; rw [k0_part69_eq_skeleton]; unfold k0_part69_skel
  refine step_back m K 10 rfl rfl rfl ?_
  refine step_load m K 12 rfl (by revert c; decide +kernel) ?_
  refine step_dead m K 12 rfl rfl fun _ => ?_
  refine step_store m K 12 rfl rfl rfl ?_
  refine step_out m K 12 rfl (by revert c; decide +kernel) rfl rfl ?_
  refine step_back m K 11 rfl rfl rfl ?_
  exact stay m K

theorem part70 (v5 : BitVec 32) (v11 : BitVec 32) (v2239 : BitVec 32) (c4_i32_1733 : BitVec 32) : St m K 163 c ⊢ wpc c (onBufs (k0_part70 (F := F)) c v5 v11 v2239 c4_i32_1733) (fun _ => St m K 167 c) := by
  unfold onBufs; rw [k0_part70_eq_skeleton]; unfold k0_part70_skel
  refine step_load m K 13 rfl (by revert c; decide +kernel) ?_
  refine step_dead m K 13 rfl rfl fun _ => ?_
  refine step_store m K 13 rfl rfl rfl ?_
  refine step_out m K 13 rfl (by revert c; decide +kernel) rfl rfl ?_
  exact stay m K

theorem part71 (v2 : BitVec 32) (v5 : BitVec 32) (v8 : BitVec 32) (v11 : BitVec 32) (v2293 : BitVec 32) (v2297 : BitVec 32) (v2298 : BitVec 32) (v2299 : BitVec 1) (c0_i32_1759 : BitVec 32) : St m K 167 c ⊢ wpc c (onBufs (k0_part71 (F := F)) c v2 v5 v8 v11 v2293 v2297 v2298 v2299 c0_i32_1759) (fun _ => St m K 168 c) := by
  unfold onBufs; rw [k0_part71_eq_skeleton]; unfold k0_part71_skel
  refine step_recv m K 21 (by decide) rfl rfl rfl ?_
  exact stay m K

theorem part72 (v2329 : BitVec 32) : St m K 168 c ⊢ wpc c (onBufs (k0_part72 (F := F)) c v2329) (fun r => iprop(⌜k0_pay27 r = CV m c 15⌝ ∗ St m K 175 c)) := by
  unfold onBufs; rw [k0_part72_eq_skeleton]; unfold k0_part72_skel
  refine step_back m K 12 rfl rfl rfl ?_
  refine step_load m K 14 rfl (by revert c; decide +kernel) ?_
  refine step_dead m K 14 rfl rfl fun _ => ?_
  refine step_store m K 14 rfl rfl rfl ?_
  refine step_out m K 14 rfl (by revert c; decide +kernel) rfl rfl ?_
  refine step_back m K 13 rfl rfl rfl ?_
  refine step_load m K 15 rfl (by revert c; decide +kernel) ?_
  exact stay_with m K rfl

theorem part73 (v2363 : FVec F S256x4096 .f32) (hv : k0_pay27 v2363 = CV m c 15) : St m K 175 c ⊢ wpc c (onBufs (k0_part73 (F := F)) c v2363) (fun _ => St m K 181 c) := by
  unfold onBufs; rw [k0_part73_eq_skeleton]; unfold k0_part73_skel
  refine step_dead m K 15 rfl rfl fun _ => ?_
  refine step_store m K 15 rfl rfl hv ?_
  refine step_out m K 15 rfl (by clear hv; revert c; decide +kernel) rfl rfl ?_
  refine step_back m K 14 rfl rfl rfl ?_
  refine step_back m K 15 rfl rfl rfl ?_
  refine step_done m K 0 rfl rfl rfl ?_
  exact stay m K

theorem part74 : St m K 181 c ⊢ wpc c (onBufs (k0_part74 (F := F)) c) (fun _ => St m K 185 c) := by
  unfold onBufs; rw [k0_part74_eq_skeleton]; unfold k0_part74_skel
  refine step_done m K 1 rfl rfl rfl ?_
  refine step_done m K 2 rfl rfl rfl ?_
  refine step_done m K 3 rfl rfl rfl ?_
  refine step_done m K 6 rfl rfl rfl ?_
  exact stay m K

theorem part75 : St m K 185 c ⊢ wpc c (onBufs (k0_part75 (F := F)) c) (fun _ => St m K 189 c) := by
  unfold onBufs; rw [k0_part75_eq_skeleton]; unfold k0_part75_skel
  refine step_done m K 22 rfl rfl rfl ?_
  refine step_done m K 4 rfl rfl rfl ?_
  refine step_done m K 10 rfl rfl rfl ?_
  refine step_done m K 25 rfl rfl rfl ?_
  exact stay m K

theorem part76 : St m K 189 c ⊢ wpc c (onBufs (k0_part76 (F := F)) c) (fun _ => St m K 193 c) := by
  unfold onBufs; rw [k0_part76_eq_skeleton]; unfold k0_part76_skel
  refine step_done m K 7 rfl rfl rfl ?_
  refine step_done m K 23 rfl rfl rfl ?_
  refine step_done m K 5 rfl rfl rfl ?_
  refine step_done m K 14 rfl rfl rfl ?_
  exact stay m K

theorem part77 : St m K 193 c ⊢ wpc c (onBufs (k0_part77 (F := F)) c) (fun _ => St m K 197 c) := by
  unfold onBufs; rw [k0_part77_eq_skeleton]; unfold k0_part77_skel
  refine step_done m K 28 rfl rfl rfl ?_
  refine step_done m K 8 rfl rfl rfl ?_
  refine step_done m K 24 rfl rfl rfl ?_
  refine step_done m K 11 rfl rfl rfl ?_
  exact stay m K

theorem part78 : St m K 197 c ⊢ wpc c (onBufs (k0_part78 (F := F)) c) (fun _ => St m K 201 c) := by
  unfold onBufs; rw [k0_part78_eq_skeleton]; unfold k0_part78_skel
  refine step_done m K 26 rfl rfl rfl ?_
  refine step_done m K 18 rfl rfl rfl ?_
  refine step_done m K 31 rfl rfl rfl ?_
  refine step_done m K 9 rfl rfl rfl ?_
  exact stay m K

theorem part79 : St m K 201 c ⊢ wpc c (onBufs (k0_part79 (F := F)) c) (fun _ => St m K 204 c) := by
  unfold onBufs; rw [k0_part79_eq_skeleton]; unfold k0_part79_skel
  refine step_done m K 12 rfl rfl rfl ?_
  refine step_done m K 27 rfl rfl rfl ?_
  refine step_done m K 15 rfl rfl rfl ?_
  exact stay m K

theorem part80 : St m K 204 c ⊢ wpc c (onBufs (k0_part80 (F := F)) c) (fun _ => St m K 208 c) := by
  unfold onBufs; rw [k0_part80_eq_skeleton]; unfold k0_part80_skel
  refine step_done m K 29 rfl rfl rfl ?_
  refine step_done m K 13 rfl rfl rfl ?_
  refine step_done m K 16 rfl rfl rfl ?_
  refine step_done m K 30 rfl rfl rfl ?_
  exact stay m K

theorem part81 : St m K 208 c ⊢ wpc c (onBufs (k0_part81 (F := F)) c) (fun _ => St m K 212 c) := by
  unfold onBufs; rw [k0_part81_eq_skeleton]; unfold k0_part81_skel
  refine step_done m K 19 rfl rfl rfl ?_
  refine step_done m K 32 rfl rfl rfl ?_
  refine step_done m K 17 rfl rfl rfl ?_
  refine step_done m K 20 rfl rfl rfl ?_
  exact stay m K

end Cert.IdealRun

end
-- ==== Proof.IdealRun.Body.lean ====
/-
The whole body: the reducing phase, the gathering phase, and the end barrier.
-/
module

public import proofs.«01_k».proof.Proof.IdealRun.Prologue
public import proofs.«01_k».proof.Proof.IdealRun.Gather

@[expose] public section

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)
variable {c : Dev nD}

omit [FloatOps F] in
theorem uni {I : Type} [DecidableEq I] {s t : Finset I} (h : Disjoint s t) {Φ : I → sProp 𝕄} : bigSep (s ∪ t) Φ = iprop(bigSep s Φ ∗ bigSep t Φ) := bigSep_union h
omit [FloatOps F] in
theorem mono {I : Type} {s : Finset I} {Φ Ψ : I → sProp 𝕄} (h : ∀ i ∈ s, Φ i ⊢ Ψ i) : bigSep s Φ ⊢ bigSep s Ψ := bigSep_mono h
theorem two (Φ : Fin 2 → sProp 𝕄) : bigSep Finset.univ Φ = iprop(Φ 0 ∗ Φ 1) := by
  rw [show (Finset.univ : Finset (Fin 2)) = insert 0 {1} by decide, ins _ (by decide), bigSep_singleton]

/-! ## The gather buffer in chunks -/

def placeE (c : Dev nD) : Fin 32 ≃ Fin 32 := ⟨place c, chunkAt c, chunkAt_place c, place_chunkAt c⟩

theorem bufSet_disj {t t' : Fin 32} (h : t ≠ t') : Disjoint (bufSet t) (bufSet t') := by
  rw [Finset.disjoint_left]
  intro i h1 h2
  exact h (Fin.ext ((Finset.mem_filter.mp h1).2.symm.trans (Finset.mem_filter.mp h2).2))
theorem bufSet_all : (Finset.univ : Finset (Fin 32)).biUnion bufSet = (Finset.univ : Finset S32x128x4096.Idx) := by
  ext i
  simp only [Finset.mem_univ, Finset.mem_biUnion, true_and, iff_true]
  exact ⟨⟨(i 0).val, (i 0).isLt⟩, Finset.mem_filter.mpr ⟨Finset.mem_univ _, rfl⟩⟩

/-- A device's chunks: its own, and those each direction brings. -/
theorem buf_cut (f : Buf (Elt F) (bufL c)) :
    (wh c cc0_scratch3 f : sProp 𝕄) = bigSep Finset.univ fun x : Fin 32 => bufP c (place c x) fullShare f := by
  have h := pointsTo_biUnion (Ix := Unit) (Name := ℕ) (U := UU) (Lvl := ℕ) (Val := Elt F) (ℓ := bufL c) (q := fullShare) (f := f) (Finset.univ : Finset (Fin 32)) bufSet
    (fun t _ t' _ hne => bufSet_disj hne)
  rw [bufSet_all] at h
  refine h.trans ?_
  exact (bigSep_univ_equiv (placeE c) (fun t => bufP c t fullShare f))

theorem dirs : (Finset.univ : Finset (Fin 32)) = insert 0 ((dirSet 0 ∪ (dirSet 1 ∪ dirSet 2)).image dstCh) := by decide +kernel
theorem dst_inj : Set.InjOn dstCh (↑(dirSet 0 ∪ (dirSet 1 ∪ dirSet 2)) : Set (Fin 34)) := by
  have h : ∀ e ∈ dirSet 0 ∪ (dirSet 1 ∪ dirSet 2), ∀ e' ∈ dirSet 0 ∪ (dirSet 1 ∪ dirSet 2), dstCh e = dstCh e' → e = e' := by decide +kernel
  exact fun e he e' he' => h e (Finset.mem_coe.mp he) e' (Finset.mem_coe.mp he')

theorem dirs_split (Φ : Fin 32 → sProp 𝕄) : bigSep Finset.univ Φ
    = iprop(Φ 0 ∗ (bigSep (dirSet 0) fun e => Φ (dstCh e)) ∗ (bigSep (dirSet 1) fun e => Φ (dstCh e)) ∗ (bigSep (dirSet 2) fun e => Φ (dstCh e))) := by
  rw [dirs, ins _ (by decide +kernel), bigSep_image_of_injOn dst_inj, uni (by decide +kernel), uni (by decide +kernel)]

theorem buf_lend (f : Buf (Elt F) (bufL c)) : (wh c cc0_scratch3 f : sProp 𝕄)
    ⊢ iprop((∃ f, bufP (F := F) c (place c 0) fullShare f) ∗ landPay c 0 ∗ landPay c 1 ∗ landPay c 2) := by
  rw [buf_cut, dirs_split]
  unfold landPay
  iintro ⟨H, H0, H1, H2⟩
  isplitl [H]; · iexists f; iexact H
  isplitl [H0]
  · iapply (mono (fun e _ => exists_intro f)); iexact H0
  isplitl [H1]
  · iapply (mono (fun e _ => exists_intro f)); iexact H1
  iapply (mono (fun e _ => exists_intro f)); iexact H2

/-! ## What the gathering phase starts from -/

theorem landing_start : landing 38 = dirSet 0 ∪ (dirSet 1 ∪ dirSet 2) := by decide +kernel
theorem Fl_start : iprop(landPay (F := F) (up c) 0 ∗ landPay (rt c) 1 ∗ landPay (lf c) 2) ⊢ Fl 38 c := by
  have hd : ∀ d, landPay (F := F) (peer d c) d = bigSep (dirSet d) fun e => iprop(∃ f, bufP (F := F) (tgt e c) (place (tgt e c) (dstCh e)) fullShare f) := by
    intro d
    unfold landPay
    exact bigSep_congr fun e he => by rw [show tgt e c = peer d c by unfold tgt; rw [(Finset.mem_filter.mp he).2.2]]
  unfold Fl
  rw [landing_start, uni (by decide +kernel), uni (by decide +kernel), ← hd, ← hd, ← hd]
  exact Entails.refl _

theorem held_start : held 38 = insert (0, 0) (insert (0, 1) (insert (0, 2) {(0, 3)})) := by decide +kernel
theorem Fh_start : bufP c (place c 0) fullShare (BUF m) ⊢ Fh m 38 c := by
  unfold Fh
  rw [held_start, ins _ (by decide), ins _ (by decide), ins _ (by decide), bigSep_singleton]
  exact buf_shares c (place c 0) (BUF m)
theorem accs_start : accs 38 = {3} := by decide +kernel
theorem Fa_start : accP c 3 (accF m c) ⊢ Fa 38 c := by
  unfold Fa
  rw [accs_start, bigSep_singleton]
  exact exists_intro (accF m c)

/-! ## Buffers in pieces -/

section Pieces
variable {T : Type} [Fintype T] [DecidableEq T] {b : Ref sig .tc} (S : T → Finset b.ty.shape.Idx)
  (hd : ∀ t t', t ≠ t' → Disjoint (S t) (S t')) (hall : Finset.univ.biUnion S = Finset.univ)
include hd hall

/-- A whole buffer is its pieces; -/
theorem pieces (f : Buf (Elt F) ((c : Thread nD τ).loc b)) :
    (wh c b f : sProp 𝕄) = bigSep Finset.univ fun t => ((c : Thread nD τ).loc b ↦[S t]{fullShare} f) := by
  have h := pointsTo_biUnion (Ix := Unit) (Name := ℕ) (U := UU) (Lvl := ℕ) (Val := Elt F) (ℓ := (c : Thread nD τ).loc b) (q := fullShare) (f := f) Finset.univ S
    (fun t _ t' _ hne => hd t t' hne)
  exact (show _ = _ by rw [hall]).trans h
/-- pieces with any contents are a whole buffer with some contents. -/
theorem glue (f₀ : Buf (Elt F) ((c : Thread nD τ).loc b)) :
    (bigSep Finset.univ fun t => iprop(∃ f, ((c : Thread nD τ).loc b ↦[S t]{fullShare} f))) ⊢ (iprop(∃ f, wh c b f) : sProp 𝕄) := by
  haveI : ∀ t : T, Nonempty (Buf (Elt F) ((c : Thread nD τ).loc b)) := fun _ => ⟨f₀⟩
  iintro H
  ihave H := (BI.bigSep_exists_pi Finset.univ (fun (t : T) (f : Buf (Elt F) ((c : Thread nD τ).loc b)) =>
    (((c : Thread nD τ).loc b ↦[S t]{fullShare} f) : sProp 𝕄))) $$ H
  icases H with ⟨%fs, H⟩
  ihave H := (pointsTo_biUnion_join Finset.univ S fs f₀ (fun t _ t' _ hne => hd t t' hne)) $$ H
  icases H with ⟨%g, -, H⟩
  iexists g
  rw [hall]
  iexact H
end Pieces

omit [FloatOps F] in
theorem all_ex {T : Type} {S : Finset T} {ι : Type} {Φ : T → ι → sProp 𝕄} (f : T → ι) : bigSep S (fun t => Φ t (f t)) ⊢ bigSep S (fun t => iprop(∃ f, Φ t f)) :=
  mono fun t _ => exists_intro (f t)

theorem rs_disj (t t' : Fin 3) (h : t ≠ t') : Disjoint (rsSet t) (rsSet t') := by
  rw [Finset.disjoint_left]
  intro i h1 h2
  exact h (Fin.ext ((Finset.mem_filter.mp h1).2.symm.trans (Finset.mem_filter.mp h2).2))
theorem rs_all : Finset.univ.biUnion rsSet = (Finset.univ : Finset S3x128x4096.Idx) := by
  ext i
  simp only [Finset.mem_univ, Finset.mem_biUnion, true_and, iff_true]
  exact ⟨⟨(i 0).val, (i 0).isLt⟩, Finset.mem_filter.mpr ⟨Finset.mem_univ _, rfl⟩⟩
theorem conv_disj (t t' : Fin 2) (h : t ≠ t') : Disjoint (convSet t) (convSet t') := by
  rw [Finset.disjoint_left]
  intro i h1 h2
  exact h (Fin.ext ((Finset.mem_filter.mp h1).2.symm.trans (Finset.mem_filter.mp h2).2))
theorem conv_all : Finset.univ.biUnion convSet = (Finset.univ : Finset S2x256x4096.Idx) := by
  ext i
  simp only [Finset.mem_univ, Finset.mem_biUnion, true_and, iff_true]
  exact ⟨⟨(i 0).val, (i 0).isLt⟩, Finset.mem_filter.mpr ⟨Finset.mem_univ _, rfl⟩⟩
theorem tile_inj (c : Dev nD) (t t' : Fin 16) (h : tile c t = tile c t') : t = t' := by revert c t t'; decide +kernel
theorem tile_onto (c : Dev nD) (k : Fin 16) : ∃ t : Fin 16, k.val = tile c t := by revert c k; decide +kernel
theorem out_disj (t t' : Fin 16) (h : t ≠ t') : Disjoint (outSet c t) (outSet c t') := by
  rw [Finset.disjoint_left]
  intro i h1 h2
  exact h (tile_inj c t t' ((Finset.mem_filter.mp h1).2.symm.trans (Finset.mem_filter.mp h2).2))
theorem out_all : Finset.univ.biUnion (outSet c) = (Finset.univ : Finset S4096x4096.Idx) := by
  ext i
  simp only [Finset.mem_univ, Finset.mem_biUnion, true_and, iff_true]
  have hi : (i 0).val < 4096 := (i 0).isLt
  obtain ⟨t, ht⟩ := tile_onto c ⟨(i 0).val / 256, by omega⟩
  exact ⟨t, Finset.mem_filter.mpr ⟨Finset.mem_univ _, ht⟩⟩
theorem acc_disj (t t' : Fin 4) (h : t ≠ t') : Disjoint (accSet c t) (accSet c t') := by
  rw [Finset.disjoint_left]
  intro i h1 h2
  have h1 := (Finset.mem_filter.mp h1).2
  rw [(Finset.mem_filter.mp h2).2] at h1
  unfold accRow at h1
  exact h (Fin.ext (by have := t.isLt; have := t'.isLt; have h4 : rowOf c < 4 := Nat.mod_lt _ (by decide); omega))
theorem acc_all : Finset.univ.biUnion (accSet c) = (Finset.univ : Finset S512x4096.Idx) := by
  ext i
  simp only [Finset.mem_univ, Finset.mem_biUnion, true_and, iff_true]
  have hi : (i 0).val < 512 := (i 0).isLt
  have h2 : rowOf c < 4 := Nat.mod_lt _ (by decide)
  refine ⟨⟨(rowOf c + 4 - (i 0).val / 128) % 4, Nat.mod_lt _ (by decide)⟩, Finset.mem_filter.mpr ⟨Finset.mem_univ _, ?_⟩⟩
  unfold accRow
  show (i 0).val / 128 = (rowOf c + 4 - (rowOf c + 4 - (i 0).val / 128) % 4) % 4
  omega

theorem slots_cut (f) : (wh c cc0_scratch1 f : sProp 𝕄) ⊢ slots c := by
  rw [pieces (b := cc0_scratch1) rsSet rs_disj rs_all]
  exact all_ex (Φ := fun s f => rsP (F := F) c s f) fun _ => f
theorem slots_glue : iprop(rsP c 0 (RSB m c) ∗ rsP c 1 (RSB m c) ∗ rsP c 2 (RSB m c)) ⊢ (iprop(∃ f, wh c cc0_scratch1 f) : sProp 𝕄) := by
  rw [← three fun s => rsP c s (RSB m c)]
  exact (all_ex (Φ := fun s f => rsP (F := F) c s f) fun _ => RSB m c).trans (glue (b := cc0_scratch1) rsSet rs_disj rs_all (RSB m c))

theorem idle_start : idle 38 = Finset.univ := by decide +kernel
theorem stored_start : stored 38 = ∅ := by decide +kernel
theorem aloft_start : aloft 38 = ∅ := by decide +kernel
theorem todo_start : todo 38 = Finset.univ := by decide +kernel
theorem made_start : made 38 = ∅ := by decide +kernel
theorem Fc_start (f) : iprop(wh c cc0_scratch4 f ∗ semVal (cS c 0) 0 ∗ semVal (cS c 1) 0) ⊢ Fc m 38 c := by
  unfold Fc
  rw [idle_start, stored_start, aloft_start, bigSep_empty, bigSep_empty, two, pieces (b := cc0_scratch4) convSet conv_disj conv_all, two]
  unfold convP
  iintro ⟨⟨H0, H1⟩, Hs0, Hs1⟩
  isplitl
  · isplitl [H0 Hs0]
    · isplitl [H0]; · iexists f; iexact H0
      iexact Hs0
    isplitl [H1]; · iexists f; iexact H1
    iexact Hs1
  isplitl <;> iempintro
theorem Ft_start (f) : (wh c main_v1 f : sProp 𝕄) ⊢ Ft m 38 c := by
  unfold Ft
  rw [todo_start, made_start, bigSep_empty, pieces (b := main_v1) (outSet c) out_disj out_all]
  iintro H
  isplitl
  · iapply (all_ex (Φ := fun t f => outP (F := F) c t f) fun _ => f); iexact H
  iempintro

/-! ## What the gathering phase ends with -/

theorem held_end : held 214 = Finset.univ := by decide +kernel
theorem Fh_end : Fh m 214 c ⊢ iprop(∃ f, wh c cc0_scratch3 f) := by
  unfold Fh
  rw [held_end, bigSep_univ_prod]
  have h : (bigSep Finset.univ fun x : Fin 32 => bigSep Finset.univ fun i : Fin 4 => bufP c (place c x) (sh i) (BUF m)) ⊢ (wh c cc0_scratch3 (BUF m) : sProp 𝕄) := by
    rw [buf_cut]
    exact mono fun x _ => by rw [four]; exact buf_whole c (place c x) (BUF m)
  exact h.trans (exists_intro _)
theorem accs_end : accs 214 = Finset.univ := by decide +kernel
theorem Fa_end (f₀ : Buf (Elt F) (accL c)) : Fa (F := F) 214 c ⊢ iprop(∃ f, wh c cc0_scratch0 f) := by
  unfold Fa
  rw [accs_end]
  exact glue (b := cc0_scratch0) (accSet c) acc_disj acc_all f₀
theorem idle_end : idle 214 = Finset.univ := by decide +kernel
theorem Fc_end (f₀ : Buf (Elt F) (convL c)) : Fc m 214 c ⊢ iprop((∃ f, wh c cc0_scratch4 f) ∗ semVal (cS c 0) 0 ∗ semVal (cS c 1) 0) := by
  unfold Fc
  rw [idle_end, two]
  have h := glue (F := F) (c := c) (b := cc0_scratch4) convSet conv_disj conv_all f₀
  rw [two] at h
  iintro ⟨⟨⟨H0, Hs0⟩, H1, Hs1⟩, -, -⟩
  isplitl [H0 H1]
  · iapply h
    isplitl [H0]; · iexact H0
    iexact H1
  isplitl [Hs0]; · iexact Hs0
  iexact Hs1
theorem made_end : made 214 = Finset.univ := by decide +kernel
theorem Ft_end : Ft m 214 c ⊢ (wh c main_v1 (OUT m) : sProp 𝕄) := by
  unfold Ft
  rw [made_end, pieces (b := main_v1) (outSet c) out_disj out_all]
  iintro ⟨-, H⟩
  iexact H

/-- The arrivals and departures all waited for. -/
def over (c : Dev nD) : sProp 𝕄 :=
  iprop((bigSep Finset.univ fun e : Fin 34 => atPos (D := Fin 4) ER (sCell c e) 1 ∅ 0) ∗ (bigSep Finset.univ fun e : Fin 34 => atPos (D := Fin 4) ER (rCell c e) 1 ∅ 0))
theorem left_end : left 214 = Finset.univ := by decide +kernel
theorem arrived_end : arrived 214 = Finset.univ := by decide +kernel
theorem over_end : iprop(Fs (F := F) 214 c ∗ Fr 214 c) ⊢ over c := by
  unfold Fs Fr over
  rw [left_end, arrived_end]
  iintro ⟨⟨-, -, -, H⟩, -, H'⟩
  isplitl [H]; · iexact H
  iexact H'

/-! ## Running the parts in order -/

theorem chain {α β : Type} {P R : sProp 𝕄} {p : Prog (TpuEff nD τ sig (Elt F) Λ₀ .tc) α} {f : α → Prog (TpuEff nD τ sig (Elt F) Λ₀ .tc) β}
    {Q' : α → sProp 𝕄} {Q : β → sProp 𝕄} (h : P ⊢ wpc c p Q') (hk : ∀ r, iprop(Q' r ∗ R) ⊢ wpc c (f r) Q) : iprop(P ∗ R) ⊢ wpc c (p >>= f) Q := by
  unfold wpc
  rw [wp_bind_eq]
  iintro ⟨HP, HR⟩
  ihave H := h $$ HP
  unfold wpc
  have h2 := (wp_frame_r (frame (nD := nD)) (wpE (defs₀ (F := F)) 𝒱₀ (c : Thread nD τ) none) Set.univ (p := p) (Q := Q') (R := R)).trans (wp_mono _ _ _ hk)
  iapply h2
  isplitl [H]; · iexact H
  iexact HR
/-- A part inside a proof. -/
theorem seq {α β : Type} {P : sProp 𝕄} {p : Prog (TpuEff nD τ sig (Elt F) Λ₀ .tc) α} {f : α → Prog (TpuEff nD τ sig (Elt F) Λ₀ .tc) β}
    {Q' : α → sProp 𝕄} {Q : β → sProp 𝕄} (h : P ⊢ wpc c p Q') : P ⊢ iprop((∀ r, Q' r -∗ wpc c (f r) Q) -∗ wpc c (p >>= f) Q) := by
  iintro HP HK
  iapply (chain (R := iprop(∀ r, Q' r -∗ wpc c (f r) Q)) h (f := f) (Q := Q) (fun r => by
    iintro ⟨HQ, HK⟩
    iapply HK
    iexact HQ))
  isplitl [HP]; · iexact HP
  iexact HK

end Cert.IdealRun

end
-- ==== Proof.IdealRun.Run.lean ====
/-
The parts of the body in order, from what a device starts with to what it ends with.
-/
module

public import proofs.«01_k».proof.Proof.IdealRun.Body

@[expose] public section

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers

variable {F : FTy → Type} [FloatOps F]

local notation "𝕄" => MT nD τ sig Unit (Elt F) ℕ UU ℕ

variable (m : (ℓ : Loc nD τ sig) → Buf (Elt F) ℓ) (K : Dev nD × CI → ℕ)
variable {c : Dev nD}

/-! ## The first and the last part -/

theorem part1 : Pers m K ⊢ wpc c (onBufs (k0_part1 (F := F))) (fun r => iprop(⌜r.1 = c⌝)) := by
  unfold onBufs; rw [k0_part1_eq_skeleton]; unfold k0_part1_skel
  simp only [Prog.lift, Prog.bind_op, Prog.bind_ret, Prog.pure_eq_ret, wp_deviceId]
  iintro -
  iapply ret_intro
  ipureintro; rfl
theorem part2 (v5 : BitVec 32) (v11 : BitVec 32) (v22 : BitVec 32) (v23 : BitVec 32) (v37 : BitVec 1) :
    Pers m K ⊢ wpc c (onBufs (k0_part2 (F := F)) v5 v11 v22 v23 v37) (fun _ => iprop(emp)) := by
  unfold onBufs; rw [k0_part2_eq_skeleton]; unfold k0_part2_skel
  simp only [Prog.lift, Prog.bind_op, Prog.bind_ret, Prog.pure_eq_ret]
  iintro -
  iapply ret_intro
  iempintro

/-- The end of the gathering phase, with the first two of the closing signals paid. -/
theorem part82 (v2 v5 v8 v39 v84 v95 : BitVec 32) :
    iprop(St m K 212 c ∗ dutyTok ER (zCell (nb 0 c)) 0 (0 : Fin 4) ∗ dutyTok ER (zCell (nb 1 c)) 0 (1 : Fin 4))
      ⊢ wpc c (onBufs (k0_part82 (F := F)) c v2 v5 v8 v39 v84 v95)
          (fun _ => iprop(Pers m K ∗ over c ∗ Fo 216 c ∗ Fh m 214 c ∗ Fa 214 c ∗ Fc m 214 c ∗ Ft m 214 c)) := by
  unfold onBufs; rw [k0_part82_eq_skeleton]; unfold k0_part82_skel
  refine chain (step_done m K 33 rfl rfl rfl (k := fun x => .ret x) (Q := fun _ => St m K 213 c) (ret_intro (Q := fun _ => St m K 213 c))) fun _ => ?_
  refine chain (step_done m K 21 rfl rfl rfl (k := fun x => .ret x) (Q := fun _ => St m K 214 c) (ret_intro (Q := fun _ => St m K 214 c))) fun _ => ?_
  simp only [semSignalWord, Prog.lift, Prog.bind_op, Prog.bind_ret, Prog.pure_eq_ret]
  unfold St
  iintro ⟨⟨#HP, HFs, HFr, HO, HFh, HFa, HFl, HFc, HFt⟩, Ht0, Ht1⟩
  iapply (end_op m K (c := c) 0 rfl (by revert c; decide +kernel)) $$ [HO Ht0]
  · isplitr; · iexact HP
    isplitl [HO]; · iexact HO
    iexact Ht0
  iintro HO
  iapply (end_op m K (c := c) 1 rfl (by revert c; decide +kernel)) $$ [HO Ht1]
  · isplitr; · iexact HP
    isplitl [HO]; · iexact HO
    iexact Ht1
  iintro HO
  iapply ret_intro
  isplitr; · iexact HP
  isplitl [HFs HFr]
  · iapply over_end
    isplitl [HFs]; · iexact HFs
    iexact HFr
  isplitl [HO]; · iexact HO
  isplitl [HFh]; · iexact HFh
  isplitl [HFa]; · iexact HFa
  isplitl [HFc]; · iexact HFc
  iexact HFt

/-! ## What a device starts and ends with -/

def endToks (c : Dev nD) : sProp 𝕄 := bigSep Finset.univ fun i : Fin 4 => dutyTok ER (zCell (nb i c)) 0 i
def scr (c : Dev nD) (b : Ref sig .tc) : sProp 𝕄 := iprop(∃ f, wh (F := F) c b f)
/-- The three semaphores of the local copies, idle. -/
def idle3 (c : Dev nD) : sProp 𝕄 :=
  iprop(semVal ((c : Thread nD τ), .dma (inS 0)) 0 ∗ semVal ((c : Thread nD τ), .dma (inS 1)) 0 ∗ semVal ((c : Thread nD τ), .dma locS) 0)
def Init (c : Dev nD) : sProp 𝕄 :=
  iprop(Pers m K ∗ (Fs 0 c ∗ Fr 0 c ∗ Fo 0 c)
    ∗ (bigSep Finset.univ fun i : Fin 4 => dutyTok ER (bCell (nb i c)) 0 i) ∗ (cred (tallyAt (bCell c) () 4) ∗ atPos (D := Fin 4) ER (bCell c) 0 ∅ 0)
    ∗ (endToks c ∗ cred (tallyAt (zCell c) () 4) ∗ atPos (D := Fin 4) ER (zCell c) 0 ∅ 0)
    ∗ (A0 m c ∗ A1 m c ∗ scr c main_v1) ∗ wh c cc0_stg0_0 (Gm m c)
    ∗ (scr c cc0_scratch0 ∗ scr c cc0_scratch1 ∗ scr c cc0_scratch2 ∗ scr c cc0_scratch3 ∗ scr c cc0_scratch4 ∗ scr c cc0_scratch5 ∗ scr c cc0_scratch6)
    ∗ idle3 c ∗ semVal (cS c 0) 0 ∗ semVal (cS c 1) 0)
/-- What waits at the side while the chunks are gathered. -/
def Rest (c : Dev nD) : sProp 𝕄 :=
  iprop((endToks c ∗ cred (tallyAt (zCell c) () 4) ∗ atPos (D := Fin 4) ER (zCell c) 0 ∅ 0) ∗ atPos (D := Fin 4) ER (bCell c) 1 ∅ 0
    ∗ (A0 m c ∗ A1 m c) ∗ wh c cc0_stg0_0 (Gm m c) ∗ (scr c cc0_scratch2 ∗ scr c cc0_scratch5 ∗ scr c cc0_scratch6)
    ∗ (rsP c 0 (RSB m c) ∗ rsP c 1 (RSB m c) ∗ rsP c 2 (RSB m c)) ∗ idle3 c)
def Done (c : Dev nD) : sProp 𝕄 :=
  iprop(Pers m K ∗ over c ∗ atPos (D := Fin 4) ER (bCell c) 1 ∅ 0 ∗ atPos (D := Fin 4) ER (zCell c) 1 ∅ 0 ∗ Fo 218 c
    ∗ (A0 m c ∗ A1 m c ∗ wh c main_v1 (OUT m)) ∗ wh c cc0_stg0_0 (Gm m c)
    ∗ (scr c cc0_scratch0 ∗ scr c cc0_scratch1 ∗ scr c cc0_scratch2 ∗ scr c cc0_scratch3 ∗ scr c cc0_scratch4 ∗ scr c cc0_scratch5 ∗ scr c cc0_scratch6)
    ∗ idle3 c ∗ semVal (cS c 0) 0 ∗ semVal (cS c 1) 0)

theorem chain' {α β : Type} {P R : sProp 𝕄} {p : Prog (TpuEff nD τ sig (Elt F) Λ₀ .tc) α} {f : α → Prog (TpuEff nD τ sig (Elt F) Λ₀ .tc) β}
    {φ : α → Prop} {Q' : α → sProp 𝕄} {Q : β → sProp 𝕄} (h : P ⊢ wpc c p (fun r => iprop(⌜φ r⌝ ∗ Q' r)))
    (hk : ∀ r, φ r → iprop(Q' r ∗ R) ⊢ wpc c (f r) Q) : iprop(P ∗ R) ⊢ wpc c (p >>= f) Q :=
  chain h fun r => by
    iintro ⟨⟨%hr, HQ⟩, HR⟩
    iapply (hk r hr)
    isplitl [HQ]; · iexact HQ
    iexact HR

theorem Fo_start : Fo (F := F) 0 c = Fo 3 c := by
  rw [Fo_stable (n := 2) (c := c) (by decide) (by decide) (by decide), Fo_stable (n := 1) (c := c) (by decide) (by decide) (by decide), Fo_stable (n := 0) (c := c) (by decide) (by decide) (by decide)]
theorem unsent_start : unsent 0 = unsent 12 := by decide +kernel
theorem Fs_start : Fs (F := F) 0 c = Fs 12 c := by
  unfold Fs
  rw [show unsent 0 = unsent 12 by decide +kernel, show flying 0 = flying 12 by decide +kernel, show undone 0 = undone 12 by decide +kernel, show left 0 = left 12 by decide +kernel]
theorem Fr_start : Fr (F := F) 0 c = Fr 12 c := by
  unfold Fr
  rw [show awaited 0 = awaited 12 by decide +kernel, show arrived 0 = arrived 12 by decide +kernel]

/-- What the neighbours' signals bring: the slots above, and the chunks to be filled. -/
theorem bar_open : (bigSep Finset.univ fun i => barPay (F := F) c i)
    ⊢ iprop((∃ f, rsP (F := F) (up c) 0 f) ∗ (∃ f, rsP (F := F) (up c) 1 f) ∗ (∃ f, rsP (F := F) (up c) 2 f) ∗ Fl 38 c) := by
  rw [four, show barPay (F := F) c 0 = iprop((bigSep Finset.univ fun s : Fin 3 => iprop(∃ f, rsP (F := F) (up c) s f)) ∗ landPay (up c) 0) from rfl,
    show barPay (F := F) c 2 = landPay (lf c) 2 from rfl, show barPay (F := F) c 3 = landPay (rt c) 1 from rfl, three]
  iintro ⟨⟨⟨Hs0, Hs1, Hs2⟩, Hl0⟩, H1, Hl2, Hl1⟩
  isplitl [Hs0]; · iexact Hs0
  isplitl [Hs1]; · iexact Hs1
  isplitl [Hs2]; · iexact Hs2
  iapply Fl_start
  isplitl [Hl0]; · iexact Hl0
  isplitl [Hl1]; · iexact Hl1
  iexact Hl2

set_option maxHeartbeats 4000000 in
theorem part83 : Init m K c ⊢ wpc c (onBufs (k0_part83 (F := F))) (fun r => iprop(⌜r.1 = c⌝ ∗ St m K 129 c ∗ Rest m c)) := by
  unfold onBufs; rw [k0_part83_eq_skeleton]; unfold k0_part83_skel
  unfold Init scr idle3
  iintro ⟨#HP, ⟨HFs, HFr, HO⟩, Hbt, Hbc, Hz, ⟨Ha0, Ha1, ⟨%g, Hout⟩⟩, Hg, ⟨H0, ⟨%f1, H1⟩, H2, ⟨%f3, H3⟩, ⟨%f4, H4⟩, H5, H6⟩, ⟨Hi0, Hi1, Hl⟩, Hc0, Hc1⟩
  ihave Hsl := (slots_cut (c := c) f1) $$ H1
  ihave Hbuf := (buf_lend (c := c) f3) $$ H3
  icases Hbuf with ⟨Hown, Hl0, Hl1, Hl2⟩
  ihave HFc := (Fc_start m (c := c) f4) $$ [H4 Hc0 Hc1]
  · isplitl [H4]; · iexact H4
    isplitl [Hc0]; · iexact Hc0
    iexact Hc1
  ihave HFt := (Ft_start m (c := c) g) $$ Hout
  ihave HO := (Entails.of_eq (Fo_start (F := F) (c := c))) $$ HO
  ihave HFs := (Entails.of_eq (Fs_start (F := F) (c := c))) $$ HFs
  ihave HFr := (Entails.of_eq (Fr_start (F := F) (c := c))) $$ HFr
  iapply (seq (part1 m K)) $$ []
  · iexact HP
  iintro %r %hr
  obtain ⟨d0, v2, v5, v8, v11, v22, v23, v37⟩ := r
  have hr : d0 = c := hr
  subst hr
  dsimp only
  iapply (seq (part2 m K _ _ _ _ _)) $$ []
  · iexact HP
  iintro %r -
  iapply (seq (part3 m _ _ _ _ _)) $$ [Ha0 H5 Hi0]
  · isplitl [Ha0]; · iexact Ha0
    isplitl [H5]; · iexact H5
    iexact Hi0
  iintro %r HX
  iapply (seq (part4 m K _ _ _ _ _ _ _ _ _ _ _ _)) $$ [HO Ha1 H6 Hi1 Hbt Hsl Hl0 Hl1 Hl2]
  · isplitr; · iexact HP
    isplitl [HO]; · iexact HO
    isplitl [Ha1 H6 Hi1]
    · isplitl [Ha1]; · iexact Ha1
      isplitl [H6]; · iexact H6
      iexact Hi1
    isplitl [Hbt]; · iexact Hbt
    isplitl [Hsl]; · iexact Hsl
    isplitl [Hl0]; · iexact Hl0
    isplitl [Hl1]; · iexact Hl1
    iexact Hl2
  iintro %r ⟨%hr, HR, HO⟩
  iapply (seq (part5 m K _ _ hr)) $$ [HFs HFr HO Hbc HX H0]
  · isplitr; · iexact HP
    isplitl [HFs]; · iexact HFs
    isplitl [HFr]; · iexact HFr
    isplitl [HO]; · iexact HO
    isplitl [Hbc]; · iexact Hbc
    isplitl [HX]; · iexact HX
    iexact H0
  iintro %r ⟨Hrt, Hbat, Hpay, ⟨Ha0, H5, Hi0⟩, Hac0, Hac1, Hac2, Hac3⟩
  ihave Hpay := (bar_open (F := F) (c := d0)) $$ Hpay
  icases Hpay with ⟨Hs0, Hs1, Hs2, HFl⟩
  iapply (seq (part6 m K _ _ _ _ _)) $$ [Hrt Hac0 Hac1 Hs0]
  · isplitr; · iexact HP
    isplitl [Hrt]; · iexact Hrt
    isplitl [Hac0]; · iexact Hac0
    isplitl [Hac1]; · iexact Hac1
    iexact Hs0
  iintro %r ⟨%hr, Hrt, Hac1, Hs0⟩
  iapply (seq (part7 m _ _ _ _ _ _ hr)) $$ [Hac1]
  · iexact Hac1
  iintro %r Hac1
  iapply (seq (part8 m K _ _ _ _)) $$ [Hrt Hac1 Hac2 Hs1]
  · isplitr; · iexact HP
    isplitl [Hrt]; · iexact Hrt
    isplitl [Hac1]; · iexact Hac1
    isplitl [Hac2]; · iexact Hac2
    iexact Hs1
  iintro %r ⟨Hrt, Hac2, Hs1⟩
  iapply (seq (part9 m K _ _ _ _ _ _)) $$ [Hrt Hac2 Hs2]
  · isplitr; · iexact HP
    isplitl [Hrt]; · iexact Hrt
    isplitl [Hac2]; · iexact Hac2
    iexact Hs2
  iintro %r Hrt
  iapply (seq (part10 m K _ _ _ _ _)) $$ [Hrt Hac3 HR]
  · isplitr; · iexact HP
    isplitl [Hrt]; · iexact Hrt
    isplitl [Hac3]; · iexact Hac3
    iexact HR
  iintro %r ⟨%hr, Hrt, Hac3, Hs2, ⟨Ha1, H6, Hi1⟩⟩
  subst hr
  iapply (seq (part11 m K _ _ _ _ _)) $$ [Hrt Hg H2 Hown Hl]
  · isplitr; · iexact HP
    isplitl [Hrt]; · iexact Hrt
    isplitl [Hg]; · iexact Hg
    isplitl [H2]; · iexact H2
    isplitl [Hown]; · iexact Hown
    iexact Hl
  iintro %r ⟨Hrt, Hg, H2, Hown, Hl⟩
  ihave HR : Rest m d0 $$ [Hz Hbat Ha0 Ha1 Hg H2 H5 H6 Hs0 Hs1 Hs2 Hi0 Hi1 Hl]
  · unfold Rest scr idle3
    isplitl [Hz]; · iexact Hz
    isplitl [Hbat]; · iexact Hbat
    isplitl [Ha0 Ha1]
    · isplitl [Ha0]; · iexact Ha0
      iexact Ha1
    isplitl [Hg]; · iexact Hg
    isplitl [H2 H5 H6]
    · isplitl [H2]; · iexact H2
      isplitl [H5]; · iexact H5
      iexact H6
    isplitl [Hs0 Hs1 Hs2]
    · isplitl [Hs0]; · iexact Hs0
      isplitl [Hs1]; · iexact Hs1
      iexact Hs2
    isplitl [Hi0]; · iexact Hi0
    isplitl [Hi1]; · iexact Hi1
    iexact Hl
  ihave HS : St m K 38 d0 $$ [Hrt Hown Hac3 HFl HFc HFt]
  · unfold St Rt
    icases Hrt with ⟨HFs, HFr, HO⟩
    isplitr; · iexact HP
    isplitl [HFs]; · iexact HFs
    isplitl [HFr]; · iexact HFr
    isplitl [HO]; · iexact HO
    isplitl [Hown]; · iapply (Fh_start m); iexact Hown
    isplitl [Hac3]; · iapply (Fa_start m); iexact Hac3
    isplitl [HFl]; · iexact HFl
    isplitl [HFc]; · iexact HFc
    iexact HFt
  iapply (seq (part12 m K _ _ _ _ _)) $$ HS
  iintro %r HS
  iapply (seq (part13 m K _ _ _ _ _ _ _)) $$ HS
  iintro %r HS
  iapply (seq (part14 m K _ _ _ _ _ _)) $$ HS
  iintro %r HS
  iapply (seq (part15 m K _ _ _ _ _ _)) $$ HS
  iintro %r HS
  iapply (seq (part16 m K _ _ _ _ _ _ _ _ _)) $$ HS
  iintro %r HS
  iapply (seq (part17 m K _ _ _ _)) $$ HS
  iintro %r HS
  iapply (seq (part18 m K _ _ _ _ _)) $$ HS
  iintro %r HS
  iapply (seq (part19 m K _ _ _ _ _ _ _ _ _)) $$ HS
  iintro %r HS
  iapply (seq (part20 m K _ _ _ _ _)) $$ HS
  iintro %r HS
  iapply (seq (part21 m K _ _ _ _ _)) $$ HS
  iintro %r HS
  iapply (seq (part22 m K _ _ _ _ _ _ _ _)) $$ HS
  iintro %r HS
  iapply (seq (part23 m K _ _ _ _ _)) $$ HS
  iintro %r HS
  iapply (seq (part24 m K _ _ _ _)) $$ HS
  iintro %r HS
  iapply (seq (part25 m K _ _ _ _ _ _ _ _ _ _)) $$ HS
  iintro %r HS
  iapply (seq (part26 m K _ _ _ _ _)) $$ HS
  iintro %r HS
  iapply (seq (part27 m K _ _ _ _ _)) $$ HS
  iintro %r HS
  iapply (seq (part28 m K _ _ _ _ _ _ _)) $$ HS
  iintro %r HS
  iapply (seq (part29 m K _ _ _ _)) $$ HS
  iintro %r HS
  iapply (seq (part30 m K _ _ _ _ _ _ _ _)) $$ HS
  iintro %r HS
  iapply (seq (part31 m K _ _ _)) $$ HS
  iintro %r HS
  iapply (seq (part32 m K _ _ _ _)) $$ HS
  iintro %r HS
  iapply (seq (part33 m K _ _ _ _ _ _ _)) $$ HS
  iintro %r HS
  iapply (seq (part34 m K _ _ _ _ _ _ _ _ _)) $$ HS
  iintro %r HS
  iapply (seq (part35 m K _ _ _ _ _)) $$ HS
  iintro %r HS
  iapply (seq (part36 m K _ _ _ _ _ _ _ _)) $$ HS
  iintro %r HS
  iapply (seq (part37 m K _ _ _ _ _)) $$ HS
  iintro %r HS
  iapply (seq (part38 m K _ _ _ _)) $$ HS
  iintro %r HS
  iapply (seq (part39 m K _ _ _)) $$ HS
  iintro %r HS
  iapply (seq (part40 m K _ _ _ _ _ _ _)) $$ HS
  iintro %r HS
  iapply (seq (part41 m K _ _ _ _ _ _ _)) $$ HS
  iintro %r HS
  iapply (seq (part42 m K _ _ _)) $$ HS
  iintro %r HS
  iapply (seq (part43 m K _ _ _ _ _)) $$ HS
  iintro %r HS
  iapply (seq (part44 m K _ _ _ _ _ _)) $$ HS
  iintro %r HS
  iapply (seq (part45 m K _ _ _ _ _ _ _ _)) $$ HS
  iintro %r HS
  iapply (seq (part46 m K _ _ _ _)) $$ HS
  iintro %r HS
  iapply (seq (part47 m K _ _ _ _ _ _ _ _ _ _)) $$ HS
  iintro %r HS
  iapply (seq (part48 m K _ _ _ _ _ _ _)) $$ HS
  iintro %r HS
  iapply (seq (part49 m K _ _ _ _)) $$ HS
  iintro %r HS
  iapply (seq (part50 m K _)) $$ HS
  iintro %r HS
  iapply (seq (part51 m K _)) $$ HS
  iintro %r ⟨%hv, HS⟩
  iapply (seq (part52 m K _ _ _ hv)) $$ HS
  iintro %r HS
  iapply (seq (part53 m K _ _ _ _ _ _)) $$ HS
  iintro %r HS
  iapply (seq (part54 m K _ _ _ _)) $$ HS
  iintro %r HS
  iapply (seq (part55 m K _ _ _ _)) $$ HS
  iintro %r HS
  iapply (seq (part56 m K _ _ _ _ _ _ _ _)) $$ HS
  iintro %r HS
  iapply (seq (part57 m K _ _ _ _ _ _)) $$ HS
  iintro %r HS
  iapply (seq (part58 m K _ _ _)) $$ HS
  iintro %r HS
  iapply (seq (part59 m K _ _ _ _ _ _)) $$ HS
  iintro %r HS
  iapply (seq (part60 m K _ _ _ _ _)) $$ HS
  iintro %r HS
  iapply ret_intro
  isplitr; · ipureintro; rfl
  isplitl [HS]; · iexact HS
  iexact HR

theorem dev41_eq : ∀ c : Dev nD, (⟨k0_dev41 c, k0_dev41_lt c⟩ : Dev nD) = nb 2 c := by decide +kernel
theorem dev42_eq : ∀ c : Dev nD, (⟨k0_dev42 c, k0_dev42_lt c⟩ : Dev nD) = nb 3 c := by decide +kernel

set_option maxHeartbeats 4000000 in
/-- The whole body on one device. -/
theorem body : Init m K c ⊢ wpc c (onBufs (cc0_body (F := F))) (fun _ => Done m K c) := by
  unfold onBufs; rw [cc0_body_eq_skeleton]; unfold cc0_body_skel
  iintro HI
  iapply (seq (part83 m K)) $$ HI
  iintro %r ⟨%hr, HS, HR⟩
  obtain ⟨d0, v2, v5, v8, v11, v39, v42, v70, v73, v84, v95, v1955, v1982⟩ := r
  have hr' : d0 = c := hr
  clear hr
  subst hr'
  dsimp only
  iapply (seq (part61 m K _ _ _)) $$ HS
  iintro %r HS
  iapply (seq (part62 m K _ _)) $$ HS
  iintro %r ⟨%hv, HS⟩
  iapply (seq (part63 m K _ _ _ _ hv)) $$ HS
  iintro %r HS
  iapply (seq (part64 m K _ _ _ _ _)) $$ HS
  iintro %r HS
  iapply (seq (part65 m K _ _ _ _ _ _ _ _)) $$ HS
  iintro %r HS
  iapply (seq (part66 m K _ _ _ _ _)) $$ HS
  iintro %r HS
  iapply (seq (part67 m K _ _)) $$ HS
  iintro %r HS
  iapply (seq (part68 m K _ _)) $$ HS
  iintro %r HS
  iapply (seq (part69 m K _ _ _)) $$ HS
  iintro %r HS
  iapply (seq (part70 m K _ _ _ _)) $$ HS
  iintro %r HS
  iapply (seq (part71 m K _ _ _ _ _ _ _ _ _)) $$ HS
  iintro %r HS
  iapply (seq (part72 m K _)) $$ HS
  iintro %r ⟨%hv, HS⟩
  iapply (seq (part73 m K _ hv)) $$ HS
  iintro %r HS
  iapply (seq (part74 m K)) $$ HS
  iintro %r HS
  iapply (seq (part75 m K)) $$ HS
  iintro %r HS
  iapply (seq (part76 m K)) $$ HS
  iintro %r HS
  iapply (seq (part77 m K)) $$ HS
  iintro %r HS
  iapply (seq (part78 m K)) $$ HS
  iintro %r HS
  iapply (seq (part79 m K)) $$ HS
  iintro %r HS
  iapply (seq (part80 m K)) $$ HS
  iintro %r HS
  iapply (seq (part81 m K)) $$ HS
  iintro %r HS
  unfold Rest
  icases HR with ⟨⟨Het, Hzc, Hza⟩, Hba, ⟨Ha0, Ha1⟩, Hg, ⟨H2, H5, H6⟩, Hrs, Hi⟩
  unfold endToks
  ihave Het := (Entails.of_eq (four fun i : Fin 4 => dutyTok (ER : Emb UB 𝕄) (zCell (nb i d0)) 0 i)) $$ Het
  icases Het with ⟨Ht0, Ht1, Ht2, Ht3⟩
  iapply (seq (part82 m K _ _ _ _ _ _)) $$ [HS Ht0 Ht1]
  · isplitl [HS]; · iexact HS
    isplitl [Ht0]; · iexact Ht0
    iexact Ht1
  iintro %r ⟨#HP, Hov, HO, HFh, HFa, HFc, HFt⟩
  simp only [semSignalWord, semWaitWord, Prog.lift, Prog.bind_op, Prog.bind_ret, Prog.pure_eq_ret]
  iapply (end_op m K (c := d0) 2 rfl (dev41_eq d0)) $$ [HO Ht2]
  · isplitr; · iexact HP
    isplitl [HO]; · iexact HO
    iexact Ht2
  iintro HO
  iapply (end_op m K (c := d0) 3 rfl (dev42_eq d0)) $$ [HO Ht3]
  · isplitr; · iexact HP
    isplitl [HO]; · iexact HO
    iexact Ht3
  iintro HO
  iapply (fin_op m K (c := d0)) $$ [HO Hzc Hza]
  · isplitr; · iexact HP
    isplitl [HO]; · iexact HO
    isplitl [Hzc]; · iexact Hzc
    iexact Hza
  iintro ⟨HO, Hza⟩
  iapply ret_intro
  ihave HFc := (Fc_end m (c := d0) (m (convL d0))) $$ HFc
  ihave HFt := (Ft_end m (c := d0)) $$ HFt
  ihave HFa := (Fa_end (c := d0) (m (accL d0))) $$ HFa
  ihave HFh := (Fh_end m (c := d0)) $$ HFh
  ihave Hrs := (slots_glue m (c := d0)) $$ Hrs
  icases HFc with ⟨H4, Hc0, Hc1⟩
  unfold Done scr
  isplitr; · iexact HP
  isplitl [Hov]; · iexact Hov
  isplitl [Hba]; · iexact Hba
  isplitl [Hza]; · iexact Hza
  isplitl [HO]; · iexact HO
  isplitl [Ha0 Ha1 HFt]
  · isplitl [Ha0]; · iexact Ha0
    isplitl [Ha1]; · iexact Ha1
    iexact HFt
  isplitl [Hg]; · iexact Hg
  isplitl [HFa Hrs H2 HFh H4 H5 H6]
  · isplitl [HFa]; · iexact HFa
    isplitl [Hrs]; · iexact Hrs
    isplitl [H2]; · iexact H2
    isplitl [HFh]; · iexact HFh
    isplitl [H4]; · iexact H4
    isplitl [H5]; · iexact H5
    iexact H6
  isplitl [Hi]; · iexact Hi
  isplitl [Hc0]; · iexact Hc0
  iexact Hc1

end Cert.IdealRun

end
-- ==== Proof.IdealRun.Launch.lean ====
/-
The launch: the cells made, the tokens dealt to the devices that pay them, and the run of all thirty-two devices.
-/
module

public import proofs.«01_k».proof.Proof.IdealRun.Run
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.CollectiveSegs
public import Idealize.ShloMosaic.Lib.Tactic

@[expose] public section

set_option maxRecDepth 8000

noncomputable section

namespace Cert.IdealRun

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × CI → ℕ) (c : Dev nD)

/-! ## The kernel's own semaphores -/

def spare (j : Fin 5) : SemLoc sig := ![.dma (inS 0), .dma (inS 1), .dma locS, .dma (convS 0), .dma (convS 1)] j
abbrev OI : Type := (Fin 34 ⊕ Fin 34) ⊕ (Fin 1 ⊕ Fin 5)
def osem : OI → SemLoc sig
  | .inl x => csem (.inl x)
  | .inr (.inl _) => csem (.inr 1)
  | .inr (.inr j) => spare j
theorem ownSemFacts : Pipeline.OwnSemFacts cfg0.spec osem where
  isScoped := by decide +kernel
  inj := by unfold Function.Injective; decide +kernel
  disj := by decide +kernel

theorem csem_inj : Function.Injective csem := by unfold Function.Injective; decide +kernel
theorem kcell_inj : Function.Injective (kcell : Dev nD × CI → GSem nD τ sig) := by
  rintro ⟨c, k⟩ ⟨c', k'⟩ h
  have h1 : c = c' := congrArg (fun g : GSem nD τ sig => g.1.1) h
  have h2 : k = k' := csem_inj (congrArg Prod.snd h)
  rw [h1, h2]
def allCells : Finset (GSem nD τ sig) := Finset.univ.map ⟨kcell, kcell_inj⟩

/-- The duties of a device's own cells: one per copy leaving or arriving, four per barrier. -/
abbrev TI : Type := (Fin 34 ⊕ Fin 34) ⊕ (Fin 2 × Fin 4)
def tokOf (x : Dev nD × TI) : GSem nD τ sig × ℕ × Fin 4 := match x.2 with
  | .inl k => (kcell (x.1, .inl k), 0, 0)
  | .inr (j, i) => (kcell (x.1, .inr j), 0, i)
theorem tokOf_inj : Function.Injective tokOf := by
  rintro ⟨c, t⟩ ⟨c', t'⟩ h
  have hc := congrArg (fun x : GSem nD τ sig × ℕ × Fin 4 => x.1) h
  have hi := congrArg (fun x : GSem nD τ sig × ℕ × Fin 4 => x.2.2) h
  rcases t with k | ⟨j, i⟩ <;> rcases t' with k' | ⟨j', i'⟩ <;> have e := kcell_inj hc <;> simp only [tokOf] at hi <;> simp_all
def allToks : Finset (GSem nD τ sig × ℕ × Fin 4) := Finset.univ.map ⟨tokOf, tokOf_inj⟩

def u₀ : UU := (initOf (Pipeline.cells cfgs cellOf_inj) (Pipeline.launchToks cfgs cellOf_inj), (initOf allCells allToks, 1))

omit [FloatOps F] in
theorem own_split (a : UR sig nD τ) (b : UB) : (ownU ((a, (b, 1)) : UU) : sProp 𝕄) ⊢ iprop(BI.own (EP a) ∗ BI.own (ER b)) :=
  BI.own_op_elim ((uEmb (nD := nD) (τ := τ) (sig := sig) (Ix := Unit) (Val := Elt F) (Name := ℕ) (U := UU) (Lvl := ℕ)).toEmb.op_of_mem
    (Prod.mk_mem_op (URA.mem_op_one a) (URA.mem_one_op (b, (1 : Counters)))))

/-- The duty tokens of a device's own cells. -/
def toks : sProp 𝕄 := bigSep Finset.univ fun t : TI => dutyTok ER (tokOf (c, t)).1 (tokOf (c, t)).2.1 (tokOf (c, t)).2.2
def ats : sProp 𝕄 := bigSep Finset.univ fun k : CI => atPos (D := Fin 4) ER (kcell (c, k)) 0 ∅ 0
def G : sProp 𝕄 :=
  iprop((bigSep Finset.univ fun k : CI => roundState ER (Rd m) (kcell (c, k)) 0) ∗ ats c
    ∗ (bigSep Finset.univ fun k : CI => reached (D := Fin 4) ER (kcell (c, k)) 0) ∗ toks c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CI => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks toks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G ats; simp only [bigSep_sep']
  isplitl [Hst']; · iexact Hst'
  isplitl [Hat']; · iexact Hat'
  isplitl [Hr']; · iexact Hr'
  iexact Htok'

/-! ## The semaphores at zero -/

def sems : sProp 𝕄 := bigSep Finset.univ fun k : CI => semVal (kcell (c, k)) 0
def spares : sProp 𝕄 := iprop(idle3 c ∗ semVal (cS c 0) 0 ∗ semVal (cS c 1) 0)

theorem unscoped_eq : (unscopedSems0 c : sProp 𝕄) = semVal (bCell c) 0 := by
  unfold unscopedSems0; rw [bigSep_eq_bigSepL_of_eq [SemLoc.reg barS] (by decide +kernel) (by decide)]; rfl
theorem five {Φ : Fin 5 → sProp 𝕄} : bigSep Finset.univ Φ = iprop(Φ 0 ∗ Φ 1 ∗ Φ 2 ∗ Φ 3 ∗ Φ 4) :=
  bigSep_univ_eq_bigSepL [0, 1, 2, 3, 4] (by decide) (by decide) Φ
theorem own_eq : (Pipeline.ownSems0 (Ix := Unit) (Name := ℕ) (U := UU) (Lvl := ℕ) (Val := Elt F) (τ := τ) osem c : sProp 𝕄)
    = iprop((bigSep Finset.univ fun k => semVal (kcell (c, .inl k)) 0) ∗ semVal (zCell c) 0
        ∗ semVal ((c : Thread nD τ), .dma (inS 0)) 0 ∗ semVal ((c : Thread nD τ), .dma (inS 1)) 0 ∗ semVal ((c : Thread nD τ), .dma locS) 0
        ∗ semVal (cS c 0) 0 ∗ semVal (cS c 1) 0) := by
  unfold Pipeline.ownSems0
  rw [BI.bigSep_univ_sum, BI.bigSep_univ_sum (fun k : Fin 1 ⊕ Fin 5 => semVal ((c : Thread nD τ), osem (.inr k)) 0), five,
    bigSep_univ_eq_bigSepL [(0 : Fin 1)] (by decide) (by decide)]
  rfl
theorem sems_eq : sems (F := F) c = iprop((bigSep Finset.univ fun k => semVal (kcell (c, .inl k)) 0) ∗ semVal (bCell c) 0 ∗ semVal (zCell c) 0) := by
  unfold sems; rw [BI.bigSep_univ_sum, two]; rfl
theorem sems_in : iprop(Pipeline.ownSems0 (Ix := Unit) (Name := ℕ) (U := UU) (Lvl := ℕ) (Val := Elt F) (τ := τ) osem c ∗ unscopedSems0 c) ⊢ iprop(sems c ∗ spares c) := by
  rw [own_eq, unscoped_eq, sems_eq]
  unfold spares idle3
  iintro ⟨⟨H1, H2, H3, H4, H5, H6, H7⟩, H8⟩
  isplitl [H1 H2 H8]
  · isplitl [H1]; · iexact H1
    isplitl [H8]; · iexact H8
    iexact H2
  isplitl [H3 H4 H5]
  · isplitl [H3]; · iexact H3
    isplitl [H4]; · iexact H4
    iexact H5
  isplitl [H6]; · iexact H6
  iexact H7
theorem sems_out : iprop(sems c ∗ spares c) ⊢ iprop(unscopedSems0 c ∗ Pipeline.ownSems0 (Ix := Unit) (Name := ℕ) (U := UU) (Lvl := ℕ) (Val := Elt F) (τ := τ) osem c) := by
  rw [own_eq, unscoped_eq, sems_eq]
  unfold spares idle3
  iintro ⟨⟨H1, H8, H2⟩, ⟨H3, H4, H5⟩, H6, H7⟩
  isplitl [H8]; · iexact H8
  isplitl [H1]; · iexact H1
  isplitl [H2]; · iexact H2
  isplitl [H3]; · iexact H3
  isplitl [H4]; · iexact H4
  isplitl [H5]; · iexact H5
  isplitl [H6]; · iexact H6
  iexact H7

/-! ## The global step -/

theorem core_alloc :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : CI => reached (D := Fin 4) ER (kcell (c, k)) 0) ∗ spares c ∗ ats c ∗ toks c) := by
  unfold G
  iintro ⟨Hos, Hus, Hst, Hat, Hr, Htok⟩
  ihave Hv := (sems_in (F := F) c) $$ [Hos Hus]
  · isplitl [Hos] <;> iassumption
  icases Hv with ⟨Hv, Hsp⟩
  imod (show iprop(sems c ∗ bigSep Finset.univ fun k : CI => roundState ER (Rd m) (kcell (c, k)) 0)
      ⊢ (|={Set.univ}=> bigSep Finset.univ fun k => iprop(∃ κ : ℕ, cellInv ER (Rd m) κ (kcell (c, k))) : sProp 𝕄) from by
        unfold sems
        rw [← bigSep_sep']
        exact (mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hsp]; · iexact Hsp
  isplitl [Hat]; · iexact Hat
  iexact Htok

/-- The tokens of the duties device `c` pays. -/
def payToks : sProp 𝕄 :=
  iprop((bigSep Finset.univ fun e : Fin 34 => dutyTok ER (sCell c e) 0 (0 : Fin 4)) ∗ (bigSep Finset.univ fun e : Fin 34 => dutyTok ER (rCell (tgt e c) e) 0 (0 : Fin 4))
    ∗ (bigSep Finset.univ fun i : Fin 4 => dutyTok ER (bCell (nb i c)) 0 i) ∗ endToks c)
theorem toks_eq : toks (F := F) c = iprop(((bigSep Finset.univ fun e : Fin 34 => dutyTok ER (sCell c e) 0 (0 : Fin 4)) ∗ (bigSep Finset.univ fun e : Fin 34 => dutyTok ER (rCell c e) 0 (0 : Fin 4)))
    ∗ (bigSep Finset.univ fun i : Fin 4 => dutyTok ER (bCell c) 0 i) ∗ (bigSep Finset.univ fun i : Fin 4 => dutyTok ER (zCell c) 0 i)) := by
  unfold toks
  rw [BI.bigSep_univ_sum, BI.bigSep_univ_sum, bigSep_univ_prod, two]; rfl

/-- Dealing per-cell tokens to the device that pays: a bijection of the devices for every kind. -/
theorem deal {J : Type} [Fintype J] (f g : J → Dev nD → Dev nD) (h1 : ∀ j c, g j (f j c) = c) (h2 : ∀ j c, f j (g j c) = c) (Φ : J → Dev nD → sProp 𝕄) :
    (bigSep Finset.univ fun c : Dev nD => bigSep Finset.univ fun j : J => Φ j c) = bigSep Finset.univ fun c : Dev nD => bigSep Finset.univ fun j : J => Φ j (f j c) := by
  rw [bigSep_univ_comm, bigSep_univ_comm (fun (c : Dev nD) (j : J) => Φ j (f j c))]
  exact bigSep_congr fun j _ => bigSep_univ_equiv ⟨f j, g j, h1 j, h2 j⟩ (Φ j)

theorem toks_around : (bigSep Finset.univ fun c : Dev nD => toks (F := F) c) ⊢ bigSep Finset.univ fun c : Dev nD => payToks c := by
  simp only [toks_eq]
  unfold payToks endToks
  simp only [bigSep_sep']
  rw [deal tgt from' from_tgt tgt_from (fun e c => dutyTok ER (rCell c e) 0 (0 : Fin 4)),
    deal nb bn bn_nb nb_bn (fun i c => dutyTok ER (bCell c) 0 i), deal nb bn bn_nb nb_bn (fun i c => dutyTok ER (zCell c) 0 i)]
  iintro ⟨⟨H1, H2⟩, H3, H4⟩
  isplitl [H1]; · iexact H1
  isplitl [H2]; · iexact H2
  isplitl [H3]; · iexact H3
  iexact H4

/-- The invariants and the first rounds of every cell. -/
def Recs : sProp 𝕄 :=
  iprop((bigSep Finset.univ fun k : Dev nD × CI => cellInv ER (Rd m) (K k) (kcell k))
    ∗ (bigSep Finset.univ fun k : Dev nD × CI => reached (D := Fin 4) ER (kcell k) 0))
instance Recs_persistent : BI.Persistent (Recs (F := F) m K) := by
  haveI := reached_persistent (F := F); haveI := invs_persistent m K
  unfold Recs; infer_instance
def own : sProp 𝕄 := iprop(spares (F := F) c ∗ ats c ∗ payToks c)
def G' : sProp 𝕄 := iprop(∃ K, Recs m K ∗ own c)

theorem regroup :
    (bigSep Finset.univ fun c : Dev nD => iprop((bigSep Finset.univ fun k => iprop(∃ κ : ℕ, cellInv ER (Rd m) κ (kcell (c, k))))
          ∗ (bigSep Finset.univ fun k : CI => reached (D := Fin 4) ER (kcell (c, k)) 0) ∗ spares c ∗ ats c ∗ toks c) : sProp 𝕄)
      ⊢ bigSep Finset.univ (G' m) := by
  simp only [bigSep_sep']
  rw [← bigSep_univ_prod (fun ck : Dev nD × CI => iprop(∃ κ : ℕ, cellInv ER (Rd m) κ (kcell ck))),
    ← bigSep_univ_prod (fun ck : Dev nD × CI => (reached (D := Fin 4) ER (kcell ck) 0 : sProp 𝕄))]
  iintro ⟨HI, #HR, Hsp, Hat, Htok⟩
  ihave HK := (BI.bigSep_exists_pi Finset.univ (fun (ck : Dev nD × CI) (κ : ℕ) => (cellInv ER (Rd m) κ (kcell ck) : sProp 𝕄))) $$ HI
  icases HK with ⟨%K, #HI⟩
  ihave Htk := (toks_around (F := F)) $$ Htok
  iapply (BI.bigSep_with_persistent (R := Recs m K) (Φ := own) (Ψ := G' m) fun c _ => by
    unfold G'
    iintro ⟨H1, H2⟩
    iexists K
    isplitl [H1]; · iexact H1
    iexact H2)
  isplitr
  · unfold Recs; isplitl; · iexact HI
    iexact HR
  · unfold own; simp only [bigSep_sep']
    isplitl [Hsp]; · iexact Hsp
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((mono fun c _ => core_alloc m c).trans (bigSep_fupd _ _)).trans (BI.fupd_mono (regroup m))

/-! ## The credit each cell starts with -/

theorem unsent_all : unsent 0 = Finset.univ := by decide +kernel
theorem unsig_all : unsig 0 = Finset.univ := by decide +kernel
theorem unend_all : unend 0 = Finset.univ := by decide +kernel

theorem cell_dev {s s' : SemLoc sig} {a b : Dev nD} (h : (((a : Thread nD τ), s) : GSem nD τ sig) = ((b : Thread nD τ), s')) : a = b ∧ s = s' :=
  ⟨congrArg (fun g : GSem nD τ sig => g.1.1) h, congrArg Prod.snd h⟩
theorem recvS_inj : ∀ e e' : Fin 34, recvS e = recvS e' → e = e' := by decide +kernel

/-- What device `d` owes at the start, at one cell. -/
theorem dues_at (d : Dev nD) (g : GSem nD τ sig) : dues 0 d g ()
    = (∑ e : Fin 34, if g = rCell (tgt e d) e then N else 0) + (∑ i : Fin 4, if g = zCell (nb i d) then 1 else 0) + (∑ i : Fin 4, if g = bCell (nb i d) then 1 else 0) := by
  unfold dues
  rw [unsent_all, unsig_all, unend_all]
  simp only [Pi.add_apply, Finsupp.add_apply, Finset.sum_apply, Finsupp.finsetSum_apply, tallyAt_apply, and_true]

theorem launch_eq (g : GSem nD τ sig) (n : ℕ) (h : ∑ d, dues 0 d g () = n) :
    tallyOn g (launchCredit (Pipeline.owing (dues 0)) 0 g) = (tallyAt g () n : CellTallies nD τ sig Unit) := by
  unfold tallyAt; refine congrArg _ (Finsupp.ext fun u => ?_); cases u
  rw [Pipeline.launchCredit_owing, Finsupp.single_eq_same]; exact h

theorem owed_r (e : Fin 34) : ∑ d, dues 0 d (rCell c e) () = N := by
  have h (d : Dev nD) : dues 0 d (rCell c e) () = if d = from' e c then N else 0 := by
    rw [dues_at, Finset.sum_eq_zero (s := Finset.univ) (f := fun i : Fin 4 => if rCell c e = zCell (nb i d) then 1 else 0)
        (fun i _ => if_neg fun h => by have := (cell_dev h).2; simp at this),
      Finset.sum_eq_zero (s := Finset.univ) (f := fun i : Fin 4 => if rCell c e = bCell (nb i d) then 1 else 0)
        (fun i _ => if_neg fun h => by have := (cell_dev h).2; simp at this),
      Finset.sum_eq_single e (fun e' _ hne => if_neg fun h => hne (recvS_inj _ _ (SemLoc.dma.inj (cell_dev h).2)).symm) (fun h => absurd (Finset.mem_univ e) h)]
    by_cases hd : d = from' e c
    · rw [if_pos hd, hd, tgt_from, if_pos rfl, Nat.add_zero, Nat.add_zero]
    · rw [if_neg hd, if_neg fun h => hd (by rw [(cell_dev h).1, from_tgt]), Nat.add_zero, Nat.add_zero]
  rw [Finset.sum_congr rfl fun d _ => h d, Finset.sum_ite_eq' Finset.univ (from' e c) fun _ => N, if_pos (Finset.mem_univ _)]

theorem count (g : Dev nD → GSem nD τ sig) (hg : ∀ a b, g a = g b → a = b) : (∑ d : Dev nD, ∑ i : Fin 4, if g c = g (nb i d) then 1 else 0) = 4 := by
  rw [Finset.sum_comm, Finset.sum_congr rfl fun i _ => show (∑ d : Dev nD, if g c = g (nb i d) then 1 else 0) = 1 from by
    rw [Finset.sum_eq_single (bn i c) (fun d _ hne => if_neg fun h => hne (by rw [hg _ _ h, bn_nb])) (fun h => absurd (Finset.mem_univ _) h),
      nb_bn, if_pos rfl]]
  rfl
theorem owed_b : ∑ d, dues 0 d (bCell c) () = 4 := by
  rw [Finset.sum_congr rfl fun d _ => show dues 0 d (bCell c) () = ∑ i : Fin 4, if bCell c = bCell (nb i d) then 1 else 0 from by
    rw [dues_at, Finset.sum_eq_zero (s := Finset.univ) (f := fun e : Fin 34 => if bCell c = rCell (tgt e d) e then N else 0)
        (fun i _ => if_neg fun h => by have := (cell_dev h).2; simp at this),
      Finset.sum_eq_zero (s := Finset.univ) (f := fun i : Fin 4 => if bCell c = zCell (nb i d) then 1 else 0)
        (fun i _ => if_neg fun h => absurd (cell_dev h).2 (by decide)), Nat.zero_add, Nat.zero_add]]
  exact count c bCell fun a b h => (cell_dev h).1
theorem owed_z : ∑ d, dues 0 d (zCell c) () = 4 := by
  rw [Finset.sum_congr rfl fun d _ => show dues 0 d (zCell c) () = ∑ i : Fin 4, if zCell c = zCell (nb i d) then 1 else 0 from by
    rw [dues_at, Finset.sum_eq_zero (s := Finset.univ) (f := fun e : Fin 34 => if zCell c = rCell (tgt e d) e then N else 0)
        (fun i _ => if_neg fun h => by have := (cell_dev h).2; simp at this),
      Finset.sum_eq_zero (s := Finset.univ) (f := fun i : Fin 4 => if zCell c = bCell (nb i d) then 1 else 0)
        (fun i _ => if_neg fun h => absurd (cell_dev h).2 (by decide)), Nat.zero_add, Nat.add_zero]]
  exact count c zCell fun a b h => (cell_dev h).1

/-- The semaphores on which a device has something to wait for from others. -/
def inSem : Fin 34 ⊕ Fin 2 → SemLoc sig
  | .inl e => .dma (recvS e)
  | .inr 0 => .reg barS
  | .inr 1 => .reg endS
theorem inSem_inj : Function.Injective inSem := by unfold Function.Injective; decide +kernel
def creds : sProp 𝕄 :=
  iprop((bigSep Finset.univ fun e : Fin 34 => cred (tallyAt (rCell c e) () N)) ∗ cred (tallyAt (bCell c) () 4) ∗ cred (tallyAt (zCell c) () 4))
theorem creds_intro : (Pipeline.launchCred (dues 0) c : sProp 𝕄) ⊢ creds c := by
  unfold Pipeline.launchCred creds
  refine Entails.trans (BI.bigSep_subset (Finset.subset_univ (Finset.univ.map ⟨inSem, inSem_inj⟩))) (Entails.of_eq ?_)
  rw [bigSep_map, BI.bigSep_univ_sum, two]
  rw [← launch_eq (bCell c) 4 (owed_b c), ← launch_eq (zCell c) 4 (owed_z c)]
  congr 1
  exact bigSep_congr fun e _ => by rw [← launch_eq (rCell c e) N (owed_r c e)]; rfl

/-! ## What a device enters and leaves its body with -/

def scrs : sProp 𝕄 :=
  iprop(scr (F := F) c cc0_scratch0 ∗ scr c cc0_scratch1 ∗ scr c cc0_scratch2 ∗ scr c cc0_scratch3 ∗ scr c cc0_scratch4 ∗ scr c cc0_scratch5 ∗ scr c cc0_scratch6)
def start : sProp 𝕄 := iprop((∃ K, Pers m K) ∗ own c ∗ creds c ∗ A0 m c ∗ A1 m c ∗ scr c main_v1)
def Φ₀ : sProp 𝕄 := iprop(start m c ∗ scrs c)
def results : sProp 𝕄 := iprop(A0 m c ∗ A1 m c ∗ wh c main_v1 (OUT m))
def Φ₁ : sProp 𝕄 := iprop(results m c ∗ (sems c ∗ spares c) ∗ scrs c)

theorem ats_eq : ats (F := F) c = iprop(((bigSep Finset.univ fun e : Fin 34 => atPos (D := Fin 4) ER (sCell c e) 0 ∅ 0) ∗ (bigSep Finset.univ fun e : Fin 34 => atPos (D := Fin 4) ER (rCell c e) 0 ∅ 0))
    ∗ atPos (D := Fin 4) ER (bCell c) 0 ∅ 0 ∗ atPos (D := Fin 4) ER (zCell c) 0 ∅ 0) := by
  unfold ats; rw [BI.bigSep_univ_sum, BI.bigSep_univ_sum, two]; rfl
theorem flying_start : flying 0 = ∅ := by decide +kernel
theorem undone_all : undone 0 = Finset.univ := by decide +kernel
theorem left_none : left 0 = ∅ := by decide +kernel
theorem awaited_all : awaited 0 = Finset.univ := by decide +kernel
theorem arrived_none : arrived 0 = ∅ := by decide +kernel
theorem Fs_intro : iprop((bigSep Finset.univ fun e : Fin 34 => dutyTok ER (sCell c e) 0 (0 : Fin 4)) ∗ (bigSep Finset.univ fun e : Fin 34 => dutyTok ER (rCell (tgt e c) e) 0 (0 : Fin 4))
      ∗ (bigSep Finset.univ fun e : Fin 34 => atPos (D := Fin 4) ER (sCell c e) 0 ∅ 0)) ⊢ Fs (F := F) 0 c := by
  unfold Fs
  rw [unsent_all, flying_start, undone_all, left_none, BI.bigSep_empty, BI.bigSep_empty, bigSep_sep']
  iintro ⟨H1, H2, H3⟩
  isplitl [H1 H2]
  · isplitl [H1]; · iexact H1
    iexact H2
  isplitr; · iempintro
  isplitl [H3]; · iexact H3
  iempintro
theorem Fr_intro : iprop((bigSep Finset.univ fun e : Fin 34 => cred (tallyAt (rCell c e) () N)) ∗ (bigSep Finset.univ fun e : Fin 34 => atPos (D := Fin 4) ER (rCell c e) 0 ∅ 0)) ⊢ Fr (F := F) 0 c := by
  unfold Fr
  rw [awaited_all, arrived_none, BI.bigSep_empty, bigSep_sep']
  iintro ⟨H1, H2⟩
  isplitl [H1 H2]
  · isplitl [H1]; · iexact H1
    iexact H2
  iempintro

theorem enter (W) : iprop(Pers m K ∗ own c ∗ creds c ∗ (A0 m c ∗ A1 m c ∗ scr c main_v1) ∗ scrs c ∗ owes (c : Thread nD τ) (dues 0 c) W ∗ wh c cc0_stg0_0 (Gm m c)) ⊢ Init m K c := by
  unfold Init own creds payToks spares scrs Fo
  rw [ats_eq]
  iintro ⟨HP, ⟨⟨Hi, Hc0, Hc1⟩, ⟨⟨Has, Har⟩, Hab, Haz⟩, Hts, Htr, Htb, Htz⟩, ⟨Hcr, Hcb, Hcz⟩, HA, HS, HO, Hg⟩
  isplitl [HP]; · iexact HP
  isplitl [Has Har Hts Htr Hcr HO]
  · isplitl [Hts Htr Has]
    · iapply Fs_intro
      isplitl [Hts]; · iexact Hts
      isplitl [Htr]; · iexact Htr
      iexact Has
    isplitl [Hcr Har]
    · iapply Fr_intro
      isplitl [Hcr]; · iexact Hcr
      iexact Har
    iexists W; iexact HO
  isplitl [Htb]; · iexact Htb
  isplitl [Hcb Hab]
  · isplitl [Hcb]; · iexact Hcb
    iexact Hab
  isplitl [Htz Hcz Haz]
  · isplitl [Htz]; · iexact Htz
    isplitl [Hcz]; · iexact Hcz
    iexact Haz
  isplitl [HA]; · iexact HA
  isplitl [Hg]; · iexact Hg
  isplitl [HS]; · iexact HS
  isplitl [Hi]; · iexact Hi
  isplitl [Hc0]; · iexact Hc0
  iexact Hc1

/-- Every cell of a device has had its one round, so its semaphore is back at zero. -/
theorem close_all : iprop(Pers m K ∗ over c ∗ atPos (D := Fin 4) ER (bCell c) 1 ∅ 0 ∗ atPos (D := Fin 4) ER (zCell c) 1 ∅ 0) ⊢ |={Set.univ}=> sems c := by
  have h : iprop(Pers m K ∗ bigSep Finset.univ fun k : CI => atPos (D := Fin 4) ER (kcell (c, k)) 1 ∅ 0) ⊢ |={Set.univ}=> sems c := by
    unfold sems
    refine BI.Entails.trans (BI.bigSep_with_persistent (R := Pers m K) (Ψ := fun k : CI => iprop(|={Set.univ}=> semVal (kcell (c, k)) 0)) fun k _ => ?_) (bigSep_fupd _ _)
    iintro ⟨#HP, Ha⟩
    ihave #HI := (inv_at m K (c, k)) $$ HP
    iapply (Rounds.cell_close ER (Rd m) (Set.mem_univ (K (c, k))) (fun h => h) (R := 0 + 1) (duties_later m (kcell (c, k))))
    isplitr; · iexact HI
    iexact Ha
  have hs : (bigSep Finset.univ fun k : CI => atPos (D := Fin 4) (ER : Emb UB 𝕄) (kcell (c, k)) 1 ∅ 0) = iprop(over c ∗ atPos (D := Fin 4) ER (bCell c) 1 ∅ 0 ∗ atPos (D := Fin 4) ER (zCell c) 1 ∅ 0) := by
    unfold over; rw [BI.bigSep_univ_sum, BI.bigSep_univ_sum, two]; rfl
  rw [hs] at h
  exact h

theorem leave : Done m K c ⊢ |={Set.univ}=> iprop(Φ₁ m c ∗ Fo 218 c ∗ wh c cc0_stg0_0 (Gm m c)) := by
  unfold Done Φ₁ results spares scrs
  iintro ⟨#HP, Hov, Hb, Hz, HO, HA, Hg, HS, Hi, Hc0, Hc1⟩
  imod (close_all m K c) $$ [Hov Hb Hz] with Hs
  · isplitr; · iexact HP
    isplitl [Hov]; · iexact Hov
    isplitl [Hb]; · iexact Hb
    iexact Hz
  imodintro
  isplitr [HO Hg]
  · isplitl [HA]; · iexact HA
    isplitl [Hs Hi Hc0 Hc1]
    · isplitl [Hs]; · iexact Hs
      isplitl [Hi]; · iexact Hi
      isplitl [Hc0]; · iexact Hc0
      iexact Hc1
    iexact HS
  isplitl [HO]; · iexact HO
  iexact Hg

/-! ## The proof data of the one region -/

def dats (_ : Fin 1) (c : Dev nD) : Dat τ (Elt F) Unit ℕ UU ℕ cfg0 c where
  A w := m ((cfg0.win w).arr.view.loc (c : Thread nD τ))
  after w _ := match w with
    | ⟨0, _⟩ => Gm m c
  Φ t := match t with
    | ⟨0, _⟩ => Φ₀ m c
    | ⟨_ + 1, _⟩ => Φ₁ m c
  q _ := fullShare
  owed t := match t with
    | ⟨0, _⟩ => dues 0 c
    | ⟨_ + 1, _⟩ => 0

theorem share_eq (w : Fin cfg0.W) : (dats m 0 c).share w = fullShare := by unfold Dat.share; split <;> rfl

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))
def bodyPre : sProp 𝕄 :=
  iprop(Φ₀ m c ∗ (dats m 0 c).owesAt () t0_0.castSucc ∗ (∃ d, stg c cc0_stg0_0 ((dats m 0 c).before (0 : Fin 1) t0_0 d)))
def bodyPost : sProp 𝕄 := iprop(Φ₁ m c ∗ (dats m 0 c).owesAt () t0_0.succ ∗ stg c cc0_stg0_0 (Gm m c))

theorem owns_stg (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

theorem after : iprop(Φ₁ m c ∗ Fo 218 c ∗ wh c cc0_stg0_0 (Gm m c)) ⊢ bodyPost m c := by
  unfold bodyPost Fo Dat.owesAt Pipeline.owesWithin
  rw [dues_over]
  iintro ⟨HΦ, ⟨%W, HO⟩, Hg⟩
  isplitl [HΦ]; · iexact HΦ
  isplitl [HO]
  · iexists W
    isplitr; · ipureintro; exact fun _ _ => Or.inl trivial
    iexact HO
  iexists (Gm m c)
  isplitr; · ipureintro; rfl
  iexact Hg

/-- A body ending in `Done` ends in what the region leaves. -/
theorem into_post {p : Prog (TpuEff nD τ sig (Elt F) Λ₀ .tc) PUnit} (h : Init m K c ⊢ wpc c p (fun _ => Done m K c)) :
    Init m K c ⊢ wpc c p (fun _ => bodyPost m c) :=
  (h.trans (wp_mono _ _ _ fun _ => (leave m K c).trans (BI.fupd_mono (after m c)))).trans (wp_fupd _ _ _ _ _)

attribute [local irreducible] cc0_body

theorem sound : bodyPre m c ⊢ wpc c (onBufs (cc0_body (F := F))) (fun _ => bodyPost m c) := by
  unfold bodyPre Φ₀ start Dat.owesAt Pipeline.owesWithin
  iintro ⟨⟨⟨⟨%K, HP⟩, Ho, Hc, HA⟩, HS⟩, ⟨%W, %hW, HO⟩, ⟨%d0, %g0, %hg0, Hg⟩⟩
  have hx : g0 = Gm m c := by rw [hg0]; unfold Dat.before; rw [if_pos (fetch0_0 t0_0)]; rfl
  subst hx
  iapply (into_post m K c (body m K))
  iapply (enter m K c W)
  isplitl [HP]; · iexact HP
  isplitl [Ho]; · iexact Ho
  isplitl [Hc]; · iexact Hc
  isplitl [HA]; · iexact HA
  isplitl [HS]; · iexact HS
  isplitl [HO]; · iexact HO
  iexact Hg

theorem body_obligation (c : Dev nD) : BodyObligation (dats (F := F) m 0 c) (defs₀ (F := F)) 𝒱₀ () Set.univ := fun t => by
  rw [fin_N0 t]
  rw [bigSep_W0, bigSep_W0]
  simp only [owns_stg]
  show bodyPre m c ⊢ wp frame (wpE (defs₀ (F := F)) 𝒱₀ (c : Thread nD τ) none) Set.univ (onBufs (cc0_body (F := F))) (fun _ => bodyPost m c)
  exact sound m c

/-! ## The run -/

theorem start_intro :
    iprop(Pipeline.unscopedRestP Pipeline.Prefetch.none cfg0.spec c (fun b => m ((c : Thread nD τ).loc b)) ∗ levAts L lv
        ∗ Pipeline.launchCred (dues 0) c ∗ prngReg c (ρ c) ∗ G' m c)
      ⊢ |={Set.univ}=> iprop(start m c ∗ emp) := by
  rw [Pipeline.unscopedRestP_none, unscopedRest0_eq]
  unfold start G' Recs Pers scr
  iintro ⟨⟨H0, H1, H2⟩, Hlev, Hcr, -, ⟨%K, ⟨HI, HR⟩, Ho⟩⟩
  ihave Hc := (creds_intro (F := F) c) $$ Hcr
  imodintro
  isplitl
  · isplitl [Hlev HI HR]
    · iexists K
      isplitl [HI]; · iexact HI
      isplitl [HR]; · iexact HR
      iexact Hlev
    isplitl [Ho]; · iexact Ho
    isplitl [Hc]; · iexact Hc
    isplitl [H0]; · iexact H0
    isplitl [H1]; · iexact H1
    iexists _; iexact H2
  · iempintro

theorem phi0_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrs scr
  iintro ⟨Hs, -, Hr⟩
  isplitl [Hs]; · iexact Hs
  iexact Hr

theorem phi1_exit :
    (dats m 0 c).Φ (Fin.last cfg0.N) ⊢ iprop((results m c ∗ unscopedSems0 c) ∗ Pipeline.ownSems0 osem c ∗ Pipeline.scopedRest cfg0.spec c) := by
  rw [show (dats m 0 c).Φ (Fin.last cfg0.N) = Φ₁ m c from rfl, scopedRest0_eq]
  unfold Φ₁ scrs scr
  iintro ⟨HR, Hs, HS⟩
  ihave Hs := (sems_out (F := F) c) $$ Hs
  icases Hs with ⟨Hu, Ho⟩
  isplitl [HR Hu]
  · isplitl [HR]; · iexact HR
    iexact Hu
  isplitl [Ho]; · iexact Ho
  iexact HS

theorem waits : (levAts L lv : sProp 𝕄) ⊢ Pipeline.cellsWaits cfgs (dats m) () 0 c :=
  Pipeline.cellsWaits_intro cfgs (dats m) () 0 c fun w s t => by
    have h : recvOf ((cfgs 0).win w |>.sem s) = none := by revert w s; decide +kernel
    rcases t with ⟨_ | _, ht⟩
    · exact mayWait_zero 0 _ h
    · show _ ⊢ MayWait _ _ _ 0
      rw [← dues_over (c := c)]
      exact mayWait_zero 218 _ h

/-- What the run leaves on device `c`. -/
def QY (c : Dev nD) (s : MemSt nD τ sig (Elt F)) : Prop :=
  (s.mem ((c : Thread nD τ).loc main_v1) = OUT m ∧ s.mem ((c : Thread nD τ).loc main_arg0) = m ((c : Thread nD τ).loc main_arg0)
    ∧ s.mem ((c : Thread nD τ).loc main_arg1) = m ((c : Thread nD τ).loc main_arg1))
  ∧ ∀ sm : SemLoc sig, sm.isScoped .tc = false → s.sem ((c.tc : Thread nD τ), sm) = 0

theorem read_out (s' : Phys nD τ sig (Elt F)) : iprop((results m c ∗ unscopedSems0 c) ∗ emp ∗ SI s') ⊢ (|={Set.univ}=> iprop(⌜QY m c s'.mem⌝ ∗ SI s') : sProp 𝕄) := by
  unfold results
  iintro ⟨⟨⟨H0, H1, H2⟩, Hu⟩, -, HSI⟩
  icombine HSI H0 gives %h0
  icombine HSI H1 gives %h1
  icombine HSI H2 gives %h2
  imod (Pipeline.unscopedSems0_read (X := unscopedSems0 c) (c := c) fupd_intro s') $$ [Hu HSI] with ⟨%hs, HSI⟩
  · isplitl [Hu] <;> iassumption
  imodintro
  isplitr
  · ipureintro
    exact ⟨⟨Buf.eq_of_forall_mem_univ h2, Buf.eq_of_forall_mem_univ h0, Buf.eq_of_forall_mem_univ h1⟩, hs⟩
  iexact HSI

/-- Every run of the thirty-two devices ends; the result is everywhere the same array, the arguments are as they were
    and every semaphore is at zero. -/
theorem run_main : θ_run defs (onTc (τ := τ) (main (F := F))) ⟨m, fun _ => 0, ρ⟩ (fun r => (∀ c : Dev nD,
      r.2.mem ((c.tc : Thread nD τ).loc main_v1) = OUT m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := block_pos0) (harr := arr_whole0) (hstage := stage_whole0) (hshare := share_eq m)
    (hdistinct := winFacts0.arr_inj)
    (O₀ := dues 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (own_split _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(results m c ∗ unscopedSems0 c)) (Z := fun _ => iprop(emp))
    (hX := start_intro m ρ) (hin := phi0_intro m) (hout := phi1_exit m)
    (QY := QY m) (hY := read_out m)
    (hQ := fun s h hs => ⟨fun c => ⟨(h c).2.2.1.1, (h c).2.2.1.2.1, (h c).2.2.1.2.2,
        ((h c).1 0).trans ((dats m 0 c).arrAt_in 0 rfl _)⟩, sem_eq_zero hs fun c => (h c).2.2.2⟩)

end Cert.IdealRun

end
-- ==== Proof.Values.lean ====
/-
What the run leaves in the output, over the extended reals: the root-mean-square normalisation of the sum of the four
partial arrays and the residual, scaled by the weights — and the reference's result is the same array.
-/
module

public import proofs.«01_k».proof.Proof.IdealRun.Common
public import proofs.«01_k».proof.Proof.Gen.ReferenceIdeal.Run
public import Idealize.ShloMosaic.Lib.Pipeline.Value
public import Idealize.ShloMosaic.Lib.Pointwise.Tactic
public import Idealize.ShloMosaic.Lib.Pointwise.Reduce
public import Idealize.ShloMosaic.Lib.Pointwise.Reshape
public import Idealize.ShloMosaic.Lib.Layout

@[expose] public section

set_option maxRecDepth 4000

noncomputable section

namespace Cert.Values

open Idealize.ShloMosaic Idealize.ShloMosaic.TcCoe

/-! ## The scalar law -/

theorem square_nonneg (y : EReal) : 0 ≤ y * y := by
  induction y with
  | bot => rw [EReal.bot_mul_bot]; exact le_top
  | top => rw [EReal.top_mul_top]; exact le_top
  | coe r => exact_mod_cast mul_self_nonneg r

/-- Multiplying by the reciprocal root of a positive number divides by its root. -/
theorem mul_rsqrt (y v : EReal) (hv : 0 < v) : y * Ideal.rsqrt v = Ideal.div y (Ideal.sqrt v) := by
  induction v with
  | bot => exact absurd hv (by simp)
  | top => rw [Ideal.rsqrt_top, Ideal.sqrt_top, Ideal.div, if_neg (by simp), EReal.inv_top]
  | coe r =>
    have hr : 0 < r := by exact_mod_cast hv
    have hs : Real.sqrt r ≠ 0 := (Real.sqrt_pos.mpr hr).ne'
    rw [Ideal.rsqrt_coe, Ideal.sqrt_coe, if_neg (not_lt.mpr hr.le), if_neg hr.ne', if_neg (not_lt.mpr hr.le), Ideal.div_coe hs, one_div]

abbrev width : EReal := Ideal.ofBits .f32 0x45800000#32
abbrev eps : EReal := Ideal.ofBits .f32 0x358637BD#32

theorem width_eq : width = ((4096 : ℝ) : EReal) := by
  simp [width, Ideal.ofBits, Ideal.ieee, -EReal.coe_mul]; norm_num
theorem eps_pos : 0 < eps := by
  simp [eps, Ideal.ofBits, Ideal.ieee, -EReal.coe_mul]

theorem under_root (s : EReal) (hs : 0 ≤ s) : 0 < Ideal.div s width + eps := by
  have h : 0 ≤ Ideal.div s width := by
    rw [width_eq, Ideal.div_coe (by norm_num)]
    exact mul_nonneg hs (by exact_mod_cast (by norm_num : (0:ℝ) ≤ 1 / 4096))
  exact lt_of_lt_of_le eps_pos (by simpa using add_le_add_left h eps)

/-! ## The array both programs make -/

variable (P : Cert.ReferenceIdeal.S4x4096x4096.Idx → EReal) (R : Cert.ReferenceIdeal.S4096x4096.Idx → EReal) (g : Cert.ReferenceIdeal.S4096.Idx → EReal)

/-- The summed row, and the result. -/
def row (r k : Fin 4096) : EReal := (∑ b : Fin 4, P (ix3 b r k)) + R (ix2 r k)
def res (r k : Fin 4096) : EReal :=
  Ideal.div (row P R r k) (Ideal.sqrt (Ideal.div (∑ j : Fin 4096, row P R r j * row P R r j) width + eps)) * g (ix1 k)

theorem res_eq (r k : Fin 4096) :
    row P R r k * Ideal.rsqrt (Ideal.div (∑ j : Fin 4096, row P R r j * row P R r j) width + eps) * g (ix1 k) = res P R g r k := by
  unfold res
  rw [mul_rsqrt _ _ (under_root _ (Finset.sum_nonneg fun j _ => square_nonneg _))]

/-! ## The kernel's side -/

section Kernel
open Cert.KernelIdeal Cert.KernelIdeal.Gen Cert.IdealRun

variable (m : (ℓ : Loc nD τ sig) → Buf (Elt Ideal) ℓ)

theorem off1_eq : ∀ c : Dev nD, k0_off1 c = ![0, posOf c * 512, 0] := by decide +kernel
theorem off2_eq : ∀ c : Dev nD, k0_off2 c = ![posOf c * 512 + accRow c 3 * 128, 0] := by decide +kernel

theorem cast_at (v : S1x512x4096.Idx → EReal) (h : S1x512x4096.ShapeCasts S512x4096) (i : Fin 512) (k : Fin 4096) :
    shapeCast S512x4096 v h (ix2 i k) = v (ix3 0 i k) := by
  pointwise

theorem X_at (c : Dev nD) (i : Fin 512) (k : Fin 4096) :
    X m c (ix2 i k) = m ((c : Thread nD τ).loc main_arg0)
      (ix3 (n0 := 1) (n1 := 4096) (n2 := 4096) 0 ⟨posOf c * 512 + i.val, by have := posOf_lt c; omega⟩ k) := by
  unfold X xSrc
  rw [Memref.read_squeeze_slice _ _ _ _ (by decide : S1x512x4096.ShapeCasts S512x4096)]
  refine (cast_at _ _ i k).trans ?_
  show m ((c : Thread nD τ).loc main_arg0) ((Rect.unit (s := S1x4096x4096) (k0_off1 c) S1x512x4096.size (k0_off1_inb c)).idx (ix3 0 i k)) = _
  refine congrArg _ (funext fun a => Fin.ext ?_)
  fin_cases a
  · show k0_off1 c 0 + 1 * 0 = 0
    rw [off1_eq]; rfl
  · show k0_off1 c 1 + 1 * i.val = _
    rw [off1_eq, Nat.one_mul]; rfl
  · show k0_off1 c 2 + 1 * k.val = k.val
    rw [off1_eq, Nat.one_mul]; exact Nat.zero_add _

theorem Rr_at (c : Dev nD) (i : Fin 128) (k : Fin 4096) :
    Rr m c (ix2 i k) = m ((c : Thread nD τ).loc main_arg1)
      (ix2 (n0 := 4096) (n1 := 4096) ⟨posOf c * 512 + accRow c 3 * 128 + i.val, by have := posOf_lt c; have := accRow_lt c 3; omega⟩ k) := by
  unfold Rr rSrc
  show m ((c : Thread nD τ).loc main_arg1) ((Rect.unit (s := S4096x4096) (k0_off2 c) S128x4096.size (k0_off2_inb c)).emb (ix2 i k)) = _
  refine congrArg _ (funext fun a => Fin.ext ?_)
  rw [Rect.emb_apply]
  fin_cases a
  · show k0_off2 c 0 + 1 * i.val = _
    rw [off2_eq, Nat.one_mul]; rfl
  · show k0_off2 c 1 + 1 * k.val = k.val
    rw [off2_eq, Nat.one_mul]; exact Nat.zero_add _

theorem Gm_at (c : Dev nD) (k : Fin 4096) : Gm m c (ix1 k) = m ((c : Thread nD τ).loc main_arg2) (ix1 k) := by
  unfold Gm
  refine congrArg (m ((c : Thread nD τ).loc main_arg2)) (funext fun a => Fin.ext ?_)
  fin_cases a
  exact Pipeline.Window.rect_emb_val_of_index_zero win0_0 (0 : Fin 1) (0 : Fin 1) rfl (ix1 k)

theorem pay4_at (u : Vec Ideal S128x4096 .bf16) (v : S128x4096.Idx → Elt Ideal .bf16) (i : Fin 128) (k : Fin 4096) :
    (k0_pay4 (F := Ideal) u (lift v) (ix2 i k) : EReal) = u (ix2 i k) + v (ix2 i k) := by
  unfold k0_pay4 lift
  pointwise

theorem acc_at (c : Dev nD) (i : Fin 512) (k : Fin 4096) : (acc0 m c (ix2 i k) : EReal) = X m c (ix2 i k) := by
  unfold acc0 k0_pay1
  pointwise

theorem pay6_at (v : Vec Ideal S128x4096 .bf16) (w : Vec Ideal S128x4096 .f32) (i : Fin 128) (k : Fin 4096) :
    (k0_pay6 (F := Ideal) v w (ix2 i k) : EReal) = v (ix2 i k) + w (ix2 i k) := by
  unfold k0_pay6
  pointwise

theorem made_at (v : Vec Ideal S128x4096 .bf16) (w : Vec Ideal S128x4096 .f32) (q : Vec Ideal S4096 .f32) (i : Fin 128) (k : Fin 4096) :
    (k0_pay9 (F := Ideal) (k0_pay6 v w) (k0_pay7 v w) k0_pay8 q (ix2 i k) : EReal)
      = (v (ix2 i k) + w (ix2 i k)) * Ideal.rsqrt (Ideal.div (∑ j : Fin 4096, (v (ix2 i j) + w (ix2 i j)) * (v (ix2 i j) + w (ix2 i j))) width + eps)
        * q (ix1 k) := by
  unfold k0_pay9 k0_pay7 k0_pay8 k0_pay6
  pointwise

theorem V3_at (c : Dev nD) (i : Fin 128) (k : Fin 4096) :
    (V m 3 c (ix2 i k) : EReal) = (cut c 3 (X m c) (ix2 i k) : EReal) + ((cut (dn c) 2 (X m (dn c)) (ix2 i k) : EReal)
      + ((cut (dn (dn c)) 1 (X m (dn (dn c))) (ix2 i k) : EReal) + cut (dn (dn (dn c))) 0 (X m (dn (dn (dn c)))) (ix2 i k))) := by
  have h (c : Dev nD) : acc0 m c = X m c := funext fun j => by rw [eq_ix2 j]; exact acc_at m c _ _
  rw [show V m 3 c = k0_pay4 (cut c 3 (acc0 m c)) (lift (V m 2 (dn c))) from rfl, pay4_at,
    show V m 2 (dn c) = k0_pay4 (cut (dn c) 2 (acc0 m (dn c))) (lift (V m 1 (dn (dn c)))) from rfl, pay4_at,
    show V m 1 (dn (dn c)) = k0_pay4 (cut (dn (dn c)) 1 (acc0 m (dn (dn c)))) (lift (V m 0 (dn (dn (dn c))))) from rfl, pay4_at,
    show V m 0 (dn (dn (dn c))) = cut (dn (dn (dn c))) 0 (acc0 m (dn (dn (dn c)))) from rfl, h, h, h, h]

/-- A sum over the ring of four, taken from any row downwards. -/
theorem ring_sum (f : Fin 4 → EReal) (y y1 y2 y3 : Fin 4) (h1 : y1.val = (y.val + 3) % 4) (h2 : y2.val = (y1.val + 3) % 4) (h3 : y3.val = (y2.val + 3) % 4) :
    f y + (f y1 + (f y2 + f y3)) = ∑ b, f b := by
  have e1 : y1 = ⟨(y.val + 3) % 4, Nat.mod_lt _ (by decide)⟩ := Fin.ext h1
  have e2 : y2 = ⟨(y.val + 2) % 4, Nat.mod_lt _ (by decide)⟩ := Fin.ext (by show _ = (y.val + 2) % 4; omega)
  have e3 : y3 = ⟨(y.val + 1) % 4, Nat.mod_lt _ (by decide)⟩ := Fin.ext (by show _ = (y.val + 1) % 4; omega)
  rw [Fin.sum_univ_four, e1, e2, e3]
  fin_cases y
  · show f 0 + (f 3 + (f 2 + f 1)) = _
    abel
  · show f 1 + (f 0 + (f 3 + f 2)) = _
    abel
  · show f 2 + (f 1 + (f 0 + f 3)) = _
    abel
  · show f 3 + (f 2 + (f 1 + f 0)) = _
    abel

theorem rowOf_lt (c : Dev nD) : rowOf c < 4 := Nat.mod_lt _ (by decide)
theorem dn_ring : ∀ c : Dev nD, rowOf (dn c) = (rowOf c + 3) % 4 ∧ posOf (dn c) = posOf c
    ∧ accRow (dn c) 2 = accRow c 3 ∧ accRow (dn (dn c)) 1 = accRow c 3 ∧ accRow (dn (dn (dn c))) 0 = accRow c 3 := by decide +kernel
theorem maker_ring : ∀ t : Fin 32, posOf (maker t) * 512 + accRow (maker t) 3 * 128 = t.val * 128 := by decide +kernel

/-- The four stacked matrices are cut along the second mesh axis, one to a device. -/
theorem axes_pos : ∀ b : Fin 3, ∀ i ∈ (![[1], [], []] : Fin 3 → List Nat) b, 0 < [2, 4, 4].getD i 0 := by decide
theorem stack_tiles : Layout.TilesN ⟨3, ![1, 4096, 4096]⟩ ⟨3, ![4, 4096, 4096]⟩ (fun b : Fin 3 => Layout.cutSize [2, 4, 4] ((![[1], [], []] : Fin 3 → List Nat) b)) := by decide

variable (P : Cert.ReferenceIdeal.S4x4096x4096.Idx → EReal) (R : S4096x4096.Idx → EReal) (g : S4096.Idx → EReal)
variable (hP : ∀ c : Dev nD, m ((c : Thread nD τ).loc main_arg0) = Layout.blockN ⟨3, ![1, 4096, 4096]⟩ ⟨3, ![4, 4096, 4096]⟩ (Layout.meshBlock [2, 4, 4] ![[1], [], []] c axes_pos) P stack_tiles)
variable (hR : ∀ c : Dev nD, m ((c : Thread nD τ).loc main_arg1) = R) (hg : ∀ c : Dev nD, m ((c : Thread nD τ).loc main_arg2) = g)

include hP in
theorem part_at (c : Dev nD) (r k : Fin 4096) :
    m ((c : Thread nD τ).loc main_arg0) (ix3 (n0 := 1) (n1 := 4096) (n2 := 4096) 0 r k) = P (ix3 ⟨rowOf c, rowOf_lt c⟩ r k) := by
  rw [hP c, Layout.blockN_apply]
  refine congrArg P (funext fun a => Fin.ext ?_)
  rw [Layout.TilesN.idx_val]
  have h : ∀ c : Dev nD, Layout.meshLin [2, 4, 4] c.val [1] = rowOf c := by decide +kernel
  fin_cases a
  · show Layout.meshLin [2, 4, 4] c.val [1] * 1 + 0 = rowOf c
    rw [h]; omega
  · show 0 * 4096 + r.val = r.val
    omega
  · show 0 * 4096 + k.val = k.val
    omega

include hP in
theorem sum_at (c : Dev nD) (i : Fin 128) (k r : Fin 4096) (hr : r.val = posOf c * 512 + accRow c 3 * 128 + i.val) :
    (V m 3 c (ix2 i k) : EReal) = ∑ b : Fin 4, P (ix3 b r k) := by
  obtain ⟨hy1, hp1, h1, h2, h3⟩ := dn_ring c
  obtain ⟨hy2, hp2, -⟩ := dn_ring (dn c)
  obtain ⟨hy3, hp3, -⟩ := dn_ring (dn (dn c))
  have e (d : Dev nD) (s : Fin 4) (hp : posOf d = posOf c) (hs : accRow d s = accRow c 3) :
      (cut d s (X m d) (ix2 i k) : EReal) = P (ix3 ⟨rowOf d, rowOf_lt d⟩ r k) := by
    show X m d (ix2 ⟨accRow d s * 128 + i.val, _⟩ k) = _
    rw [X_at, part_at m P hP]
    refine congrArg (fun r => P (ix3 _ r k)) (Fin.ext ?_)
    rw [hr]
    show posOf d * 512 + (accRow d s * 128 + i.val) = _
    rw [hp, hs, Nat.add_assoc]
  rw [V3_at, e c 3 rfl rfl, e _ 2 hp1 h1, e _ 1 (hp2.trans hp1) h2, e _ 0 (hp3.trans (hp2.trans hp1)) h3]
  exact ring_sum (fun b => P (ix3 b r k)) _ _ _ _ hy1 hy2 hy3

include hP hR hg in
theorem O_at (c : Dev nD) (i : Fin 128) (k r : Fin 4096) (hr : r.val = posOf c * 512 + accRow c 3 * 128 + i.val) :
    (O m c (ix2 i k) : EReal) = res P R g r k := by
  have e (j : Fin 4096) : (V m 3 c (ix2 i j) : EReal) + Rr m c (ix2 i j) = row P R r j := by
    unfold row
    rw [sum_at m P hP c i j r hr, Rr_at, hR]
    refine congrArg (fun r => _ + R (ix2 r j)) (Fin.ext ?_)
    exact hr.symm
  unfold O
  rw [made_at, Gm_at, hg, ← res_eq]
  simp only [e]

include hP hR hg in
/-- The array the run leaves. -/
theorem OUT_at (r k : Fin 4096) : (OUT m (ix2 r k) : EReal) = res P R g r k := by
  refine O_at m P R g hP hR hg (maker ⟨r.val / 128, by omega⟩) ⟨r.val % 128, Nat.mod_lt _ (by decide)⟩ k r ?_
  rw [maker_ring]
  show r.val = r.val / 128 * 128 + r.val % 128
  omega

end Kernel

/-! ## The reference's side -/

section Reference
open Cert.ReferenceIdeal Cert.ReferenceIdeal.Gen

theorem ref_at (P : FVec Ideal S4x4096x4096 .f32) (R : FVec Ideal S4096x4096 .f32) (g : FVec Ideal S4096 .f32) (r k : Fin 4096) :
    (mulf (Host.divf (addf (Host.reduceAdd P (constant S_ .f32 0x00000000#32) reducesTo_S4x4096x4096_S4096x4096_d0 h_S_) R) (broadcastInDim S4096x4096 ![0, 1] bcast_S4096x1_S4096x4096_0_1 (Host.sqrt (addf (Host.divf (broadcastInDim S4096x1 ![0] bcast_S4096_S4096x1_0 (Host.reduceAdd (mulf (addf (Host.reduceAdd P (constant S_ .f32 0x00000000#32) reducesTo_S4x4096x4096_S4096x4096_d0 h_S_) R) (addf (Host.reduceAdd P (constant S_ .f32 0x00000000#32) reducesTo_S4x4096x4096_S4096x4096_d0 h_S_) R)) (constant S_ .f32 0x00000000#32) reducesTo_S4096x4096_S4096_d1 h_S_)) (broadcastInDim S4096x1 ![] bcast_S_S4096x1 (constant S_ .f32 0x45800000#32))) (broadcastInDim S4096x1 ![] bcast_S_S4096x1 (constant S_ .f32 0x358637BD#32)))))) (broadcastInDim S4096x4096 ![0, 1] bcast_S1x4096_S4096x4096_0_1 (broadcastInDim S1x4096 ![1] bcast_S4096_S1x4096_1 g)) : FVec Ideal S4096x4096 .f32) (ix2 r k)
      = res P R g r k := by
  unfold res row
  pointwise

end Reference

end Cert.Values

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.IdealRun.Launch
public import proofs.«01_k».proof.Proof.RealRun.Launch
public import proofs.«01_k».proof.Proof.Values
public import Idealize.ShloMosaic.Adequacy
public import Idealize.ShloMosaic.Init

@[expose] public section

noncomputable section

namespace Cert.Proof

open Idealize.ShloMosaic Idealize.ShloMosaic.TcCoe Idealize.SL.Sem

/-- Run with the program's own arithmetic, the kernel ends with its arguments unchanged and its counters at zero. -/
theorem kernel_ends : quiescent_Kernel (hKernel := Cert.Kernel.Gen.facts) := fun m g _ =>
  (θ_run _ _ _).mono (fun _ h => ⟨fun c => (h.1 c).2, h.2⟩) (Cert.RealRun.run_main m g)

/-- The same over the extended reals. -/
theorem ideal_ends : quiescent_KernelIdeal (hKernelIdeal := Cert.KernelIdeal.Gen.facts) := fun m g _ =>
  (θ_run _ _ _).mono (fun _ h => ⟨fun c => (h.1 c).2, h.2⟩) (Cert.IdealRun.run_main m g)

/-- The reference ends with its arguments unchanged and its counters at zero. -/
theorem reference_ends : quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Over the extended reals every device ends with the reference's result. -/
theorem same_result : algebraic_KernelIdeal_ReferenceIdeal (hKernelIdeal := Cert.KernelIdeal.Gen.facts) (hReferenceIdeal := Cert.ReferenceIdeal.Gen.facts) := by
  intro m g m' g' _ h
  have hrun := Cert.ReferenceIdeal.Value.run (F := Ideal) m' g'
  refine ⟨_, (θ_run _ _ _).mono (fun r hr c => ⟨(hr.1 c).1.trans ?_, (hr.1 c).2⟩) (Cert.IdealRun.run_main m g), (θ_run _ _ _).mono (fun r hr => hr 0) hrun⟩
  funext j
  rw [eq_ix2 j]
  exact (Cert.Values.OUT_at m _ _ _ (fun c => (h c).1) (fun c => (h c).2.1) (fun c => (h c).2.2) _ _).trans (Cert.Values.ref_at _ _ _ _ _).symm

theorem claim : Cert.Claim := ⟨Cert.Kernel.Gen.facts, Cert.KernelIdeal.Gen.facts, Cert.ReferenceIdeal.Gen.facts,
  kernel_ends, ideal_ends, reference_ends, trivial, same_result⟩

end Cert.Proof

end
